-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v236)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v236) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v584) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S4x1024 : Shape := ⟨2, ![4, 1024]⟩
abbrev S4x1024x4608 : Shape := ⟨3, ![4, 1024, 4608]⟩
abbrev S4x512x1024 : Shape := ⟨3, ![4, 512, 1024]⟩
abbrev S4x8x128x128 : Shape := ⟨4, ![4, 8, 128, 128]⟩
abbrev S4x8x128 : Shape := ⟨3, ![4, 8, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S512x1024 : Shape := ⟨2, ![512, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x4096 : Shape := ⟨2, ![2048, 4096]⟩
abbrev S1x1024 : Shape := ⟨2, ![1, 1024]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S65536x1024 : Shape := ⟨2, ![65536, 1024]⟩
abbrev S1x1024x4608 : Shape := ⟨3, ![1, 1024, 4608]⟩
abbrev S1024x4608 : Shape := ⟨2, ![1024, 4608]⟩
abbrev S1x8x128x128 : Shape := ⟨4, ![1, 8, 128, 128]⟩
abbrev S8x128x128 : Shape := ⟨3, ![8, 128, 128]⟩
abbrev S1x1024x1024 : Shape := ⟨3, ![1, 1024, 1024]⟩
abbrev S1024x1024 : Shape := ⟨2, ![1024, 1024]⟩
abbrev S1024x512 : Shape := ⟨2, ![1024, 512]⟩
abbrev S1x128x128 : Shape := ⟨3, ![1, 128, 128]⟩
abbrev S128x128 : Shape := ⟨2, ![128, 128]⟩
abbrev S1x512x1024 : Shape := ⟨3, ![1, 512, 1024]⟩
abbrev S512x4096 : Shape := ⟨2, ![512, 4096]⟩
abbrev S1x2048x1024 : Shape := ⟨3, ![1, 2048, 1024]⟩
abbrev S512x2048 : Shape := ⟨2, ![512, 2048]⟩
abbrev S1x2048x512 : Shape := ⟨3, ![1, 2048, 512]⟩
abbrev S2048x512 : Shape := ⟨2, ![2048, 512]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 389
  | .vmem => 152
  | .smem => 0
  | _ => 0

abbrev hbmTy0_0 (i : Nat) : BufTy := match i % 128 with
  | 0 => ⟨S32x2048x1024, .f32⟩
  | 1 => ⟨S4x1024, .f32⟩
  | 2 => ⟨S4x1024x4608, .f32⟩
  | 3 => ⟨S4x512x1024, .f32⟩
  | 4 => ⟨S4x1024, .f32⟩
  | 5 => ⟨S4x1024, .f32⟩
  | 6 => ⟨S4x8x128x128, .f32⟩
  | 7 => ⟨S4x8x128, .f32⟩
  | 8 => ⟨S4x1024x1024, .f32⟩
  | 9 => ⟨S4x1024x1024, .f32⟩
  | 10 => ⟨S4x1024, .f32⟩
  | 11 => ⟨S4x1024x4096, .f32⟩
  | 12 => ⟨S4x4096x1024, .f32⟩
  | 13 => ⟨S1024, .f32⟩
  | 14 => ⟨S512, .i32⟩
  | 15 => ⟨S512x1, .i32⟩
  | 16 => ⟨S_, .i32⟩
  | 17 => ⟨S_, .i32⟩
  | 18 => ⟨S512x1, .i32⟩
  | 19 => ⟨S512x1, .i32⟩
  | 20 => ⟨S512x1, .i32⟩
  | 21 => ⟨S_, .i32⟩
  | 22 => ⟨S512x1, .i32⟩
  | 23 => ⟨S512x1, .i1⟩
  | 24 => ⟨S512x1, .i32⟩
  | 25 => ⟨S512x1, .i32⟩
  | 26 => ⟨S_, .i32⟩
  | 27 => ⟨S512x1, .i32⟩
  | 28 => ⟨S512x1, .i1⟩
  | 29 => ⟨S512x1, .i1⟩
  | 30 => ⟨S_, .i32⟩
  | 31 => ⟨S512x1, .i32⟩
  | 32 => ⟨S512x1, .i32⟩
  | 33 => ⟨S512x1, .i32⟩
  | 34 => ⟨S1x512, .i32⟩
  | 35 => ⟨S_, .i32⟩
  | 36 => ⟨S_, .i32⟩
  | 37 => ⟨S1x512, .i32⟩
  | 38 => ⟨S1x512, .i32⟩
  | 39 => ⟨S1x512, .i32⟩
  | 40 => ⟨S_, .i32⟩
  | 41 => ⟨S1x512, .i32⟩
  | 42 => ⟨S1x512, .i1⟩
  | 43 => ⟨S1x512, .i32⟩
  | 44 => ⟨S1x512, .i32⟩
  | 45 => ⟨S_, .i32⟩
  | 46 => ⟨S1x512, .i32⟩
  | 47 => ⟨S1x512, .i1⟩
  | 48 => ⟨S1x512, .i1⟩
  | 49 => ⟨S_, .i32⟩
  | 50 => ⟨S1x512, .i32⟩
  | 51 => ⟨S1x512, .i32⟩
  | 52 => ⟨S1x512, .i32⟩
  | 53 => ⟨S512x512, .i32⟩
  | 54 => ⟨S512x512, .i32⟩
  | 55 => ⟨S512x512, .i1⟩
  | 56 => ⟨S512x1, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S512x1, .i32⟩
  | 64 => ⟨S512x1, .i32⟩
  | 65 => ⟨S_, .i32⟩
  | 66 => ⟨S512x1, .i32⟩
  | 67 => ⟨S512x1, .i1⟩
  | 68 => ⟨S_, .i32⟩
  | 69 => ⟨S512x1, .i32⟩
  | 70 => ⟨S512x1, .i1⟩
  | 71 => ⟨S_, .i32⟩
  | 72 => ⟨S_, .i1⟩
  | 73 => ⟨S512x1, .i1⟩
  | 74 => ⟨S512x1, .i1⟩
  | 75 => ⟨S512x1, .i1⟩
  | 76 => ⟨S512x1, .i32⟩
  | 77 => ⟨S512x1, .i32⟩
  | 78 => ⟨S512x1, .i32⟩
  | 79 => ⟨S1x512, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S1x512, .i32⟩
  | 87 => ⟨S1x512, .i32⟩
  | 88 => ⟨S_, .i32⟩
  | 89 => ⟨S1x512, .i32⟩
  | 90 => ⟨S1x512, .i1⟩
  | 91 => ⟨S_, .i32⟩
  | 92 => ⟨S1x512, .i32⟩
  | 93 => ⟨S1x512, .i1⟩
  | 94 => ⟨S_, .i32⟩
  | 95 => ⟨S_, .i1⟩
  | 96 => ⟨S1x512, .i1⟩
  | 97 => ⟨S1x512, .i1⟩
  | 98 => ⟨S1x512, .i1⟩
  | 99 => ⟨S1x512, .i32⟩
  | 100 => ⟨S1x512, .i32⟩
  | 101 => ⟨S1x512, .i32⟩
  | 102 => ⟨S512x512, .i32⟩
  | 103 => ⟨S512x512, .i32⟩
  | 104 => ⟨S512x512, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S512x512, .i32⟩
  | 112 => ⟨S512x512, .i32⟩
  | 113 => ⟨S_, .i32⟩
  | 114 => ⟨S512x512, .i32⟩
  | 115 => ⟨S512x512, .i1⟩
  | 116 => ⟨S_, .i32⟩
  | 117 => ⟨S512x512, .i32⟩
  | 118 => ⟨S512x512, .i1⟩
  | 119 => ⟨S_, .i32⟩
  | 120 => ⟨S_, .i1⟩
  | 121 => ⟨S512x512, .i1⟩
  | 122 => ⟨S512x512, .i1⟩
  | 123 => ⟨S512x512, .i1⟩
  | 124 => ⟨S512x512, .i32⟩
  | 125 => ⟨S512x512, .i32⟩
  | 126 => ⟨S512x512, .i32⟩
  | 127 => ⟨S512x512, .f32⟩
  | _ => ⟨S32x2048x1024, .f32⟩

abbrev hbmTy0_1 (i : Nat) : BufTy := match i % 128 with
  | 0 => ⟨S_, .f32⟩
  | 1 => ⟨S512x512, .f32⟩
  | 2 => ⟨S512x512, .f32⟩
  | 3 => ⟨S512x512, .f32⟩
  | 4 => ⟨S_, .f32⟩
  | 5 => ⟨S512x512, .f32⟩
  | 6 => ⟨S512x512, .f32⟩
  | 7 => ⟨S_, .f32⟩
  | 8 => ⟨S_, .f32⟩
  | 9 => ⟨S512x512, .f32⟩
  | 10 => ⟨S512x512, .f32⟩
  | 11 => ⟨S512x512, .f32⟩
  | 12 => ⟨S_, .f32⟩
  | 13 => ⟨S512x512, .f32⟩
  | 14 => ⟨S512x512, .f32⟩
  | 15 => ⟨S_, .f32⟩
  | 16 => ⟨S_, .f32⟩
  | 17 => ⟨S512x512, .f32⟩
  | 18 => ⟨S512x512, .f32⟩
  | 19 => ⟨S512x1024, .f32⟩
  | 20 => ⟨S512x1024, .bf16⟩
  | 21 => ⟨S2048, .i32⟩
  | 22 => ⟨S2048x1, .i32⟩
  | 23 => ⟨S1x2048, .i32⟩
  | 24 => ⟨S2048x2048, .i32⟩
  | 25 => ⟨S2048x2048, .i32⟩
  | 26 => ⟨S2048x2048, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S2048x2048, .i32⟩
  | 34 => ⟨S2048x2048, .i32⟩
  | 35 => ⟨S_, .i32⟩
  | 36 => ⟨S2048x2048, .i32⟩
  | 37 => ⟨S2048x2048, .i1⟩
  | 38 => ⟨S_, .i32⟩
  | 39 => ⟨S2048x2048, .i32⟩
  | 40 => ⟨S2048x2048, .i1⟩
  | 41 => ⟨S_, .i32⟩
  | 42 => ⟨S_, .i1⟩
  | 43 => ⟨S2048x2048, .i1⟩
  | 44 => ⟨S2048x2048, .i1⟩
  | 45 => ⟨S2048x2048, .i1⟩
  | 46 => ⟨S2048x2048, .i32⟩
  | 47 => ⟨S2048x2048, .i32⟩
  | 48 => ⟨S2048x2048, .i32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x4096, .f32⟩
  | 63 => ⟨S2048x4096, .bf16⟩
  | 64 => ⟨S1x1024, .f32⟩
  | 65 => ⟨S1x8x128, .f32⟩
  | 66 => ⟨S8x128, .f32⟩
  | 67 => ⟨S128x8, .f32⟩
  | 68 => ⟨S128x8x128, .f32⟩
  | 69 => ⟨S128x1024, .f32⟩
  | 70 => ⟨S65536x1024, .f32⟩
  | 71 => ⟨S1x1024, .f32⟩
  | 72 => ⟨S1024, .f32⟩
  | 73 => ⟨S1x1024, .f32⟩
  | 74 => ⟨S1x1024x4608, .f32⟩
  | 75 => ⟨S1024x4608, .f32⟩
  | 76 => ⟨S1024x4608, .bf16⟩
  | 77 => ⟨S1x1024, .f32⟩
  | 78 => ⟨S1024, .f32⟩
  | 79 => ⟨S1x1024, .f32⟩
  | 80 => ⟨S1x1024, .f32⟩
  | 81 => ⟨S1024, .f32⟩
  | 82 => ⟨S1x1024, .f32⟩
  | 83 => ⟨S1x8x128x128, .f32⟩
  | 84 => ⟨S8x128x128, .f32⟩
  | 85 => ⟨S8x128x128, .bf16⟩
  | 86 => ⟨S1x1024x1024, .f32⟩
  | 87 => ⟨S1024x1024, .f32⟩
  | 88 => ⟨S1024x1024, .bf16⟩
  | 89 => ⟨S65536x1024, .bf16⟩
  | 90 => ⟨S65536x1024, .bf16⟩
  | 91 => ⟨S65536x1024, .bf16⟩
  | 92 => ⟨S32x2048x1024, .bf16⟩
  | 93 => ⟨S32x2048x1024, .bf16⟩
  | 94 => ⟨S32x2048x1024, .bf16⟩
  | 95 => ⟨S1x512x1024, .f32⟩
  | 96 => ⟨S512x1024, .f32⟩
  | 97 => ⟨S512x1024, .bf16⟩
  | 98 => ⟨S1x1024x1024, .f32⟩
  | 99 => ⟨S1024x1024, .f32⟩
  | 100 => ⟨S1024x1024, .bf16⟩
  | 101 => ⟨S32x2048x1024, .f32⟩
  | 102 => ⟨S65536x1024, .f32⟩
  | 103 => ⟨S1x1024, .f32⟩
  | 104 => ⟨S1024, .f32⟩
  | 105 => ⟨S1x1024, .f32⟩
  | 106 => ⟨S1x1024x4096, .f32⟩
  | 107 => ⟨S1024x4096, .f32⟩
  | 108 => ⟨S1024x4096, .bf16⟩
  | 109 => ⟨S1x4096x1024, .f32⟩
  | 110 => ⟨S4096x1024, .f32⟩
  | 111 => ⟨S4096x1024, .bf16⟩
  | 112 => ⟨S65536x1024, .f32⟩
  | 113 => ⟨S32x2048x1024, .f32⟩
  | 114 => ⟨S1x8x128, .f32⟩
  | 115 => ⟨S8x128, .f32⟩
  | 116 => ⟨S128x8, .f32⟩
  | 117 => ⟨S128x8x128, .f32⟩
  | 118 => ⟨S128x1024, .f32⟩
  | 119 => ⟨S65536x1024, .f32⟩
  | 120 => ⟨S1x1024, .f32⟩
  | 121 => ⟨S1024, .f32⟩
  | 122 => ⟨S1x1024, .f32⟩
  | 123 => ⟨S1x1024x4608, .f32⟩
  | 124 => ⟨S1024x4608, .f32⟩
  | 125 => ⟨S1024x4608, .bf16⟩
  | 126 => ⟨S1x1024, .f32⟩
  | 127 => ⟨S1024, .f32⟩
  | _ => ⟨S32x2048x1024, .f32⟩

abbrev hbmTy0_2 (i : Nat) : BufTy := match i % 128 with
  | 0 => ⟨S1x1024, .f32⟩
  | 1 => ⟨S1x1024, .f32⟩
  | 2 => ⟨S1024, .f32⟩
  | 3 => ⟨S1x1024, .f32⟩
  | 4 => ⟨S1x8x128x128, .f32⟩
  | 5 => ⟨S8x128x128, .f32⟩
  | 6 => ⟨S8x128x128, .bf16⟩
  | 7 => ⟨S1x1024x1024, .f32⟩
  | 8 => ⟨S1024x1024, .f32⟩
  | 9 => ⟨S1024x1024, .bf16⟩
  | 10 => ⟨S65536x1024, .bf16⟩
  | 11 => ⟨S65536x1024, .bf16⟩
  | 12 => ⟨S65536x1024, .bf16⟩
  | 13 => ⟨S32x2048x1024, .bf16⟩
  | 14 => ⟨S32x2048x1024, .bf16⟩
  | 15 => ⟨S32x2048x1024, .bf16⟩
  | 16 => ⟨S1x512x1024, .f32⟩
  | 17 => ⟨S512x1024, .f32⟩
  | 18 => ⟨S512x1024, .bf16⟩
  | 19 => ⟨S1x1024x1024, .f32⟩
  | 20 => ⟨S1024x1024, .f32⟩
  | 21 => ⟨S1024x1024, .bf16⟩
  | 22 => ⟨S32x2048x1024, .f32⟩
  | 23 => ⟨S65536x1024, .f32⟩
  | 24 => ⟨S1x1024, .f32⟩
  | 25 => ⟨S1024, .f32⟩
  | 26 => ⟨S1x1024, .f32⟩
  | 27 => ⟨S1x1024x4096, .f32⟩
  | 28 => ⟨S1024x4096, .f32⟩
  | 29 => ⟨S1024x4096, .bf16⟩
  | 30 => ⟨S1x4096x1024, .f32⟩
  | 31 => ⟨S4096x1024, .f32⟩
  | 32 => ⟨S4096x1024, .bf16⟩
  | 33 => ⟨S65536x1024, .f32⟩
  | 34 => ⟨S32x2048x1024, .f32⟩
  | 35 => ⟨S1x8x128, .f32⟩
  | 36 => ⟨S8x128, .f32⟩
  | 37 => ⟨S128x8, .f32⟩
  | 38 => ⟨S128x8x128, .f32⟩
  | 39 => ⟨S128x1024, .f32⟩
  | 40 => ⟨S65536x1024, .f32⟩
  | 41 => ⟨S1x1024, .f32⟩
  | 42 => ⟨S1024, .f32⟩
  | 43 => ⟨S1x1024, .f32⟩
  | 44 => ⟨S1x1024x4608, .f32⟩
  | 45 => ⟨S1024x4608, .f32⟩
  | 46 => ⟨S1024x4608, .bf16⟩
  | 47 => ⟨S1x1024, .f32⟩
  | 48 => ⟨S1024, .f32⟩
  | 49 => ⟨S1x1024, .f32⟩
  | 50 => ⟨S1x1024, .f32⟩
  | 51 => ⟨S1024, .f32⟩
  | 52 => ⟨S1x1024, .f32⟩
  | 53 => ⟨S1x8x128x128, .f32⟩
  | 54 => ⟨S8x128x128, .f32⟩
  | 55 => ⟨S8x128x128, .bf16⟩
  | 56 => ⟨S1x1024x1024, .f32⟩
  | 57 => ⟨S1024x1024, .f32⟩
  | 58 => ⟨S1024x1024, .bf16⟩
  | 59 => ⟨S65536x1024, .bf16⟩
  | 60 => ⟨S65536x1024, .bf16⟩
  | 61 => ⟨S65536x1024, .bf16⟩
  | 62 => ⟨S32x2048x1024, .bf16⟩
  | 63 => ⟨S32x2048x1024, .bf16⟩
  | 64 => ⟨S32x2048x1024, .bf16⟩
  | 65 => ⟨S1x512x1024, .f32⟩
  | 66 => ⟨S512x1024, .f32⟩
  | 67 => ⟨S512x1024, .bf16⟩
  | 68 => ⟨S1x1024x1024, .f32⟩
  | 69 => ⟨S1024x1024, .f32⟩
  | 70 => ⟨S1024x1024, .bf16⟩
  | 71 => ⟨S32x2048x1024, .f32⟩
  | 72 => ⟨S65536x1024, .f32⟩
  | 73 => ⟨S1x1024, .f32⟩
  | 74 => ⟨S1024, .f32⟩
  | 75 => ⟨S1x1024, .f32⟩
  | 76 => ⟨S1x1024x4096, .f32⟩
  | 77 => ⟨S1024x4096, .f32⟩
  | 78 => ⟨S1024x4096, .bf16⟩
  | 79 => ⟨S1x4096x1024, .f32⟩
  | 80 => ⟨S4096x1024, .f32⟩
  | 81 => ⟨S4096x1024, .bf16⟩
  | 82 => ⟨S65536x1024, .f32⟩
  | 83 => ⟨S32x2048x1024, .f32⟩
  | 84 => ⟨S1x8x128, .f32⟩
  | 85 => ⟨S8x128, .f32⟩
  | 86 => ⟨S128x8, .f32⟩
  | 87 => ⟨S128x8x128, .f32⟩
  | 88 => ⟨S128x1024, .f32⟩
  | 89 => ⟨S65536x1024, .f32⟩
  | 90 => ⟨S1x1024, .f32⟩
  | 91 => ⟨S1024, .f32⟩
  | 92 => ⟨S1x1024, .f32⟩
  | 93 => ⟨S1x1024x4608, .f32⟩
  | 94 => ⟨S1024x4608, .f32⟩
  | 95 => ⟨S1024x4608, .bf16⟩
  | 96 => ⟨S1x1024, .f32⟩
  | 97 => ⟨S1024, .f32⟩
  | 98 => ⟨S1x1024, .f32⟩
  | 99 => ⟨S1x1024, .f32⟩
  | 100 => ⟨S1024, .f32⟩
  | 101 => ⟨S1x1024, .f32⟩
  | 102 => ⟨S1x8x128x128, .f32⟩
  | 103 => ⟨S8x128x128, .f32⟩
  | 104 => ⟨S8x128x128, .bf16⟩
  | 105 => ⟨S1x1024x1024, .f32⟩
  | 106 => ⟨S1024x1024, .f32⟩
  | 107 => ⟨S1024x1024, .bf16⟩
  | 108 => ⟨S65536x1024, .bf16⟩
  | 109 => ⟨S65536x1024, .bf16⟩
  | 110 => ⟨S65536x1024, .bf16⟩
  | 111 => ⟨S32x2048x1024, .bf16⟩
  | 112 => ⟨S32x2048x1024, .bf16⟩
  | 113 => ⟨S32x2048x1024, .bf16⟩
  | 114 => ⟨S1x512x1024, .f32⟩
  | 115 => ⟨S512x1024, .f32⟩
  | 116 => ⟨S512x1024, .bf16⟩
  | 117 => ⟨S1x1024x1024, .f32⟩
  | 118 => ⟨S1024x1024, .f32⟩
  | 119 => ⟨S1024x1024, .bf16⟩
  | 120 => ⟨S32x2048x1024, .f32⟩
  | 121 => ⟨S65536x1024, .f32⟩
  | 122 => ⟨S1x1024, .f32⟩
  | 123 => ⟨S1024, .f32⟩
  | 124 => ⟨S1x1024, .f32⟩
  | 125 => ⟨S1x1024x4096, .f32⟩
  | 126 => ⟨S1024x4096, .f32⟩
  | 127 => ⟨S1024x4096, .bf16⟩
  | _ => ⟨S32x2048x1024, .f32⟩

abbrev hbmTy0_3 (i : Nat) : BufTy := match i % 128 with
  | 0 => ⟨S1x4096x1024, .f32⟩
  | 1 => ⟨S4096x1024, .f32⟩
  | 2 => ⟨S4096x1024, .bf16⟩
  | 3 => ⟨S65536x1024, .f32⟩
  | 4 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev vmemTy0_0 (i : Nat) : BufTy := match i % 128 with
  | 0 => ⟨S512x1024, .f32⟩
  | 1 => ⟨S512x1024, .f32⟩
  | 2 => ⟨S1x1024, .f32⟩
  | 3 => ⟨S1024x4608, .bf16⟩
  | 4 => ⟨S512x1024, .bf16⟩
  | 5 => ⟨S1x1024, .f32⟩
  | 6 => ⟨S1x1024, .f32⟩
  | 7 => ⟨S8x128x128, .bf16⟩
  | 8 => ⟨S128x1024, .f32⟩
  | 9 => ⟨S1024x1024, .bf16⟩
  | 10 => ⟨S512x1024, .bf16⟩
  | 11 => ⟨S512x1024, .bf16⟩
  | 12 => ⟨S512x1024, .bf16⟩
  | 13 => ⟨S512x1024, .bf16⟩
  | 14 => ⟨S512x1024, .bf16⟩
  | 15 => ⟨S512x1024, .bf16⟩
  | 16 => ⟨S512x4096, .bf16⟩
  | 17 => ⟨S512x4096, .bf16⟩
  | 18 => ⟨S1x2048x1024, .bf16⟩
  | 19 => ⟨S1x2048x1024, .bf16⟩
  | 20 => ⟨S1x512x1024, .f32⟩
  | 21 => ⟨S1x512x1024, .f32⟩
  | 22 => ⟨S1x512x1024, .bf16⟩
  | 23 => ⟨S1x512x1024, .bf16⟩
  | 24 => ⟨S1x512x1024, .bf16⟩
  | 25 => ⟨S1x512x1024, .bf16⟩
  | 26 => ⟨S512x1024, .bf16⟩
  | 27 => ⟨S1024x1024, .bf16⟩
  | 28 => ⟨S1x512x1024, .f32⟩
  | 29 => ⟨S1x512x1024, .f32⟩
  | 30 => ⟨S512x1024, .f32⟩
  | 31 => ⟨S512x1024, .f32⟩
  | 32 => ⟨S1x1024, .f32⟩
  | 33 => ⟨S1024x4096, .bf16⟩
  | 34 => ⟨S4096x1024, .bf16⟩
  | 35 => ⟨S1x1024, .f32⟩
  | 36 => ⟨S512x1024, .f32⟩
  | 37 => ⟨S512x1024, .f32⟩
  | 38 => ⟨S512x1024, .f32⟩
  | 39 => ⟨S512x1024, .f32⟩
  | 40 => ⟨S1x1024, .f32⟩
  | 41 => ⟨S1024x4608, .bf16⟩
  | 42 => ⟨S512x1024, .bf16⟩
  | 43 => ⟨S1x1024, .f32⟩
  | 44 => ⟨S1x1024, .f32⟩
  | 45 => ⟨S8x128x128, .bf16⟩
  | 46 => ⟨S128x1024, .f32⟩
  | 47 => ⟨S1024x1024, .bf16⟩
  | 48 => ⟨S512x1024, .bf16⟩
  | 49 => ⟨S512x1024, .bf16⟩
  | 50 => ⟨S512x1024, .bf16⟩
  | 51 => ⟨S512x1024, .bf16⟩
  | 52 => ⟨S512x1024, .bf16⟩
  | 53 => ⟨S512x1024, .bf16⟩
  | 54 => ⟨S512x4096, .bf16⟩
  | 55 => ⟨S512x4096, .bf16⟩
  | 56 => ⟨S1x2048x1024, .bf16⟩
  | 57 => ⟨S1x2048x1024, .bf16⟩
  | 58 => ⟨S1x512x1024, .f32⟩
  | 59 => ⟨S1x512x1024, .f32⟩
  | 60 => ⟨S1x512x1024, .bf16⟩
  | 61 => ⟨S1x512x1024, .bf16⟩
  | 62 => ⟨S1x512x1024, .bf16⟩
  | 63 => ⟨S1x512x1024, .bf16⟩
  | 64 => ⟨S512x1024, .bf16⟩
  | 65 => ⟨S1024x1024, .bf16⟩
  | 66 => ⟨S1x512x1024, .f32⟩
  | 67 => ⟨S1x512x1024, .f32⟩
  | 68 => ⟨S512x1024, .f32⟩
  | 69 => ⟨S512x1024, .f32⟩
  | 70 => ⟨S1x1024, .f32⟩
  | 71 => ⟨S1024x4096, .bf16⟩
  | 72 => ⟨S4096x1024, .bf16⟩
  | 73 => ⟨S1x1024, .f32⟩
  | 74 => ⟨S512x1024, .f32⟩
  | 75 => ⟨S512x1024, .f32⟩
  | 76 => ⟨S512x1024, .f32⟩
  | 77 => ⟨S512x1024, .f32⟩
  | 78 => ⟨S1x1024, .f32⟩
  | 79 => ⟨S1024x4608, .bf16⟩
  | 80 => ⟨S512x1024, .bf16⟩
  | 81 => ⟨S1x1024, .f32⟩
  | 82 => ⟨S1x1024, .f32⟩
  | 83 => ⟨S8x128x128, .bf16⟩
  | 84 => ⟨S128x1024, .f32⟩
  | 85 => ⟨S1024x1024, .bf16⟩
  | 86 => ⟨S512x1024, .bf16⟩
  | 87 => ⟨S512x1024, .bf16⟩
  | 88 => ⟨S512x1024, .bf16⟩
  | 89 => ⟨S512x1024, .bf16⟩
  | 90 => ⟨S512x1024, .bf16⟩
  | 91 => ⟨S512x1024, .bf16⟩
  | 92 => ⟨S512x4096, .bf16⟩
  | 93 => ⟨S512x4096, .bf16⟩
  | 94 => ⟨S1x2048x1024, .bf16⟩
  | 95 => ⟨S1x2048x1024, .bf16⟩
  | 96 => ⟨S1x512x1024, .f32⟩
  | 97 => ⟨S1x512x1024, .f32⟩
  | 98 => ⟨S1x512x1024, .bf16⟩
  | 99 => ⟨S1x512x1024, .bf16⟩
  | 100 => ⟨S1x512x1024, .bf16⟩
  | 101 => ⟨S1x512x1024, .bf16⟩
  | 102 => ⟨S512x1024, .bf16⟩
  | 103 => ⟨S1024x1024, .bf16⟩
  | 104 => ⟨S1x512x1024, .f32⟩
  | 105 => ⟨S1x512x1024, .f32⟩
  | 106 => ⟨S512x1024, .f32⟩
  | 107 => ⟨S512x1024, .f32⟩
  | 108 => ⟨S1x1024, .f32⟩
  | 109 => ⟨S1024x4096, .bf16⟩
  | 110 => ⟨S4096x1024, .bf16⟩
  | 111 => ⟨S1x1024, .f32⟩
  | 112 => ⟨S512x1024, .f32⟩
  | 113 => ⟨S512x1024, .f32⟩
  | 114 => ⟨S512x1024, .f32⟩
  | 115 => ⟨S512x1024, .f32⟩
  | 116 => ⟨S1x1024, .f32⟩
  | 117 => ⟨S1024x4608, .bf16⟩
  | 118 => ⟨S512x1024, .bf16⟩
  | 119 => ⟨S1x1024, .f32⟩
  | 120 => ⟨S1x1024, .f32⟩
  | 121 => ⟨S8x128x128, .bf16⟩
  | 122 => ⟨S128x1024, .f32⟩
  | 123 => ⟨S1024x1024, .bf16⟩
  | 124 => ⟨S512x1024, .bf16⟩
  | 125 => ⟨S512x1024, .bf16⟩
  | 126 => ⟨S512x1024, .bf16⟩
  | 127 => ⟨S512x1024, .bf16⟩
  | _ => ⟨S32x2048x1024, .f32⟩

abbrev vmemTy0_1 (i : Nat) : BufTy := match i % 128 with
  | 0 => ⟨S512x1024, .bf16⟩
  | 1 => ⟨S512x1024, .bf16⟩
  | 2 => ⟨S512x4096, .bf16⟩
  | 3 => ⟨S512x4096, .bf16⟩
  | 4 => ⟨S1x2048x1024, .bf16⟩
  | 5 => ⟨S1x2048x1024, .bf16⟩
  | 6 => ⟨S1x512x1024, .f32⟩
  | 7 => ⟨S1x512x1024, .f32⟩
  | 8 => ⟨S1x512x1024, .bf16⟩
  | 9 => ⟨S1x512x1024, .bf16⟩
  | 10 => ⟨S1x512x1024, .bf16⟩
  | 11 => ⟨S1x512x1024, .bf16⟩
  | 12 => ⟨S512x1024, .bf16⟩
  | 13 => ⟨S1024x1024, .bf16⟩
  | 14 => ⟨S1x512x1024, .f32⟩
  | 15 => ⟨S1x512x1024, .f32⟩
  | 16 => ⟨S512x1024, .f32⟩
  | 17 => ⟨S512x1024, .f32⟩
  | 18 => ⟨S1x1024, .f32⟩
  | 19 => ⟨S1024x4096, .bf16⟩
  | 20 => ⟨S4096x1024, .bf16⟩
  | 21 => ⟨S1x1024, .f32⟩
  | 22 => ⟨S512x1024, .f32⟩
  | 23 => ⟨S512x1024, .f32⟩
  | _ => ⟨S32x2048x1024, .f32⟩

abbrev vmemTy (i : Nat) : BufTy := match i / 128 with
  | 0 => vmemTy0_0 i
  | 1 => vmemTy0_1 i
  | _ => ⟨S32x2048x1024, .f32⟩

abbrev bufTy : (tb : Table) → Fin (tcTables nBuf tb) → BufTy
  | .hbm, ⟨i, _⟩ => hbmTy i
  | .local _ .vmem, ⟨i, _⟩ => vmemTy i
  | _, _ => ⟨S32x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 152 → Bool
  | ⟨i, _⟩ => dmaSemScopedAt i

abbrev sig : RefSig :=
  ofTc nBuf bufTy 0 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v9 : Ref sig .tc := ⟨.hbm, 78, rfl⟩
abbrev main_v10 : Ref sig .tc := ⟨.hbm, 79, rfl⟩
abbrev main_c_2 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_v5 : Ref sig .tc := ⟨.hbm, 89, rfl⟩
abbrev main_call3_v6 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_c_3 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_c_3 : Ref sig .tc := ⟨.hbm, 105, rfl⟩
abbrev main_call4_v0 : Ref sig .tc := ⟨.hbm, 106, rfl⟩
abbrev main_call4_c : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_1 : Ref sig .tc := ⟨.hbm, 113, rfl⟩
abbrev main_call4_v5 : Ref sig .tc := ⟨.hbm, 114, rfl⟩
abbrev main_call4_v6 : Ref sig .tc := ⟨.hbm, 115, rfl⟩
abbrev main_call4_c_2 : Ref sig .tc := ⟨.hbm, 116, rfl⟩
abbrev main_call4_v7 : Ref sig .tc := ⟨.hbm, 117, rfl⟩
abbrev main_call4_v8 : Ref sig .tc := ⟨.hbm, 118, rfl⟩
abbrev main_call4_c_3 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_v15 : Ref sig .tc := ⟨.hbm, 126, rfl⟩
abbrev main_v16 : Ref sig .tc := ⟨.hbm, 127, rfl⟩
abbrev main_cst : Ref sig .tc := ⟨.hbm, 128, rfl⟩
abbrev main_v17 : Ref sig .tc := ⟨.hbm, 129, rfl⟩
abbrev main_v18 : Ref sig .tc := ⟨.hbm, 130, rfl⟩
abbrev main_v19 : Ref sig .tc := ⟨.hbm, 131, rfl⟩
abbrev main_cst_4 : Ref sig .tc := ⟨.hbm, 132, rfl⟩
abbrev main_v20 : Ref sig .tc := ⟨.hbm, 133, rfl⟩
abbrev main_v21 : Ref sig .tc := ⟨.hbm, 134, rfl⟩
abbrev main_cst_5 : Ref sig .tc := ⟨.hbm, 135, rfl⟩
abbrev main_call5_v0 : Ref sig .tc := ⟨.hbm, 136, rfl⟩
abbrev main_call5_v1 : Ref sig .tc := ⟨.hbm, 137, rfl⟩
abbrev main_v22 : Ref sig .tc := ⟨.hbm, 138, rfl⟩
abbrev main_v23 : Ref sig .tc := ⟨.hbm, 139, rfl⟩
abbrev main_cst_6 : Ref sig .tc := ⟨.hbm, 140, rfl⟩
abbrev main_v24 : Ref sig .tc := ⟨.hbm, 141, rfl⟩
abbrev main_v25 : Ref sig .tc := ⟨.hbm, 142, rfl⟩
abbrev main_cst_7 : Ref sig .tc := ⟨.hbm, 143, rfl⟩
abbrev main_call6_v0 : Ref sig .tc := ⟨.hbm, 144, rfl⟩
abbrev main_call6_v1 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_v34 : Ref sig .tc := ⟨.hbm, 154, rfl⟩
abbrev main_c_8 : Ref sig .tc := ⟨.hbm, 155, rfl⟩
abbrev main_call7_v0 : Ref sig .tc := ⟨.hbm, 156, rfl⟩
abbrev main_call7_c : Ref sig .tc := ⟨.hbm, 157, rfl⟩
abbrev main_call7_v1 : Ref sig .tc := ⟨.hbm, 158, rfl⟩
abbrev main_call7_c_0 : Ref sig .tc := ⟨.hbm, 159, rfl⟩
abbrev main_call7_v2 : Ref sig .tc := ⟨.hbm, 160, rfl⟩
abbrev main_call7_v3 : Ref sig .tc := ⟨.hbm, 161, rfl⟩
abbrev main_call7_v4 : Ref sig .tc := ⟨.hbm, 162, rfl⟩
abbrev main_call7_c_1 : Ref sig .tc := ⟨.hbm, 163, rfl⟩
abbrev main_call7_v5 : Ref sig .tc := ⟨.hbm, 164, rfl⟩
abbrev main_call7_v6 : Ref sig .tc := ⟨.hbm, 165, rfl⟩
abbrev main_call7_c_2 : Ref sig .tc := ⟨.hbm, 166, rfl⟩
abbrev main_call7_v7 : Ref sig .tc := ⟨.hbm, 167, rfl⟩
abbrev main_call7_v8 : Ref sig .tc := ⟨.hbm, 168, rfl⟩
abbrev main_call7_c_3 : Ref sig .tc := ⟨.hbm, 169, rfl⟩
abbrev main_call7_v9 : Ref sig .tc := ⟨.hbm, 170, rfl⟩
abbrev main_call7_v10 : Ref sig .tc := ⟨.hbm, 171, rfl⟩
abbrev main_call7_v11 : Ref sig .tc := ⟨.hbm, 172, rfl⟩
abbrev main_call7_v12 : Ref sig .tc := ⟨.hbm, 173, rfl⟩
abbrev main_call7_v13 : Ref sig .tc := ⟨.hbm, 174, rfl⟩
abbrev main_call7_v14 : Ref sig .tc := ⟨.hbm, 175, rfl⟩
abbrev main_v35 : Ref sig .tc := ⟨.hbm, 176, rfl⟩
abbrev main_v36 : Ref sig .tc := ⟨.hbm, 177, rfl⟩
abbrev main_cst_9 : Ref sig .tc := ⟨.hbm, 178, rfl⟩
abbrev main_v37 : Ref sig .tc := ⟨.hbm, 179, rfl⟩
abbrev main_v38 : Ref sig .tc := ⟨.hbm, 180, rfl⟩
abbrev main_v39 : Ref sig .tc := ⟨.hbm, 181, rfl⟩
abbrev main_cst_10 : Ref sig .tc := ⟨.hbm, 182, rfl⟩
abbrev main_v40 : Ref sig .tc := ⟨.hbm, 183, rfl⟩
abbrev main_v41 : Ref sig .tc := ⟨.hbm, 184, rfl⟩
abbrev main_v42 : Ref sig .tc := ⟨.hbm, 185, rfl⟩
abbrev main_v43 : Ref sig .tc := ⟨.hbm, 186, rfl⟩
abbrev main_cst_11 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_v47 : Ref sig .tc := ⟨.hbm, 191, rfl⟩
abbrev main_v48 : Ref sig .tc := ⟨.hbm, 192, rfl⟩
abbrev main_v49 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_v71 : Ref sig .tc := ⟨.hbm, 215, rfl⟩
abbrev main_v72 : Ref sig .tc := ⟨.hbm, 216, rfl⟩
abbrev main_v73_0 : Ref sig .tc := ⟨.hbm, 217, rfl⟩
abbrev main_v73_1 : Ref sig .tc := ⟨.hbm, 218, rfl⟩
abbrev main_v73_2 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_v81 : Ref sig .tc := ⟨.hbm, 227, rfl⟩
abbrev main_v82 : Ref sig .tc := ⟨.hbm, 228, rfl⟩
abbrev main_v83 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_v104 : Ref sig .tc := ⟨.hbm, 250, rfl⟩
abbrev main_v105 : Ref sig .tc := ⟨.hbm, 251, rfl⟩
abbrev main_v106 : Ref sig .tc := ⟨.hbm, 252, rfl⟩
abbrev main_v107 : Ref sig .tc := ⟨.hbm, 253, rfl⟩
abbrev main_v108 : Ref sig .tc := ⟨.hbm, 254, rfl⟩
abbrev main_v109 : Ref sig .tc := ⟨.hbm, 255, rfl⟩
abbrev main_v110 : Ref sig .tc := ⟨.hbm, 256, rfl⟩
abbrev main_v111 : Ref sig .tc := ⟨.hbm, 257, rfl⟩
abbrev main_v112 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_v120_0 : Ref sig .tc := ⟨.hbm, 266, rfl⟩
abbrev main_v120_1 : Ref sig .tc := ⟨.hbm, 267, rfl⟩
abbrev main_v120_2 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_v166 : Ref sig .tc := ⟨.hbm, 314, rfl⟩
abbrev main_v167_0 : Ref sig .tc := ⟨.hbm, 315, rfl⟩
abbrev main_v167_1 : Ref sig .tc := ⟨.hbm, 316, rfl⟩
abbrev main_v167_2 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_v191 : Ref sig .tc := ⟨.hbm, 341, rfl⟩
abbrev main_v192 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_v200 : Ref sig .tc := ⟨.hbm, 350, rfl⟩
abbrev main_v201 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_v214_0 : Ref sig .tc := ⟨.hbm, 364, rfl⟩
abbrev main_v214_1 : Ref sig .tc := ⟨.hbm, 365, rfl⟩
abbrev main_v214_2 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc3_stg11_0 : Ref sig .tc := ⟨.vmem, 52, rfl⟩
abbrev cc3_stg11_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg4_1 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg7_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg2_0 : Ref sig .tc := ⟨.vmem, 71, rfl⟩
abbrev cc5_stg3_0 : Ref sig .tc := ⟨.vmem, 72, rfl⟩
abbrev cc5_stg4_0 : Ref sig .tc := ⟨.vmem, 73, rfl⟩
abbrev cc5_stg5_0 : Ref sig .tc := ⟨.vmem, 74, rfl⟩
abbrev cc5_stg5_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg5_0 : Ref sig .tc := ⟨.vmem, 82, rfl⟩
abbrev cc6_stg6_0 : Ref sig .tc := ⟨.vmem, 83, rfl⟩
abbrev cc6_stg7_0 : Ref sig .tc := ⟨.vmem, 84, rfl⟩
abbrev cc6_stg8_0 : Ref sig .tc := ⟨.vmem, 85, rfl⟩
abbrev cc6_stg9_0 : Ref sig .tc := ⟨.vmem, 86, rfl⟩
abbrev cc6_stg9_1 : Ref sig .tc := ⟨.vmem, 87, rfl⟩
abbrev cc6_stg10_0 : Ref sig .tc := ⟨.vmem, 88, rfl⟩
abbrev cc6_stg10_1 : Ref sig .tc := ⟨.vmem, 89, rfl⟩
abbrev cc6_stg11_0 : Ref sig .tc := ⟨.vmem, 90, rfl⟩
abbrev cc6_stg11_1 : Ref sig .tc := ⟨.vmem, 91, rfl⟩
abbrev cc7_stg0_0 : Ref sig .tc := ⟨.vmem, 92, rfl⟩
abbrev cc7_stg0_1 : Ref sig .tc := ⟨.vmem, 93, rfl⟩
abbrev cc7_stg1_0 : Ref sig .tc := ⟨.vmem, 94, rfl⟩
abbrev cc7_stg1_1 : Ref sig .tc := ⟨.vmem, 95, rfl⟩
abbrev cc7_stg2_0 : Ref sig .tc := ⟨.vmem, 96, rfl⟩
abbrev cc7_stg2_1 : Ref sig .tc := ⟨.vmem, 97, rfl⟩
abbrev cc7_stg3_0 : Ref sig .tc := ⟨.vmem, 98, rfl⟩
abbrev cc7_stg3_1 : Ref sig .tc := ⟨.vmem, 99, rfl⟩
abbrev cc7_stg4_0 : Ref sig .tc := ⟨.vmem, 100, rfl⟩
abbrev cc7_stg4_1 : Ref sig .tc := ⟨.vmem, 101, rfl⟩
abbrev cc7_stg5_0 : Ref sig .tc := ⟨.vmem, 102, rfl⟩
abbrev cc7_stg6_0 : Ref sig .tc := ⟨.vmem, 103, rfl⟩
abbrev cc7_stg7_0 : Ref sig .tc := ⟨.vmem, 104, rfl⟩
abbrev cc7_stg7_1 : Ref sig .tc := ⟨.vmem, 105, rfl⟩
abbrev cc8_stg0_0 : Ref sig .tc := ⟨.vmem, 106, rfl⟩
abbrev cc8_stg0_1 : Ref sig .tc := ⟨.vmem, 107, rfl⟩
abbrev cc8_stg1_0 : Ref sig .tc := ⟨.vmem, 108, rfl⟩
abbrev cc8_stg2_0 : Ref sig .tc := ⟨.vmem, 109, rfl⟩
abbrev cc8_stg3_0 : Ref sig .tc := ⟨.vmem, 110, rfl⟩
abbrev cc8_stg4_0 : Ref sig .tc := ⟨.vmem, 111, rfl⟩
abbrev cc8_stg5_0 : Ref sig .tc := ⟨.vmem, 112, rfl⟩
abbrev cc8_stg5_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg2_0 : Ref sig .tc := ⟨.vmem, 117, rfl⟩
abbrev cc9_stg3_0 : Ref sig .tc := ⟨.vmem, 118, rfl⟩
abbrev cc9_stg4_0 : Ref sig .tc := ⟨.vmem, 119, rfl⟩
abbrev cc9_stg5_0 : Ref sig .tc := ⟨.vmem, 120, rfl⟩
abbrev cc9_stg6_0 : Ref sig .tc := ⟨.vmem, 121, rfl⟩
abbrev cc9_stg7_0 : Ref sig .tc := ⟨.vmem, 122, rfl⟩
abbrev cc9_stg8_0 : Ref sig .tc := ⟨.vmem, 123, rfl⟩
abbrev cc9_stg9_0 : Ref sig .tc := ⟨.vmem, 124, rfl⟩
abbrev cc9_stg9_1 : Ref sig .tc := ⟨.vmem, 125, rfl⟩
abbrev cc9_stg10_0 : Ref sig .tc := ⟨.vmem, 126, rfl⟩
abbrev cc9_stg10_1 : Ref sig .tc := ⟨.vmem, 127, rfl⟩
abbrev cc9_stg11_0 : Ref sig .tc := ⟨.vmem, 128, rfl⟩
abbrev cc9_stg11_1 : Ref sig .tc := ⟨.vmem, 129, rfl⟩
abbrev cc10_stg0_0 : Ref sig .tc := ⟨.vmem, 130, rfl⟩
abbrev cc10_stg0_1 : Ref sig .tc := ⟨.vmem, 131, rfl⟩
abbrev cc10_stg1_0 : Ref sig .tc := ⟨.vmem, 132, rfl⟩
abbrev cc10_stg1_1 : Ref sig .tc := ⟨.vmem, 133, rfl⟩
abbrev cc10_stg2_0 : Ref sig .tc := ⟨.vmem, 134, rfl⟩
abbrev cc10_stg2_1 : Ref sig .tc := ⟨.vmem, 135, rfl⟩
abbrev cc10_stg3_0 : Ref sig .tc := ⟨.vmem, 136, rfl⟩
abbrev cc10_stg3_1 : Ref sig .tc := ⟨.vmem, 137, rfl⟩
abbrev cc10_stg4_0 : Ref sig .tc := ⟨.vmem, 138, rfl⟩
abbrev cc10_stg4_1 : Ref sig .tc := ⟨.vmem, 139, rfl⟩
abbrev cc10_stg5_0 : Ref sig .tc := ⟨.vmem, 140, rfl⟩
abbrev cc10_stg6_0 : Ref sig .tc := ⟨.vmem, 141, rfl⟩
abbrev cc10_stg7_0 : Ref sig .tc := ⟨.vmem, 142, rfl⟩
abbrev cc10_stg7_1 : Ref sig .tc := ⟨.vmem, 143, rfl⟩
abbrev cc11_stg0_0 : Ref sig .tc := ⟨.vmem, 144, rfl⟩
abbrev cc11_stg0_1 : Ref sig .tc := ⟨.vmem, 145, rfl⟩
abbrev cc11_stg1_0 : Ref sig .tc := ⟨.vmem, 146, rfl⟩
abbrev cc11_stg2_0 : Ref sig .tc := ⟨.vmem, 147, rfl⟩
abbrev cc11_stg3_0 : Ref sig .tc := ⟨.vmem, 148, rfl⟩
abbrev cc11_stg4_0 : Ref sig .tc := ⟨.vmem, 149, rfl⟩
abbrev cc11_stg5_0 : Ref sig .tc := ⟨.vmem, 150, rfl⟩
abbrev cc11_stg5_1 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem9_1 : DmaSem sig := 49
abbrev cc3_sem10_0 : DmaSem sig := 50
abbrev cc3_sem10_1 : DmaSem sig := 51
abbrev cc3_sem11_0 : DmaSem sig := 52
abbrev cc3_sem11_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem2_1 : DmaSem sig := 59
abbrev cc4_sem3_0 : DmaSem sig := 60
abbrev cc4_sem3_1 : DmaSem sig := 61
abbrev cc4_sem4_0 : DmaSem sig := 62
abbrev cc4_sem4_1 : DmaSem sig := 63
abbrev cc4_sem5_0 : DmaSem sig := 64
abbrev cc4_sem6_0 : DmaSem sig := 65
abbrev cc4_sem7_0 : DmaSem sig := 66
abbrev cc4_sem7_1 : DmaSem sig := 67
abbrev cc5_sem0_0 : DmaSem sig := 68
abbrev cc5_sem0_1 : DmaSem sig := 69
abbrev cc5_sem1_0 : DmaSem sig := 70
abbrev cc5_sem2_0 : DmaSem sig := 71
abbrev cc5_sem3_0 : DmaSem sig := 72
abbrev cc5_sem4_0 : DmaSem sig := 73
abbrev cc5_sem5_0 : DmaSem sig := 74
abbrev cc5_sem5_1 : DmaSem sig := 75
abbrev cc6_sem0_0 : DmaSem sig := 76
abbrev cc6_sem0_1 : DmaSem sig := 77
abbrev cc6_sem1_0 : DmaSem sig := 78
abbrev cc6_sem2_0 : DmaSem sig := 79
abbrev cc6_sem3_0 : DmaSem sig := 80
abbrev cc6_sem4_0 : DmaSem sig := 81
abbrev cc6_sem5_0 : DmaSem sig := 82
abbrev cc6_sem6_0 : DmaSem sig := 83
abbrev cc6_sem7_0 : DmaSem sig := 84
abbrev cc6_sem8_0 : DmaSem sig := 85
abbrev cc6_sem9_0 : DmaSem sig := 86
abbrev cc6_sem9_1 : DmaSem sig := 87
abbrev cc6_sem10_0 : DmaSem sig := 88
abbrev cc6_sem10_1 : DmaSem sig := 89
abbrev cc6_sem11_0 : DmaSem sig := 90
abbrev cc6_sem11_1 : DmaSem sig := 91
abbrev cc7_sem0_0 : DmaSem sig := 92
abbrev cc7_sem0_1 : DmaSem sig := 93
abbrev cc7_sem1_0 : DmaSem sig := 94
abbrev cc7_sem1_1 : DmaSem sig := 95
abbrev cc7_sem2_0 : DmaSem sig := 96
abbrev cc7_sem2_1 : DmaSem sig := 97
abbrev cc7_sem3_0 : DmaSem sig := 98
abbrev cc7_sem3_1 : DmaSem sig := 99
abbrev cc7_sem4_0 : DmaSem sig := 100
abbrev cc7_sem4_1 : DmaSem sig := 101
abbrev cc7_sem5_0 : DmaSem sig := 102
abbrev cc7_sem6_0 : DmaSem sig := 103
abbrev cc7_sem7_0 : DmaSem sig := 104
abbrev cc7_sem7_1 : DmaSem sig := 105
abbrev cc8_sem0_0 : DmaSem sig := 106
abbrev cc8_sem0_1 : DmaSem sig := 107
abbrev cc8_sem1_0 : DmaSem sig := 108
abbrev cc8_sem2_0 : DmaSem sig := 109
abbrev cc8_sem3_0 : DmaSem sig := 110
abbrev cc8_sem4_0 : DmaSem sig := 111
abbrev cc8_sem5_0 : DmaSem sig := 112
abbrev cc8_sem5_1 : DmaSem sig := 113
abbrev cc9_sem0_0 : DmaSem sig := 114
abbrev cc9_sem0_1 : DmaSem sig := 115
abbrev cc9_sem1_0 : DmaSem sig := 116
abbrev cc9_sem2_0 : DmaSem sig := 117
abbrev cc9_sem3_0 : DmaSem sig := 118
abbrev cc9_sem4_0 : DmaSem sig := 119
abbrev cc9_sem5_0 : DmaSem sig := 120
abbrev cc9_sem6_0 : DmaSem sig := 121
abbrev cc9_sem7_0 : DmaSem sig := 122
abbrev cc9_sem8_0 : DmaSem sig := 123
abbrev cc9_sem9_0 : DmaSem sig := 124
abbrev cc9_sem9_1 : DmaSem sig := 125
abbrev cc9_sem10_0 : DmaSem sig := 126
abbrev cc9_sem10_1 : DmaSem sig := 127
abbrev cc9_sem11_0 : DmaSem sig := 128
abbrev cc9_sem11_1 : DmaSem sig := 129
abbrev cc10_sem0_0 : DmaSem sig := 130
abbrev cc10_sem0_1 : DmaSem sig := 131
abbrev cc10_sem1_0 : DmaSem sig := 132
abbrev cc10_sem1_1 : DmaSem sig := 133
abbrev cc10_sem2_0 : DmaSem sig := 134
abbrev cc10_sem2_1 : DmaSem sig := 135
abbrev cc10_sem3_0 : DmaSem sig := 136
abbrev cc10_sem3_1 : DmaSem sig := 137
abbrev cc10_sem4_0 : DmaSem sig := 138
abbrev cc10_sem4_1 : DmaSem sig := 139
abbrev cc10_sem5_0 : DmaSem sig := 140
abbrev cc10_sem6_0 : DmaSem sig := 141
abbrev cc10_sem7_0 : DmaSem sig := 142
abbrev cc10_sem7_1 : DmaSem sig := 143
abbrev cc11_sem0_0 : DmaSem sig := 144
abbrev cc11_sem0_1 : DmaSem sig := 145
abbrev cc11_sem1_0 : DmaSem sig := 146
abbrev cc11_sem2_0 : DmaSem sig := 147
abbrev cc11_sem3_0 : DmaSem sig := 148
abbrev cc11_sem4_0 : DmaSem sig := 149
abbrev cc11_sem5_0 : DmaSem sig := 150
abbrev cc11_sem5_1 : DmaSem sig := 151

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S512x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x4608 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S512x1024 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨2, ![32, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x512x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 1 → Memref sig .tc .vmem S512x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1024x1024 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1024x4096 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4096x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![128], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024x4608 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S8x128x128 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1024x1024 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S512x1024 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S512x1024 .bf16 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S512x1024 .bf16 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨2, ![32, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S512x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x512x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 1 → Memref sig .tc .vmem S512x1024 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S1024x1024 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 2 → Memref sig .tc .vmem S1x512x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev grid8 : Pipeline.Grid := ⟨1, ![128], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1024x4096 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S4096x1024 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S512x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![128], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1024x4608 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x1024 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1024 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S8x128x128 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x1024 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1024x1024 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S512x1024 .bf16 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev stage9_10 : Fin 2 → Memref sig .tc .vmem S512x1024 .bf16 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev stage9_11 : Fin 2 → Memref sig .tc .vmem S512x1024 .bf16 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev grid10 : Pipeline.Grid := ⟨2, ![32, 4], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_4 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage10_0 : Fin 2 → Memref sig .tc .vmem S512x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S1x2048x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 2 → Memref sig .tc .vmem S1x512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x512x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev stage10_4 : Fin 2 → Memref sig .tc .vmem S1x512x1024 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 1 → Memref sig .tc .vmem S512x1024 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false, false]

abbrev stage10_6 : Fin 1 → Memref sig .tc .vmem S1024x1024 .bf16 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false, false]

abbrev stage10_7 : Fin 2 → Memref sig .tc .vmem S1x512x1024 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true, true]

abbrev grid11 : Pipeline.Grid := ⟨1, ![128], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1024 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1024x4096 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S4096x1024 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1024 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S512x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]
-- ==== ReferenceIdeal.lean ====
abbrev S32x2048x1024 : Shape := ⟨3, ![32, 2048, 1024]⟩
abbrev S4x1024 : Shape := ⟨2, ![4, 1024]⟩
abbrev S4x1024x4608 : Shape := ⟨3, ![4, 1024, 4608]⟩
abbrev S4x512x1024 : Shape := ⟨3, ![4, 512, 1024]⟩
abbrev S4x8x128x128 : Shape := ⟨4, ![4, 8, 128, 128]⟩
abbrev S4x8x128 : Shape := ⟨3, ![4, 8, 128]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1024 : Shape := ⟨2, ![1, 1024]⟩
abbrev S1x1024x4608 : Shape := ⟨3, ![1, 1024, 4608]⟩
abbrev S1024x4608 : Shape := ⟨2, ![1024, 4608]⟩
abbrev S1x512x1024 : Shape := ⟨3, ![1, 512, 1024]⟩
abbrev S512x1024 : Shape := ⟨2, ![512, 1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4608 : Shape := ⟨3, ![32, 2048, 4608]⟩
abbrev S32x2048x512 : Shape := ⟨3, ![32, 2048, 512]⟩
abbrev S32x2048x2048 : Shape := ⟨3, ![32, 2048, 2048]⟩
abbrev S32x2048x8x64 : Shape := ⟨4, ![32, 2048, 8, 64]⟩
abbrev S32x8x64x2048 : Shape := ⟨4, ![32, 8, 64, 2048]⟩
abbrev S32x16x128x8x128 : Shape := ⟨5, ![32, 16, 128, 8, 128]⟩
abbrev S8x32x16x128x128 : Shape := ⟨5, ![8, 32, 16, 128, 128]⟩
abbrev S128x8 : Shape := ⟨2, ![128, 8]⟩
abbrev S1x1x128x8x1 : Shape := ⟨5, ![1, 1, 128, 8, 1]⟩
abbrev S32x2048x4096 : Shape := ⟨3, ![32, 2048, 4096]⟩

abbrev nBuf : Space → Nat
  | .hbm => 734
  | .vmem => 0
  | .smem => 0
  | _ => 0

abbrev hbmTy0_0 (i : Nat) : BufTy := match i % 128 with
  | 0 => ⟨S32x2048x1024, .f32⟩
  | 1 => ⟨S4x1024, .f32⟩
  | 2 => ⟨S4x1024x4608, .f32⟩
  | 3 => ⟨S4x512x1024, .f32⟩
  | 4 => ⟨S4x1024, .f32⟩
  | 5 => ⟨S4x1024, .f32⟩
  | 6 => ⟨S4x8x128x128, .f32⟩
  | 7 => ⟨S4x8x128, .f32⟩
  | 8 => ⟨S4x1024x1024, .f32⟩
  | 9 => ⟨S4x1024x1024, .f32⟩
  | 10 => ⟨S4x1024, .f32⟩
  | 11 => ⟨S4x1024x4096, .f32⟩
  | 12 => ⟨S4x4096x1024, .f32⟩
  | 13 => ⟨S1024, .f32⟩
  | 14 => ⟨S64, .i32⟩
  | 15 => ⟨S64x1, .i32⟩
  | 16 => ⟨S1x64, .i32⟩
  | 17 => ⟨S64x64, .i32⟩
  | 18 => ⟨S64x64, .i32⟩
  | 19 => ⟨S64x64, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S64x64, .i32⟩
  | 27 => ⟨S64x64, .i32⟩
  | 28 => ⟨S_, .i32⟩
  | 29 => ⟨S64x64, .i32⟩
  | 30 => ⟨S64x64, .i1⟩
  | 31 => ⟨S_, .i32⟩
  | 32 => ⟨S64x64, .i32⟩
  | 33 => ⟨S64x64, .i1⟩
  | 34 => ⟨S_, .i32⟩
  | 35 => ⟨S_, .i1⟩
  | 36 => ⟨S64x64, .i1⟩
  | 37 => ⟨S64x64, .i1⟩
  | 38 => ⟨S64x64, .i1⟩
  | 39 => ⟨S64x64, .i32⟩
  | 40 => ⟨S64x64, .i32⟩
  | 41 => ⟨S64x64, .i32⟩
  | 42 => ⟨S64x64, .f32⟩
  | 43 => ⟨S_, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S2048, .i32⟩
  | 55 => ⟨S2048x1, .i32⟩
  | 56 => ⟨S1x2048, .i32⟩
  | 57 => ⟨S2048x2048, .i32⟩
  | 58 => ⟨S2048x2048, .i32⟩
  | 59 => ⟨S2048x2048, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S_, .i32⟩
  | 72 => ⟨S2048x2048, .i32⟩
  | 73 => ⟨S2048x2048, .i1⟩
  | 74 => ⟨S_, .i32⟩
  | 75 => ⟨S_, .i1⟩
  | 76 => ⟨S2048x2048, .i1⟩
  | 77 => ⟨S2048x2048, .i1⟩
  | 78 => ⟨S2048x2048, .i1⟩
  | 79 => ⟨S2048x2048, .i32⟩
  | 80 => ⟨S2048x2048, .i32⟩
  | 81 => ⟨S2048x2048, .i32⟩
  | 82 => ⟨S2048x2048, .f32⟩
  | 83 => ⟨S_, .f32⟩
  | 84 => ⟨S2048x2048, .f32⟩
  | 85 => ⟨S2048x2048, .f32⟩
  | 86 => ⟨S2048x2048, .f32⟩
  | 87 => ⟨S_, .f32⟩
  | 88 => ⟨S2048x2048, .f32⟩
  | 89 => ⟨S2048x2048, .f32⟩
  | 90 => ⟨S2048x2048, .f32⟩
  | 91 => ⟨S_, .f32⟩
  | 92 => ⟨S2048x2048, .f32⟩
  | 93 => ⟨S2048x2048, .f32⟩
  | 94 => ⟨S1x1024, .f32⟩
  | 95 => ⟨S1024, .f32⟩
  | 96 => ⟨S1x1024x4608, .f32⟩
  | 97 => ⟨S1024x4608, .f32⟩
  | 98 => ⟨S1x512x1024, .f32⟩
  | 99 => ⟨S512x1024, .f32⟩
  | 100 => ⟨S1x1024, .f32⟩
  | 101 => ⟨S1024, .f32⟩
  | 102 => ⟨S1x1024, .f32⟩
  | 103 => ⟨S1024, .f32⟩
  | 104 => ⟨S1x8x128x128, .f32⟩
  | 105 => ⟨S8x128x128, .f32⟩
  | 106 => ⟨S1x8x128, .f32⟩
  | 107 => ⟨S8x128, .f32⟩
  | 108 => ⟨S1x1024x1024, .f32⟩
  | 109 => ⟨S1024x1024, .f32⟩
  | 110 => ⟨S1x1024x1024, .f32⟩
  | 111 => ⟨S1024x1024, .f32⟩
  | 112 => ⟨S1x1024, .f32⟩
  | 113 => ⟨S1024, .f32⟩
  | 114 => ⟨S1x1024x4096, .f32⟩
  | 115 => ⟨S1024x4096, .f32⟩
  | 116 => ⟨S1x4096x1024, .f32⟩
  | 117 => ⟨S4096x1024, .f32⟩
  | 118 => ⟨S32x2048x1024, .f32⟩
  | 119 => ⟨S_, .f32⟩
  | 120 => ⟨S32x2048, .f32⟩
  | 121 => ⟨S32x2048x1, .f32⟩
  | 122 => ⟨S_, .f32⟩
  | 123 => ⟨S32x2048x1, .f32⟩
  | 124 => ⟨S32x2048x1, .f32⟩
  | 125 => ⟨S_, .f32⟩
  | 126 => ⟨S32x2048x1, .f32⟩
  | 127 => ⟨S32x2048x1, .f32⟩
  | _ => ⟨S32x2048x1024, .f32⟩

abbrev hbmTy0_1 (i : Nat) : BufTy := match i % 128 with
  | 0 => ⟨S32x2048x1, .f32⟩
  | 1 => ⟨S32x2048x1024, .f32⟩
  | 2 => ⟨S32x2048x1024, .f32⟩
  | 3 => ⟨S1x1x1024, .f32⟩
  | 4 => ⟨S32x2048x1024, .f32⟩
  | 5 => ⟨S32x2048x1024, .f32⟩
  | 6 => ⟨S32x2048x4608, .f32⟩
  | 7 => ⟨S32x2048x512, .f32⟩
  | 8 => ⟨S32x2048x2048, .f32⟩
  | 9 => ⟨S32x2048x2048, .f32⟩
  | 10 => ⟨S32x2048x2048, .f32⟩
  | 11 => ⟨S_, .f32⟩
  | 12 => ⟨S32x2048x2048, .f32⟩
  | 13 => ⟨S32x2048x2048, .f32⟩
  | 14 => ⟨S32x2048x2048, .f32⟩
  | 15 => ⟨S_, .f32⟩
  | 16 => ⟨S32x2048x2048, .f32⟩
  | 17 => ⟨S32x2048x2048, .f32⟩
  | 18 => ⟨S32x2048x2048, .f32⟩
  | 19 => ⟨S_, .f32⟩
  | 20 => ⟨S32x2048x2048, .f32⟩
  | 21 => ⟨S32x2048x2048, .f32⟩
  | 22 => ⟨S_, .f32⟩
  | 23 => ⟨S32x2048x2048, .f32⟩
  | 24 => ⟨S32x2048x2048, .f32⟩
  | 25 => ⟨S32x2048x2048, .f32⟩
  | 26 => ⟨S32x2048x1024, .f32⟩
  | 27 => ⟨S32x2048x1024, .f32⟩
  | 28 => ⟨S32x2048x1024, .f32⟩
  | 29 => ⟨S32x2048x1024, .f32⟩
  | 30 => ⟨S32x2048x1024, .f32⟩
  | 31 => ⟨S_, .f32⟩
  | 32 => ⟨S32x2048x1024, .f32⟩
  | 33 => ⟨S32x2048x1024, .f32⟩
  | 34 => ⟨S_, .f32⟩
  | 35 => ⟨S32x2048x1024, .f32⟩
  | 36 => ⟨S32x2048x1024, .f32⟩
  | 37 => ⟨S32x2048x1024, .f32⟩
  | 38 => ⟨S32x2048x1024, .f32⟩
  | 39 => ⟨S32x2048x1024, .f32⟩
  | 40 => ⟨S_, .f32⟩
  | 41 => ⟨S32x2048x1024, .f32⟩
  | 42 => ⟨S32x2048x1024, .f32⟩
  | 43 => ⟨S_, .f32⟩
  | 44 => ⟨S32x2048x1024, .f32⟩
  | 45 => ⟨S32x2048x1024, .f32⟩
  | 46 => ⟨S32x2048x8x64, .f32⟩
  | 47 => ⟨S32x2048x8x64, .f32⟩
  | 48 => ⟨S32x2048x8x64, .f32⟩
  | 49 => ⟨S32x8x64x2048, .f32⟩
  | 50 => ⟨S32x2048x8x64, .f32⟩
  | 51 => ⟨S2048x2048, .f32⟩
  | 52 => ⟨S32x8x64x2048, .f32⟩
  | 53 => ⟨S32x2048x8x64, .f32⟩
  | 54 => ⟨S32x2048x8x64, .f32⟩
  | 55 => ⟨S32x2048x512, .f32⟩
  | 56 => ⟨S32x2048x1024, .f32⟩
  | 57 => ⟨S_, .f32⟩
  | 58 => ⟨S32x2048, .f32⟩
  | 59 => ⟨S32x2048x1, .f32⟩
  | 60 => ⟨S_, .f32⟩
  | 61 => ⟨S32x2048x1, .f32⟩
  | 62 => ⟨S32x2048x1, .f32⟩
  | 63 => ⟨S32x2048x1024, .f32⟩
  | 64 => ⟨S32x2048x1024, .f32⟩
  | 65 => ⟨S32x2048x1024, .f32⟩
  | 66 => ⟨S_, .f32⟩
  | 67 => ⟨S32x2048, .f32⟩
  | 68 => ⟨S32x2048x1, .f32⟩
  | 69 => ⟨S_, .f32⟩
  | 70 => ⟨S32x2048x1, .f32⟩
  | 71 => ⟨S32x2048x1, .f32⟩
  | 72 => ⟨S_, .f32⟩
  | 73 => ⟨S32x2048x1, .f32⟩
  | 74 => ⟨S32x2048x1, .f32⟩
  | 75 => ⟨S32x2048x1, .f32⟩
  | 76 => ⟨S32x2048x1024, .f32⟩
  | 77 => ⟨S32x2048x1024, .f32⟩
  | 78 => ⟨S1x1x1024, .f32⟩
  | 79 => ⟨S32x2048x1024, .f32⟩
  | 80 => ⟨S32x2048x1024, .f32⟩
  | 81 => ⟨S1x1x1024, .f32⟩
  | 82 => ⟨S32x2048x1024, .f32⟩
  | 83 => ⟨S32x2048x1024, .f32⟩
  | 84 => ⟨S32x16x128x8x128, .f32⟩
  | 85 => ⟨S8x32x16x128x128, .f32⟩
  | 86 => ⟨S32x16x128x8x128, .f32⟩
  | 87 => ⟨S128x8, .f32⟩
  | 88 => ⟨S1x1x128x8x1, .f32⟩
  | 89 => ⟨S32x16x128x8x128, .f32⟩
  | 90 => ⟨S32x16x128x8x128, .f32⟩
  | 91 => ⟨S32x2048x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S32x2048x1024, .f32⟩
  | 97 => ⟨S32x2048x1024, .f32⟩
  | 98 => ⟨S32x2048x1024, .f32⟩
  | 99 => ⟨S32x2048x1024, .f32⟩
  | 100 => ⟨S_, .f32⟩
  | 101 => ⟨S32x2048, .f32⟩
  | 102 => ⟨S32x2048x1, .f32⟩
  | 103 => ⟨S_, .f32⟩
  | 104 => ⟨S32x2048x1, .f32⟩
  | 105 => ⟨S32x2048x1, .f32⟩
  | 106 => ⟨S_, .f32⟩
  | 107 => ⟨S32x2048x1, .f32⟩
  | 108 => ⟨S32x2048x1, .f32⟩
  | 109 => ⟨S32x2048x1, .f32⟩
  | 110 => ⟨S32x2048x1024, .f32⟩
  | 111 => ⟨S32x2048x1024, .f32⟩
  | 112 => ⟨S1x1x1024, .f32⟩
  | 113 => ⟨S32x2048x1024, .f32⟩
  | 114 => ⟨S32x2048x1024, .f32⟩
  | 115 => ⟨S32x2048x4096, .f32⟩
  | 116 => ⟨S_, .f32⟩
  | 117 => ⟨S32x2048x4096, .f32⟩
  | 118 => ⟨S32x2048x4096, .f32⟩
  | 119 => ⟨S32x2048x4096, .f32⟩
  | 120 => ⟨S32x2048x1024, .f32⟩
  | 121 => ⟨S32x2048x1024, .f32⟩
  | 122 => ⟨S1x1024, .f32⟩
  | 123 => ⟨S1024, .f32⟩
  | 124 => ⟨S1x1024x4608, .f32⟩
  | 125 => ⟨S1024x4608, .f32⟩
  | 126 => ⟨S1x512x1024, .f32⟩
  | 127 => ⟨S512x1024, .f32⟩
  | _ => ⟨S32x2048x1024, .f32⟩

abbrev hbmTy0_2 (i : Nat) : BufTy := match i % 128 with
  | 0 => ⟨S1x1024, .f32⟩
  | 1 => ⟨S1024, .f32⟩
  | 2 => ⟨S1x1024, .f32⟩
  | 3 => ⟨S1024, .f32⟩
  | 4 => ⟨S1x8x128x128, .f32⟩
  | 5 => ⟨S8x128x128, .f32⟩
  | 6 => ⟨S1x8x128, .f32⟩
  | 7 => ⟨S8x128, .f32⟩
  | 8 => ⟨S1x1024x1024, .f32⟩
  | 9 => ⟨S1024x1024, .f32⟩
  | 10 => ⟨S1x1024x1024, .f32⟩
  | 11 => ⟨S1024x1024, .f32⟩
  | 12 => ⟨S1x1024, .f32⟩
  | 13 => ⟨S1024, .f32⟩
  | 14 => ⟨S1x1024x4096, .f32⟩
  | 15 => ⟨S1024x4096, .f32⟩
  | 16 => ⟨S1x4096x1024, .f32⟩
  | 17 => ⟨S4096x1024, .f32⟩
  | 18 => ⟨S32x2048x1024, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S32x2048x1, .f32⟩
  | 27 => ⟨S32x2048x1, .f32⟩
  | 28 => ⟨S32x2048x1, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | 34 => ⟨S32x2048x4608, .f32⟩
  | 35 => ⟨S32x2048x512, .f32⟩
  | 36 => ⟨S32x2048x2048, .f32⟩
  | 37 => ⟨S32x2048x2048, .f32⟩
  | 38 => ⟨S32x2048x2048, .f32⟩
  | 39 => ⟨S_, .f32⟩
  | 40 => ⟨S32x2048x2048, .f32⟩
  | 41 => ⟨S32x2048x2048, .f32⟩
  | 42 => ⟨S32x2048x2048, .f32⟩
  | 43 => ⟨S_, .f32⟩
  | 44 => ⟨S32x2048x2048, .f32⟩
  | 45 => ⟨S32x2048x2048, .f32⟩
  | 46 => ⟨S32x2048x2048, .f32⟩
  | 47 => ⟨S_, .f32⟩
  | 48 => ⟨S32x2048x2048, .f32⟩
  | 49 => ⟨S32x2048x2048, .f32⟩
  | 50 => ⟨S_, .f32⟩
  | 51 => ⟨S32x2048x2048, .f32⟩
  | 52 => ⟨S32x2048x2048, .f32⟩
  | 53 => ⟨S32x2048x2048, .f32⟩
  | 54 => ⟨S32x2048x1024, .f32⟩
  | 55 => ⟨S32x2048x1024, .f32⟩
  | 56 => ⟨S32x2048x1024, .f32⟩
  | 57 => ⟨S32x2048x1024, .f32⟩
  | 58 => ⟨S32x2048x1024, .f32⟩
  | 59 => ⟨S_, .f32⟩
  | 60 => ⟨S32x2048x1024, .f32⟩
  | 61 => ⟨S32x2048x1024, .f32⟩
  | 62 => ⟨S_, .f32⟩
  | 63 => ⟨S32x2048x1024, .f32⟩
  | 64 => ⟨S32x2048x1024, .f32⟩
  | 65 => ⟨S32x2048x1024, .f32⟩
  | 66 => ⟨S32x2048x1024, .f32⟩
  | 67 => ⟨S32x2048x1024, .f32⟩
  | 68 => ⟨S_, .f32⟩
  | 69 => ⟨S32x2048x1024, .f32⟩
  | 70 => ⟨S32x2048x1024, .f32⟩
  | 71 => ⟨S_, .f32⟩
  | 72 => ⟨S32x2048x1024, .f32⟩
  | 73 => ⟨S32x2048x1024, .f32⟩
  | 74 => ⟨S32x2048x8x64, .f32⟩
  | 75 => ⟨S32x2048x8x64, .f32⟩
  | 76 => ⟨S32x2048x8x64, .f32⟩
  | 77 => ⟨S32x8x64x2048, .f32⟩
  | 78 => ⟨S32x2048x8x64, .f32⟩
  | 79 => ⟨S2048x2048, .f32⟩
  | 80 => ⟨S32x8x64x2048, .f32⟩
  | 81 => ⟨S32x2048x8x64, .f32⟩
  | 82 => ⟨S32x2048x8x64, .f32⟩
  | 83 => ⟨S32x2048x512, .f32⟩
  | 84 => ⟨S32x2048x1024, .f32⟩
  | 85 => ⟨S_, .f32⟩
  | 86 => ⟨S32x2048, .f32⟩
  | 87 => ⟨S32x2048x1, .f32⟩
  | 88 => ⟨S_, .f32⟩
  | 89 => ⟨S32x2048x1, .f32⟩
  | 90 => ⟨S32x2048x1, .f32⟩
  | 91 => ⟨S32x2048x1024, .f32⟩
  | 92 => ⟨S32x2048x1024, .f32⟩
  | 93 => ⟨S32x2048x1024, .f32⟩
  | 94 => ⟨S_, .f32⟩
  | 95 => ⟨S32x2048, .f32⟩
  | 96 => ⟨S32x2048x1, .f32⟩
  | 97 => ⟨S_, .f32⟩
  | 98 => ⟨S32x2048x1, .f32⟩
  | 99 => ⟨S32x2048x1, .f32⟩
  | 100 => ⟨S_, .f32⟩
  | 101 => ⟨S32x2048x1, .f32⟩
  | 102 => ⟨S32x2048x1, .f32⟩
  | 103 => ⟨S32x2048x1, .f32⟩
  | 104 => ⟨S32x2048x1024, .f32⟩
  | 105 => ⟨S32x2048x1024, .f32⟩
  | 106 => ⟨S1x1x1024, .f32⟩
  | 107 => ⟨S32x2048x1024, .f32⟩
  | 108 => ⟨S32x2048x1024, .f32⟩
  | 109 => ⟨S1x1x1024, .f32⟩
  | 110 => ⟨S32x2048x1024, .f32⟩
  | 111 => ⟨S32x2048x1024, .f32⟩
  | 112 => ⟨S32x16x128x8x128, .f32⟩
  | 113 => ⟨S8x32x16x128x128, .f32⟩
  | 114 => ⟨S32x16x128x8x128, .f32⟩
  | 115 => ⟨S128x8, .f32⟩
  | 116 => ⟨S1x1x128x8x1, .f32⟩
  | 117 => ⟨S32x16x128x8x128, .f32⟩
  | 118 => ⟨S32x16x128x8x128, .f32⟩
  | 119 => ⟨S32x2048x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S32x2048x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_3 (i : Nat) : BufTy := match i % 128 with
  | 0 => ⟨S_, .f32⟩
  | 1 => ⟨S32x2048, .f32⟩
  | 2 => ⟨S32x2048x1, .f32⟩
  | 3 => ⟨S_, .f32⟩
  | 4 => ⟨S32x2048x1, .f32⟩
  | 5 => ⟨S32x2048x1, .f32⟩
  | 6 => ⟨S_, .f32⟩
  | 7 => ⟨S32x2048x1, .f32⟩
  | 8 => ⟨S32x2048x1, .f32⟩
  | 9 => ⟨S32x2048x1, .f32⟩
  | 10 => ⟨S32x2048x1024, .f32⟩
  | 11 => ⟨S32x2048x1024, .f32⟩
  | 12 => ⟨S1x1x1024, .f32⟩
  | 13 => ⟨S32x2048x1024, .f32⟩
  | 14 => ⟨S32x2048x1024, .f32⟩
  | 15 => ⟨S32x2048x4096, .f32⟩
  | 16 => ⟨S_, .f32⟩
  | 17 => ⟨S32x2048x4096, .f32⟩
  | 18 => ⟨S32x2048x4096, .f32⟩
  | 19 => ⟨S32x2048x4096, .f32⟩
  | 20 => ⟨S32x2048x1024, .f32⟩
  | 21 => ⟨S32x2048x1024, .f32⟩
  | 22 => ⟨S1x1024, .f32⟩
  | 23 => ⟨S1024, .f32⟩
  | 24 => ⟨S1x1024x4608, .f32⟩
  | 25 => ⟨S1024x4608, .f32⟩
  | 26 => ⟨S1x512x1024, .f32⟩
  | 27 => ⟨S512x1024, .f32⟩
  | 28 => ⟨S1x1024, .f32⟩
  | 29 => ⟨S1024, .f32⟩
  | 30 => ⟨S1x1024, .f32⟩
  | 31 => ⟨S1024, .f32⟩
  | 32 => ⟨S1x8x128x128, .f32⟩
  | 33 => ⟨S8x128x128, .f32⟩
  | 34 => ⟨S1x8x128, .f32⟩
  | 35 => ⟨S8x128, .f32⟩
  | 36 => ⟨S1x1024x1024, .f32⟩
  | 37 => ⟨S1024x1024, .f32⟩
  | 38 => ⟨S1x1024x1024, .f32⟩
  | 39 => ⟨S1024x1024, .f32⟩
  | 40 => ⟨S1x1024, .f32⟩
  | 41 => ⟨S1024, .f32⟩
  | 42 => ⟨S1x1024x4096, .f32⟩
  | 43 => ⟨S1024x4096, .f32⟩
  | 44 => ⟨S1x4096x1024, .f32⟩
  | 45 => ⟨S4096x1024, .f32⟩
  | 46 => ⟨S32x2048x1024, .f32⟩
  | 47 => ⟨S_, .f32⟩
  | 48 => ⟨S32x2048, .f32⟩
  | 49 => ⟨S32x2048x1, .f32⟩
  | 50 => ⟨S_, .f32⟩
  | 51 => ⟨S32x2048x1, .f32⟩
  | 52 => ⟨S32x2048x1, .f32⟩
  | 53 => ⟨S_, .f32⟩
  | 54 => ⟨S32x2048x1, .f32⟩
  | 55 => ⟨S32x2048x1, .f32⟩
  | 56 => ⟨S32x2048x1, .f32⟩
  | 57 => ⟨S32x2048x1024, .f32⟩
  | 58 => ⟨S32x2048x1024, .f32⟩
  | 59 => ⟨S1x1x1024, .f32⟩
  | 60 => ⟨S32x2048x1024, .f32⟩
  | 61 => ⟨S32x2048x1024, .f32⟩
  | 62 => ⟨S32x2048x4608, .f32⟩
  | 63 => ⟨S32x2048x512, .f32⟩
  | 64 => ⟨S32x2048x2048, .f32⟩
  | 65 => ⟨S32x2048x2048, .f32⟩
  | 66 => ⟨S32x2048x2048, .f32⟩
  | 67 => ⟨S_, .f32⟩
  | 68 => ⟨S32x2048x2048, .f32⟩
  | 69 => ⟨S32x2048x2048, .f32⟩
  | 70 => ⟨S32x2048x2048, .f32⟩
  | 71 => ⟨S_, .f32⟩
  | 72 => ⟨S32x2048x2048, .f32⟩
  | 73 => ⟨S32x2048x2048, .f32⟩
  | 74 => ⟨S32x2048x2048, .f32⟩
  | 75 => ⟨S_, .f32⟩
  | 76 => ⟨S32x2048x2048, .f32⟩
  | 77 => ⟨S32x2048x2048, .f32⟩
  | 78 => ⟨S_, .f32⟩
  | 79 => ⟨S32x2048x2048, .f32⟩
  | 80 => ⟨S32x2048x2048, .f32⟩
  | 81 => ⟨S32x2048x2048, .f32⟩
  | 82 => ⟨S32x2048x1024, .f32⟩
  | 83 => ⟨S32x2048x1024, .f32⟩
  | 84 => ⟨S32x2048x1024, .f32⟩
  | 85 => ⟨S32x2048x1024, .f32⟩
  | 86 => ⟨S32x2048x1024, .f32⟩
  | 87 => ⟨S_, .f32⟩
  | 88 => ⟨S32x2048x1024, .f32⟩
  | 89 => ⟨S32x2048x1024, .f32⟩
  | 90 => ⟨S_, .f32⟩
  | 91 => ⟨S32x2048x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S_, .f32⟩
  | 97 => ⟨S32x2048x1024, .f32⟩
  | 98 => ⟨S32x2048x1024, .f32⟩
  | 99 => ⟨S_, .f32⟩
  | 100 => ⟨S32x2048x1024, .f32⟩
  | 101 => ⟨S32x2048x1024, .f32⟩
  | 102 => ⟨S32x2048x8x64, .f32⟩
  | 103 => ⟨S32x2048x8x64, .f32⟩
  | 104 => ⟨S32x2048x8x64, .f32⟩
  | 105 => ⟨S32x8x64x2048, .f32⟩
  | 106 => ⟨S32x2048x8x64, .f32⟩
  | 107 => ⟨S2048x2048, .f32⟩
  | 108 => ⟨S32x8x64x2048, .f32⟩
  | 109 => ⟨S32x2048x8x64, .f32⟩
  | 110 => ⟨S32x2048x8x64, .f32⟩
  | 111 => ⟨S32x2048x512, .f32⟩
  | 112 => ⟨S32x2048x1024, .f32⟩
  | 113 => ⟨S_, .f32⟩
  | 114 => ⟨S32x2048, .f32⟩
  | 115 => ⟨S32x2048x1, .f32⟩
  | 116 => ⟨S_, .f32⟩
  | 117 => ⟨S32x2048x1, .f32⟩
  | 118 => ⟨S32x2048x1, .f32⟩
  | 119 => ⟨S32x2048x1024, .f32⟩
  | 120 => ⟨S32x2048x1024, .f32⟩
  | 121 => ⟨S32x2048x1024, .f32⟩
  | 122 => ⟨S_, .f32⟩
  | 123 => ⟨S32x2048, .f32⟩
  | 124 => ⟨S32x2048x1, .f32⟩
  | 125 => ⟨S_, .f32⟩
  | 126 => ⟨S32x2048x1, .f32⟩
  | 127 => ⟨S32x2048x1, .f32⟩
  | _ => ⟨S32x2048x1024, .f32⟩

abbrev hbmTy0_4 (i : Nat) : BufTy := match i % 128 with
  | 0 => ⟨S_, .f32⟩
  | 1 => ⟨S32x2048x1, .f32⟩
  | 2 => ⟨S32x2048x1, .f32⟩
  | 3 => ⟨S32x2048x1, .f32⟩
  | 4 => ⟨S32x2048x1024, .f32⟩
  | 5 => ⟨S32x2048x1024, .f32⟩
  | 6 => ⟨S1x1x1024, .f32⟩
  | 7 => ⟨S32x2048x1024, .f32⟩
  | 8 => ⟨S32x2048x1024, .f32⟩
  | 9 => ⟨S1x1x1024, .f32⟩
  | 10 => ⟨S32x2048x1024, .f32⟩
  | 11 => ⟨S32x2048x1024, .f32⟩
  | 12 => ⟨S32x16x128x8x128, .f32⟩
  | 13 => ⟨S8x32x16x128x128, .f32⟩
  | 14 => ⟨S32x16x128x8x128, .f32⟩
  | 15 => ⟨S128x8, .f32⟩
  | 16 => ⟨S1x1x128x8x1, .f32⟩
  | 17 => ⟨S32x16x128x8x128, .f32⟩
  | 18 => ⟨S32x16x128x8x128, .f32⟩
  | 19 => ⟨S32x2048x1024, .f32⟩
  | 20 => ⟨S32x2048x1024, .f32⟩
  | 21 => ⟨S32x2048x1024, .f32⟩
  | 22 => ⟨S32x2048x1024, .f32⟩
  | 23 => ⟨S32x2048x1024, .f32⟩
  | 24 => ⟨S32x2048x1024, .f32⟩
  | 25 => ⟨S32x2048x1024, .f32⟩
  | 26 => ⟨S32x2048x1024, .f32⟩
  | 27 => ⟨S32x2048x1024, .f32⟩
  | 28 => ⟨S_, .f32⟩
  | 29 => ⟨S32x2048, .f32⟩
  | 30 => ⟨S32x2048x1, .f32⟩
  | 31 => ⟨S_, .f32⟩
  | 32 => ⟨S32x2048x1, .f32⟩
  | 33 => ⟨S32x2048x1, .f32⟩
  | 34 => ⟨S_, .f32⟩
  | 35 => ⟨S32x2048x1, .f32⟩
  | 36 => ⟨S32x2048x1, .f32⟩
  | 37 => ⟨S32x2048x1, .f32⟩
  | 38 => ⟨S32x2048x1024, .f32⟩
  | 39 => ⟨S32x2048x1024, .f32⟩
  | 40 => ⟨S1x1x1024, .f32⟩
  | 41 => ⟨S32x2048x1024, .f32⟩
  | 42 => ⟨S32x2048x1024, .f32⟩
  | 43 => ⟨S32x2048x4096, .f32⟩
  | 44 => ⟨S_, .f32⟩
  | 45 => ⟨S32x2048x4096, .f32⟩
  | 46 => ⟨S32x2048x4096, .f32⟩
  | 47 => ⟨S32x2048x4096, .f32⟩
  | 48 => ⟨S32x2048x1024, .f32⟩
  | 49 => ⟨S32x2048x1024, .f32⟩
  | 50 => ⟨S1x1024, .f32⟩
  | 51 => ⟨S1024, .f32⟩
  | 52 => ⟨S1x1024x4608, .f32⟩
  | 53 => ⟨S1024x4608, .f32⟩
  | 54 => ⟨S1x512x1024, .f32⟩
  | 55 => ⟨S512x1024, .f32⟩
  | 56 => ⟨S1x1024, .f32⟩
  | 57 => ⟨S1024, .f32⟩
  | 58 => ⟨S1x1024, .f32⟩
  | 59 => ⟨S1024, .f32⟩
  | 60 => ⟨S1x8x128x128, .f32⟩
  | 61 => ⟨S8x128x128, .f32⟩
  | 62 => ⟨S1x8x128, .f32⟩
  | 63 => ⟨S8x128, .f32⟩
  | 64 => ⟨S1x1024x1024, .f32⟩
  | 65 => ⟨S1024x1024, .f32⟩
  | 66 => ⟨S1x1024x1024, .f32⟩
  | 67 => ⟨S1024x1024, .f32⟩
  | 68 => ⟨S1x1024, .f32⟩
  | 69 => ⟨S1024, .f32⟩
  | 70 => ⟨S1x1024x4096, .f32⟩
  | 71 => ⟨S1024x4096, .f32⟩
  | 72 => ⟨S1x4096x1024, .f32⟩
  | 73 => ⟨S4096x1024, .f32⟩
  | 74 => ⟨S32x2048x1024, .f32⟩
  | 75 => ⟨S_, .f32⟩
  | 76 => ⟨S32x2048, .f32⟩
  | 77 => ⟨S32x2048x1, .f32⟩
  | 78 => ⟨S_, .f32⟩
  | 79 => ⟨S32x2048x1, .f32⟩
  | 80 => ⟨S32x2048x1, .f32⟩
  | 81 => ⟨S_, .f32⟩
  | 82 => ⟨S32x2048x1, .f32⟩
  | 83 => ⟨S32x2048x1, .f32⟩
  | 84 => ⟨S32x2048x1, .f32⟩
  | 85 => ⟨S32x2048x1024, .f32⟩
  | 86 => ⟨S32x2048x1024, .f32⟩
  | 87 => ⟨S1x1x1024, .f32⟩
  | 88 => ⟨S32x2048x1024, .f32⟩
  | 89 => ⟨S32x2048x1024, .f32⟩
  | 90 => ⟨S32x2048x4608, .f32⟩
  | 91 => ⟨S32x2048x512, .f32⟩
  | 92 => ⟨S32x2048x2048, .f32⟩
  | 93 => ⟨S32x2048x2048, .f32⟩
  | 94 => ⟨S32x2048x2048, .f32⟩
  | 95 => ⟨S_, .f32⟩
  | 96 => ⟨S32x2048x2048, .f32⟩
  | 97 => ⟨S32x2048x2048, .f32⟩
  | 98 => ⟨S32x2048x2048, .f32⟩
  | 99 => ⟨S_, .f32⟩
  | 100 => ⟨S32x2048x2048, .f32⟩
  | 101 => ⟨S32x2048x2048, .f32⟩
  | 102 => ⟨S32x2048x2048, .f32⟩
  | 103 => ⟨S_, .f32⟩
  | 104 => ⟨S32x2048x2048, .f32⟩
  | 105 => ⟨S32x2048x2048, .f32⟩
  | 106 => ⟨S_, .f32⟩
  | 107 => ⟨S32x2048x2048, .f32⟩
  | 108 => ⟨S32x2048x2048, .f32⟩
  | 109 => ⟨S32x2048x2048, .f32⟩
  | 110 => ⟨S32x2048x1024, .f32⟩
  | 111 => ⟨S32x2048x1024, .f32⟩
  | 112 => ⟨S32x2048x1024, .f32⟩
  | 113 => ⟨S32x2048x1024, .f32⟩
  | 114 => ⟨S32x2048x1024, .f32⟩
  | 115 => ⟨S_, .f32⟩
  | 116 => ⟨S32x2048x1024, .f32⟩
  | 117 => ⟨S32x2048x1024, .f32⟩
  | 118 => ⟨S_, .f32⟩
  | 119 => ⟨S32x2048x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S_, .f32⟩
  | 125 => ⟨S32x2048x1024, .f32⟩
  | 126 => ⟨S32x2048x1024, .f32⟩
  | 127 => ⟨S_, .f32⟩
  | _ => ⟨S32x2048x1024, .f32⟩

abbrev hbmTy0_5 (i : Nat) : BufTy := match i % 128 with
  | 0 => ⟨S32x2048x1024, .f32⟩
  | 1 => ⟨S32x2048x1024, .f32⟩
  | 2 => ⟨S32x2048x8x64, .f32⟩
  | 3 => ⟨S32x2048x8x64, .f32⟩
  | 4 => ⟨S32x2048x8x64, .f32⟩
  | 5 => ⟨S32x8x64x2048, .f32⟩
  | 6 => ⟨S32x2048x8x64, .f32⟩
  | 7 => ⟨S2048x2048, .f32⟩
  | 8 => ⟨S32x8x64x2048, .f32⟩
  | 9 => ⟨S32x2048x8x64, .f32⟩
  | 10 => ⟨S32x2048x8x64, .f32⟩
  | 11 => ⟨S32x2048x512, .f32⟩
  | 12 => ⟨S32x2048x1024, .f32⟩
  | 13 => ⟨S_, .f32⟩
  | 14 => ⟨S32x2048, .f32⟩
  | 15 => ⟨S32x2048x1, .f32⟩
  | 16 => ⟨S_, .f32⟩
  | 17 => ⟨S32x2048x1, .f32⟩
  | 18 => ⟨S32x2048x1, .f32⟩
  | 19 => ⟨S32x2048x1024, .f32⟩
  | 20 => ⟨S32x2048x1024, .f32⟩
  | 21 => ⟨S32x2048x1024, .f32⟩
  | 22 => ⟨S_, .f32⟩
  | 23 => ⟨S32x2048, .f32⟩
  | 24 => ⟨S32x2048x1, .f32⟩
  | 25 => ⟨S_, .f32⟩
  | 26 => ⟨S32x2048x1, .f32⟩
  | 27 => ⟨S32x2048x1, .f32⟩
  | 28 => ⟨S_, .f32⟩
  | 29 => ⟨S32x2048x1, .f32⟩
  | 30 => ⟨S32x2048x1, .f32⟩
  | 31 => ⟨S32x2048x1, .f32⟩
  | 32 => ⟨S32x2048x1024, .f32⟩
  | 33 => ⟨S32x2048x1024, .f32⟩
  | 34 => ⟨S1x1x1024, .f32⟩
  | 35 => ⟨S32x2048x1024, .f32⟩
  | 36 => ⟨S32x2048x1024, .f32⟩
  | 37 => ⟨S1x1x1024, .f32⟩
  | 38 => ⟨S32x2048x1024, .f32⟩
  | 39 => ⟨S32x2048x1024, .f32⟩
  | 40 => ⟨S32x16x128x8x128, .f32⟩
  | 41 => ⟨S8x32x16x128x128, .f32⟩
  | 42 => ⟨S32x16x128x8x128, .f32⟩
  | 43 => ⟨S128x8, .f32⟩
  | 44 => ⟨S1x1x128x8x1, .f32⟩
  | 45 => ⟨S32x16x128x8x128, .f32⟩
  | 46 => ⟨S32x16x128x8x128, .f32⟩
  | 47 => ⟨S32x2048x1024, .f32⟩
  | 48 => ⟨S32x2048x1024, .f32⟩
  | 49 => ⟨S32x2048x1024, .f32⟩
  | 50 => ⟨S32x2048x1024, .f32⟩
  | 51 => ⟨S32x2048x1024, .f32⟩
  | 52 => ⟨S32x2048x1024, .f32⟩
  | 53 => ⟨S32x2048x1024, .f32⟩
  | 54 => ⟨S32x2048x1024, .f32⟩
  | 55 => ⟨S32x2048x1024, .f32⟩
  | 56 => ⟨S_, .f32⟩
  | 57 => ⟨S32x2048, .f32⟩
  | 58 => ⟨S32x2048x1, .f32⟩
  | 59 => ⟨S_, .f32⟩
  | 60 => ⟨S32x2048x1, .f32⟩
  | 61 => ⟨S32x2048x1, .f32⟩
  | 62 => ⟨S_, .f32⟩
  | 63 => ⟨S32x2048x1, .f32⟩
  | 64 => ⟨S32x2048x1, .f32⟩
  | 65 => ⟨S32x2048x1, .f32⟩
  | 66 => ⟨S32x2048x1024, .f32⟩
  | 67 => ⟨S32x2048x1024, .f32⟩
  | 68 => ⟨S1x1x1024, .f32⟩
  | 69 => ⟨S32x2048x1024, .f32⟩
  | 70 => ⟨S32x2048x1024, .f32⟩
  | 71 => ⟨S32x2048x4096, .f32⟩
  | 72 => ⟨S_, .f32⟩
  | 73 => ⟨S32x2048x4096, .f32⟩
  | 74 => ⟨S32x2048x4096, .f32⟩
  | 75 => ⟨S32x2048x4096, .f32⟩
  | 76 => ⟨S32x2048x1024, .f32⟩
  | 77 => ⟨S32x2048x1024, .f32⟩
  | 78 => ⟨S32x2048x1024, .f32⟩
  | 79 => ⟨S_, .f32⟩
  | 80 => ⟨S32x2048, .f32⟩
  | 81 => ⟨S32x2048x1, .f32⟩
  | 82 => ⟨S_, .f32⟩
  | 83 => ⟨S32x2048x1, .f32⟩
  | 84 => ⟨S32x2048x1, .f32⟩
  | 85 => ⟨S_, .f32⟩
  | 86 => ⟨S32x2048x1, .f32⟩
  | 87 => ⟨S32x2048x1, .f32⟩
  | 88 => ⟨S32x2048x1, .f32⟩
  | 89 => ⟨S32x2048x1024, .f32⟩
  | 90 => ⟨S32x2048x1024, .f32⟩
  | 91 => ⟨S1x1x1024, .f32⟩
  | 92 => ⟨S32x2048x1024, .f32⟩
  | 93 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_0 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_2 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v22 : Ref sig .tc := ⟨.hbm, 81, rfl⟩
abbrev main_v23 : Ref sig .tc := ⟨.hbm, 82, rfl⟩
abbrev main_cst_3 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_4 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_5 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_cst_6 : Ref sig .tc := ⟨.hbm, 119, rfl⟩
abbrev main_v57 : Ref sig .tc := ⟨.hbm, 120, rfl⟩
abbrev main_v58 : Ref sig .tc := ⟨.hbm, 121, rfl⟩
abbrev main_cst_7 : Ref sig .tc := ⟨.hbm, 122, rfl⟩
abbrev main_v59 : Ref sig .tc := ⟨.hbm, 123, rfl⟩
abbrev main_v60 : Ref sig .tc := ⟨.hbm, 124, rfl⟩
abbrev main_cst_8 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_9 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_10 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_11 : Ref sig .tc := ⟨.hbm, 147, rfl⟩
abbrev main_v80 : Ref sig .tc := ⟨.hbm, 148, rfl⟩
abbrev main_v81 : Ref sig .tc := ⟨.hbm, 149, rfl⟩
abbrev main_cst_12 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_cst_13 : Ref sig .tc := ⟨.hbm, 159, rfl⟩
abbrev main_v90 : Ref sig .tc := ⟨.hbm, 160, rfl⟩
abbrev main_v91 : Ref sig .tc := ⟨.hbm, 161, rfl⟩
abbrev main_cst_14 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_15 : Ref sig .tc := ⟨.hbm, 168, rfl⟩
abbrev main_v97 : Ref sig .tc := ⟨.hbm, 169, rfl⟩
abbrev main_v98 : Ref sig .tc := ⟨.hbm, 170, rfl⟩
abbrev main_cst_16 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_cst_17 : Ref sig .tc := ⟨.hbm, 185, rfl⟩
abbrev main_v112 : Ref sig .tc := ⟨.hbm, 186, rfl⟩
abbrev main_v113 : Ref sig .tc := ⟨.hbm, 187, rfl⟩
abbrev main_cst_18 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_19 : Ref sig .tc := ⟨.hbm, 194, rfl⟩
abbrev main_v119 : Ref sig .tc := ⟨.hbm, 195, rfl⟩
abbrev main_v120 : Ref sig .tc := ⟨.hbm, 196, rfl⟩
abbrev main_cst_20 : Ref sig .tc := ⟨.hbm, 197, rfl⟩
abbrev main_v121 : Ref sig .tc := ⟨.hbm, 198, rfl⟩
abbrev main_v122 : Ref sig .tc := ⟨.hbm, 199, rfl⟩
abbrev main_cst_21 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_22 : Ref sig .tc := ⟨.hbm, 228, rfl⟩
abbrev main_v150 : Ref sig .tc := ⟨.hbm, 229, rfl⟩
abbrev main_v151 : Ref sig .tc := ⟨.hbm, 230, rfl⟩
abbrev main_cst_23 : Ref sig .tc := ⟨.hbm, 231, rfl⟩
abbrev main_v152 : Ref sig .tc := ⟨.hbm, 232, rfl⟩
abbrev main_v153 : Ref sig .tc := ⟨.hbm, 233, rfl⟩
abbrev main_cst_24 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_call2_cst : Ref sig .tc := ⟨.hbm, 244, rfl⟩
abbrev main_call2_v0 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_cst_25 : Ref sig .tc := ⟨.hbm, 275, rfl⟩
abbrev main_v192 : Ref sig .tc := ⟨.hbm, 276, rfl⟩
abbrev main_v193 : Ref sig .tc := ⟨.hbm, 277, rfl⟩
abbrev main_cst_26 : Ref sig .tc := ⟨.hbm, 278, rfl⟩
abbrev main_v194 : Ref sig .tc := ⟨.hbm, 279, rfl⟩
abbrev main_v195 : Ref sig .tc := ⟨.hbm, 280, rfl⟩
abbrev main_cst_27 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_cst_28 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_cst_29 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_30 : Ref sig .tc := ⟨.hbm, 303, rfl⟩
abbrev main_v215 : Ref sig .tc := ⟨.hbm, 304, rfl⟩
abbrev main_v216 : Ref sig .tc := ⟨.hbm, 305, rfl⟩
abbrev main_cst_31 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_cst_32 : Ref sig .tc := ⟨.hbm, 315, rfl⟩
abbrev main_v225 : Ref sig .tc := ⟨.hbm, 316, rfl⟩
abbrev main_v226 : Ref sig .tc := ⟨.hbm, 317, rfl⟩
abbrev main_cst_33 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_cst_34 : Ref sig .tc := ⟨.hbm, 324, rfl⟩
abbrev main_v232 : Ref sig .tc := ⟨.hbm, 325, rfl⟩
abbrev main_v233 : Ref sig .tc := ⟨.hbm, 326, rfl⟩
abbrev main_cst_35 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_cst_36 : Ref sig .tc := ⟨.hbm, 341, rfl⟩
abbrev main_v247 : Ref sig .tc := ⟨.hbm, 342, rfl⟩
abbrev main_v248 : Ref sig .tc := ⟨.hbm, 343, rfl⟩
abbrev main_cst_37 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_cst_38 : Ref sig .tc := ⟨.hbm, 350, rfl⟩
abbrev main_v254 : Ref sig .tc := ⟨.hbm, 351, rfl⟩
abbrev main_v255 : Ref sig .tc := ⟨.hbm, 352, rfl⟩
abbrev main_cst_39 : Ref sig .tc := ⟨.hbm, 353, rfl⟩
abbrev main_v256 : Ref sig .tc := ⟨.hbm, 354, rfl⟩
abbrev main_v257 : Ref sig .tc := ⟨.hbm, 355, rfl⟩
abbrev main_cst_40 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_cst_41 : Ref sig .tc := ⟨.hbm, 384, rfl⟩
abbrev main_v285 : Ref sig .tc := ⟨.hbm, 385, rfl⟩
abbrev main_v286 : Ref sig .tc := ⟨.hbm, 386, rfl⟩
abbrev main_cst_42 : Ref sig .tc := ⟨.hbm, 387, rfl⟩
abbrev main_v287 : Ref sig .tc := ⟨.hbm, 388, rfl⟩
abbrev main_v288 : Ref sig .tc := ⟨.hbm, 389, rfl⟩
abbrev main_cst_43 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_call3_cst : Ref sig .tc := ⟨.hbm, 400, rfl⟩
abbrev main_call3_v0 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_v314 : Ref sig .tc := ⟨.hbm, 418, rfl⟩
abbrev main_v315 : Ref sig .tc := ⟨.hbm, 419, rfl⟩
abbrev main_v316 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_cst_44 : Ref sig .tc := ⟨.hbm, 431, rfl⟩
abbrev main_v327 : Ref sig .tc := ⟨.hbm, 432, rfl⟩
abbrev main_v328 : Ref sig .tc := ⟨.hbm, 433, rfl⟩
abbrev main_cst_45 : Ref sig .tc := ⟨.hbm, 434, rfl⟩
abbrev main_v329 : Ref sig .tc := ⟨.hbm, 435, rfl⟩
abbrev main_v330 : Ref sig .tc := ⟨.hbm, 436, rfl⟩
abbrev main_cst_46 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_v343 : Ref sig .tc := ⟨.hbm, 450, rfl⟩
abbrev main_cst_47 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_cst_48 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_cst_49 : Ref sig .tc := ⟨.hbm, 459, rfl⟩
abbrev main_v350 : Ref sig .tc := ⟨.hbm, 460, rfl⟩
abbrev main_v351 : Ref sig .tc := ⟨.hbm, 461, rfl⟩
abbrev main_cst_50 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_cst_51 : Ref sig .tc := ⟨.hbm, 471, rfl⟩
abbrev main_v360 : Ref sig .tc := ⟨.hbm, 472, rfl⟩
abbrev main_v361 : Ref sig .tc := ⟨.hbm, 473, rfl⟩
abbrev main_cst_52 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_cst_53 : Ref sig .tc := ⟨.hbm, 480, rfl⟩
abbrev main_v367 : Ref sig .tc := ⟨.hbm, 481, rfl⟩
abbrev main_v368 : Ref sig .tc := ⟨.hbm, 482, rfl⟩
abbrev main_cst_54 : Ref sig .tc := ⟨.hbm, 483, rfl⟩
abbrev main_v369 : Ref sig .tc := ⟨.hbm, 484, rfl⟩
abbrev main_v370 : Ref sig .tc := ⟨.hbm, 485, rfl⟩
abbrev main_v371 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_v380 : Ref sig .tc := ⟨.hbm, 495, rfl⟩
abbrev main_v381 : Ref sig .tc := ⟨.hbm, 496, rfl⟩
abbrev main_cst_55 : Ref sig .tc := ⟨.hbm, 497, rfl⟩
abbrev main_v382 : Ref sig .tc := ⟨.hbm, 498, rfl⟩
abbrev main_v383 : Ref sig .tc := ⟨.hbm, 499, rfl⟩
abbrev main_cst_56 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_cst_57 : Ref sig .tc := ⟨.hbm, 506, rfl⟩
abbrev main_v389 : Ref sig .tc := ⟨.hbm, 507, rfl⟩
abbrev main_v390 : Ref sig .tc := ⟨.hbm, 508, rfl⟩
abbrev main_cst_58 : Ref sig .tc := ⟨.hbm, 509, rfl⟩
abbrev main_v391 : Ref sig .tc := ⟨.hbm, 510, rfl⟩
abbrev main_v392 : Ref sig .tc := ⟨.hbm, 511, rfl⟩
abbrev main_cst_59 : Ref sig .tc := ⟨.hbm, 512, rfl⟩
abbrev main_v393 : Ref sig .tc := ⟨.hbm, 513, rfl⟩
abbrev main_v394 : Ref sig .tc := ⟨.hbm, 514, rfl⟩
abbrev main_v395 : Ref sig .tc := ⟨.hbm, 515, rfl⟩
abbrev main_v396 : Ref sig .tc := ⟨.hbm, 516, rfl⟩
abbrev main_v397 : Ref sig .tc := ⟨.hbm, 517, rfl⟩
abbrev main_v398 : Ref sig .tc := ⟨.hbm, 518, rfl⟩
abbrev main_v399 : Ref sig .tc := ⟨.hbm, 519, rfl⟩
abbrev main_v400 : Ref sig .tc := ⟨.hbm, 520, rfl⟩
abbrev main_v401 : Ref sig .tc := ⟨.hbm, 521, rfl⟩
abbrev main_v402 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_v407 : Ref sig .tc := ⟨.hbm, 527, rfl⟩
abbrev main_v408 : Ref sig .tc := ⟨.hbm, 528, rfl⟩
abbrev main_v409 : Ref sig .tc := ⟨.hbm, 529, rfl⟩
abbrev main_v410 : Ref sig .tc := ⟨.hbm, 530, rfl⟩
abbrev main_v411 : Ref sig .tc := ⟨.hbm, 531, rfl⟩
abbrev main_v412 : Ref sig .tc := ⟨.hbm, 532, rfl⟩
abbrev main_v413 : Ref sig .tc := ⟨.hbm, 533, rfl⟩
abbrev main_v414 : Ref sig .tc := ⟨.hbm, 534, rfl⟩
abbrev main_v415 : Ref sig .tc := ⟨.hbm, 535, rfl⟩
abbrev main_v416 : Ref sig .tc := ⟨.hbm, 536, rfl⟩
abbrev main_v417 : Ref sig .tc := ⟨.hbm, 537, rfl⟩
abbrev main_v418 : Ref sig .tc := ⟨.hbm, 538, rfl⟩
abbrev main_v419 : Ref sig .tc := ⟨.hbm, 539, rfl⟩
abbrev main_cst_60 : Ref sig .tc := ⟨.hbm, 540, rfl⟩
abbrev main_v420 : Ref sig .tc := ⟨.hbm, 541, rfl⟩
abbrev main_v421 : Ref sig .tc := ⟨.hbm, 542, rfl⟩
abbrev main_cst_61 : Ref sig .tc := ⟨.hbm, 543, rfl⟩
abbrev main_v422 : Ref sig .tc := ⟨.hbm, 544, rfl⟩
abbrev main_v423 : Ref sig .tc := ⟨.hbm, 545, rfl⟩
abbrev main_cst_62 : Ref sig .tc := ⟨.hbm, 546, rfl⟩
abbrev main_v424 : Ref sig .tc := ⟨.hbm, 547, rfl⟩
abbrev main_v425 : Ref sig .tc := ⟨.hbm, 548, rfl⟩
abbrev main_v426 : Ref sig .tc := ⟨.hbm, 549, rfl⟩
abbrev main_v427 : Ref sig .tc := ⟨.hbm, 550, rfl⟩
abbrev main_v428 : Ref sig .tc := ⟨.hbm, 551, rfl⟩
abbrev main_v429 : Ref sig .tc := ⟨.hbm, 552, rfl⟩
abbrev main_v430 : Ref sig .tc := ⟨.hbm, 553, rfl⟩
abbrev main_v431 : Ref sig .tc := ⟨.hbm, 554, rfl⟩
abbrev main_v432 : Ref sig .tc := ⟨.hbm, 555, rfl⟩
abbrev main_call4_cst : Ref sig .tc := ⟨.hbm, 556, rfl⟩
abbrev main_call4_v0 : Ref sig .tc := ⟨.hbm, 557, rfl⟩
abbrev main_v433 : Ref sig .tc := ⟨.hbm, 558, rfl⟩
abbrev main_v434 : Ref sig .tc := ⟨.hbm, 559, rfl⟩
abbrev main_v435 : Ref sig .tc := ⟨.hbm, 560, rfl⟩
abbrev main_v436 : Ref sig .tc := ⟨.hbm, 561, rfl⟩
abbrev main_v437 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_v441 : Ref sig .tc := ⟨.hbm, 566, rfl⟩
abbrev main_v442 : Ref sig .tc := ⟨.hbm, 567, rfl⟩
abbrev main_v443 : Ref sig .tc := ⟨.hbm, 568, rfl⟩
abbrev main_v444 : Ref sig .tc := ⟨.hbm, 569, rfl⟩
abbrev main_v445 : Ref sig .tc := ⟨.hbm, 570, rfl⟩
abbrev main_v446 : Ref sig .tc := ⟨.hbm, 571, rfl⟩
abbrev main_v447 : Ref sig .tc := ⟨.hbm, 572, rfl⟩
abbrev main_v448 : Ref sig .tc := ⟨.hbm, 573, rfl⟩
abbrev main_v449 : Ref sig .tc := ⟨.hbm, 574, rfl⟩
abbrev main_v450 : Ref sig .tc := ⟨.hbm, 575, rfl⟩
abbrev main_v451 : Ref sig .tc := ⟨.hbm, 576, rfl⟩
abbrev main_v452 : Ref sig .tc := ⟨.hbm, 577, rfl⟩
abbrev main_v453 : Ref sig .tc := ⟨.hbm, 578, rfl⟩
abbrev main_v454 : Ref sig .tc := ⟨.hbm, 579, rfl⟩
abbrev main_v455 : Ref sig .tc := ⟨.hbm, 580, rfl⟩
abbrev main_v456 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_v461 : Ref sig .tc := ⟨.hbm, 586, rfl⟩
abbrev main_cst_63 : Ref sig .tc := ⟨.hbm, 587, rfl⟩
abbrev main_v462 : Ref sig .tc := ⟨.hbm, 588, rfl⟩
abbrev main_v463 : Ref sig .tc := ⟨.hbm, 589, rfl⟩
abbrev main_cst_64 : Ref sig .tc := ⟨.hbm, 590, rfl⟩
abbrev main_v464 : Ref sig .tc := ⟨.hbm, 591, rfl⟩
abbrev main_v465 : Ref sig .tc := ⟨.hbm, 592, rfl⟩
abbrev main_cst_65 : Ref sig .tc := ⟨.hbm, 593, rfl⟩
abbrev main_v466 : Ref sig .tc := ⟨.hbm, 594, rfl⟩
abbrev main_v467 : Ref sig .tc := ⟨.hbm, 595, rfl⟩
abbrev main_v468 : Ref sig .tc := ⟨.hbm, 596, rfl⟩
abbrev main_v469 : Ref sig .tc := ⟨.hbm, 597, rfl⟩
abbrev main_v470 : Ref sig .tc := ⟨.hbm, 598, rfl⟩
abbrev main_v471 : Ref sig .tc := ⟨.hbm, 599, rfl⟩
abbrev main_v472 : Ref sig .tc := ⟨.hbm, 600, rfl⟩
abbrev main_v473 : Ref sig .tc := ⟨.hbm, 601, rfl⟩
abbrev main_v474 : Ref sig .tc := ⟨.hbm, 602, rfl⟩
abbrev main_v475 : Ref sig .tc := ⟨.hbm, 603, rfl⟩
abbrev main_v476 : Ref sig .tc := ⟨.hbm, 604, rfl⟩
abbrev main_v477 : Ref sig .tc := ⟨.hbm, 605, rfl⟩
abbrev main_v478 : Ref sig .tc := ⟨.hbm, 606, rfl⟩
abbrev main_cst_66 : Ref sig .tc := ⟨.hbm, 607, rfl⟩
abbrev main_v479 : Ref sig .tc := ⟨.hbm, 608, rfl⟩
abbrev main_v480 : Ref sig .tc := ⟨.hbm, 609, rfl⟩
abbrev main_v481 : Ref sig .tc := ⟨.hbm, 610, rfl⟩
abbrev main_cst_67 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_cst_68 : Ref sig .tc := ⟨.hbm, 615, rfl⟩
abbrev main_v485 : Ref sig .tc := ⟨.hbm, 616, rfl⟩
abbrev main_v486 : Ref sig .tc := ⟨.hbm, 617, rfl⟩
abbrev main_cst_69 : Ref sig .tc := ⟨.hbm, 618, rfl⟩
abbrev main_v487 : Ref sig .tc := ⟨.hbm, 619, rfl⟩
abbrev main_v488 : Ref sig .tc := ⟨.hbm, 620, rfl⟩
abbrev main_v489 : Ref sig .tc := ⟨.hbm, 621, rfl⟩
abbrev main_v490 : Ref sig .tc := ⟨.hbm, 622, rfl⟩
abbrev main_v491 : Ref sig .tc := ⟨.hbm, 623, rfl⟩
abbrev main_v492 : Ref sig .tc := ⟨.hbm, 624, rfl⟩
abbrev main_v493 : Ref sig .tc := ⟨.hbm, 625, rfl⟩
abbrev main_v494 : Ref sig .tc := ⟨.hbm, 626, rfl⟩
abbrev main_cst_70 : Ref sig .tc := ⟨.hbm, 627, rfl⟩
abbrev main_v495 : Ref sig .tc := ⟨.hbm, 628, rfl⟩
abbrev main_v496 : Ref sig .tc := ⟨.hbm, 629, rfl⟩
abbrev main_cst_71 : Ref sig .tc := ⟨.hbm, 630, rfl⟩
abbrev main_v497 : Ref sig .tc := ⟨.hbm, 631, rfl⟩
abbrev main_v498 : Ref sig .tc := ⟨.hbm, 632, rfl⟩
abbrev main_v499 : Ref sig .tc := ⟨.hbm, 633, rfl⟩
abbrev main_v500 : Ref sig .tc := ⟨.hbm, 634, rfl⟩
abbrev main_v501 : Ref sig .tc := ⟨.hbm, 635, rfl⟩
abbrev main_cst_72 : Ref sig .tc := ⟨.hbm, 636, rfl⟩
abbrev main_v502 : Ref sig .tc := ⟨.hbm, 637, rfl⟩
abbrev main_v503 : Ref sig .tc := ⟨.hbm, 638, rfl⟩
abbrev main_cst_73 : Ref sig .tc := ⟨.hbm, 639, rfl⟩
abbrev main_v504 : Ref sig .tc := ⟨.hbm, 640, rfl⟩
abbrev main_v505 : Ref sig .tc := ⟨.hbm, 641, rfl⟩
abbrev main_v506 : Ref sig .tc := ⟨.hbm, 642, rfl⟩
abbrev main_v507 : Ref sig .tc := ⟨.hbm, 643, rfl⟩
abbrev main_v508 : Ref sig .tc := ⟨.hbm, 644, rfl⟩
abbrev main_v509 : Ref sig .tc := ⟨.hbm, 645, rfl⟩
abbrev main_v510 : Ref sig .tc := ⟨.hbm, 646, rfl⟩
abbrev main_v511 : Ref sig .tc := ⟨.hbm, 647, rfl⟩
abbrev main_v512 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_v516 : Ref sig .tc := ⟨.hbm, 652, rfl⟩
abbrev main_cst_74 : Ref sig .tc := ⟨.hbm, 653, rfl⟩
abbrev main_v517 : Ref sig .tc := ⟨.hbm, 654, rfl⟩
abbrev main_v518 : Ref sig .tc := ⟨.hbm, 655, rfl⟩
abbrev main_cst_75 : Ref sig .tc := ⟨.hbm, 656, rfl⟩
abbrev main_v519 : Ref sig .tc := ⟨.hbm, 657, rfl⟩
abbrev main_v520 : Ref sig .tc := ⟨.hbm, 658, rfl⟩
abbrev main_v521 : Ref sig .tc := ⟨.hbm, 659, rfl⟩
abbrev main_v522 : Ref sig .tc := ⟨.hbm, 660, rfl⟩
abbrev main_v523 : Ref sig .tc := ⟨.hbm, 661, rfl⟩
abbrev main_cst_76 : Ref sig .tc := ⟨.hbm, 662, rfl⟩
abbrev main_v524 : Ref sig .tc := ⟨.hbm, 663, rfl⟩
abbrev main_v525 : Ref sig .tc := ⟨.hbm, 664, rfl⟩
abbrev main_cst_77 : Ref sig .tc := ⟨.hbm, 665, rfl⟩
abbrev main_v526 : Ref sig .tc := ⟨.hbm, 666, rfl⟩
abbrev main_v527 : Ref sig .tc := ⟨.hbm, 667, rfl⟩
abbrev main_cst_78 : Ref sig .tc := ⟨.hbm, 668, rfl⟩
abbrev main_v528 : Ref sig .tc := ⟨.hbm, 669, rfl⟩
abbrev main_v529 : Ref sig .tc := ⟨.hbm, 670, rfl⟩
abbrev main_v530 : Ref sig .tc := ⟨.hbm, 671, rfl⟩
abbrev main_v531 : Ref sig .tc := ⟨.hbm, 672, rfl⟩
abbrev main_v532 : Ref sig .tc := ⟨.hbm, 673, rfl⟩
abbrev main_v533 : Ref sig .tc := ⟨.hbm, 674, rfl⟩
abbrev main_v534 : Ref sig .tc := ⟨.hbm, 675, rfl⟩
abbrev main_v535 : Ref sig .tc := ⟨.hbm, 676, rfl⟩
abbrev main_v536 : Ref sig .tc := ⟨.hbm, 677, rfl⟩
abbrev main_v537 : Ref sig .tc := ⟨.hbm, 678, rfl⟩
abbrev main_v538 : Ref sig .tc := ⟨.hbm, 679, rfl⟩
abbrev main_v539 : Ref sig .tc := ⟨.hbm, 680, rfl⟩
abbrev main_v540 : Ref sig .tc := ⟨.hbm, 681, rfl⟩
abbrev main_v541 : Ref sig .tc := ⟨.hbm, 682, rfl⟩
abbrev main_v542 : Ref sig .tc := ⟨.hbm, 683, rfl⟩
abbrev main_v543 : Ref sig .tc := ⟨.hbm, 684, rfl⟩
abbrev main_v544 : Ref sig .tc := ⟨.hbm, 685, rfl⟩
abbrev main_v545 : Ref sig .tc := ⟨.hbm, 686, rfl⟩
abbrev main_v546 : Ref sig .tc := ⟨.hbm, 687, rfl⟩
abbrev main_v547 : Ref sig .tc := ⟨.hbm, 688, rfl⟩
abbrev main_v548 : Ref sig .tc := ⟨.hbm, 689, rfl⟩
abbrev main_v549 : Ref sig .tc := ⟨.hbm, 690, rfl⟩
abbrev main_v550 : Ref sig .tc := ⟨.hbm, 691, rfl⟩
abbrev main_v551 : Ref sig .tc := ⟨.hbm, 692, rfl⟩
abbrev main_v552 : Ref sig .tc := ⟨.hbm, 693, rfl⟩
abbrev main_v553 : Ref sig .tc := ⟨.hbm, 694, rfl⟩
abbrev main_v554 : Ref sig .tc := ⟨.hbm, 695, rfl⟩
abbrev main_cst_79 : Ref sig .tc := ⟨.hbm, 696, rfl⟩
abbrev main_v555 : Ref sig .tc := ⟨.hbm, 697, rfl⟩
abbrev main_v556 : Ref sig .tc := ⟨.hbm, 698, rfl⟩
abbrev main_cst_80 : Ref sig .tc := ⟨.hbm, 699, rfl⟩
abbrev main_v557 : Ref sig .tc := ⟨.hbm, 700, rfl⟩
abbrev main_v558 : Ref sig .tc := ⟨.hbm, 701, rfl⟩
abbrev main_cst_81 : Ref sig .tc := ⟨.hbm, 702, rfl⟩
abbrev main_v559 : Ref sig .tc := ⟨.hbm, 703, rfl⟩
abbrev main_v560 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_v565 : Ref sig .tc := ⟨.hbm, 709, rfl⟩
abbrev main_v566 : Ref sig .tc := ⟨.hbm, 710, rfl⟩
abbrev main_v567 : Ref sig .tc := ⟨.hbm, 711, rfl⟩
abbrev main_call5_cst : Ref sig .tc := ⟨.hbm, 712, rfl⟩
abbrev main_call5_v0 : Ref sig .tc := ⟨.hbm, 713, rfl⟩
abbrev main_v568 : Ref sig .tc := ⟨.hbm, 714, rfl⟩
abbrev main_v569 : Ref sig .tc := ⟨.hbm, 715, rfl⟩
abbrev main_v570 : Ref sig .tc := ⟨.hbm, 716, rfl⟩
abbrev main_v571 : Ref sig .tc := ⟨.hbm, 717, rfl⟩
abbrev main_v572 : Ref sig .tc := ⟨.hbm, 718, rfl⟩
abbrev main_cst_82 : Ref sig .tc := ⟨.hbm, 719, rfl⟩
abbrev main_v573 : Ref sig .tc := ⟨.hbm, 720, rfl⟩
abbrev main_v574 : Ref sig .tc := ⟨.hbm, 721, rfl⟩
abbrev main_cst_83 : Ref sig .tc := ⟨.hbm, 722, rfl⟩
abbrev main_v575 : Ref sig .tc := ⟨.hbm, 723, rfl⟩
abbrev main_v576 : Ref sig .tc := ⟨.hbm, 724, rfl⟩
abbrev main_cst_84 : Ref sig .tc := ⟨.hbm, 725, rfl⟩
abbrev main_v577 : Ref sig .tc := ⟨.hbm, 726, rfl⟩
abbrev main_v578 : Ref sig .tc := ⟨.hbm, 727, rfl⟩
abbrev main_v579 : Ref sig .tc := ⟨.hbm, 728, rfl⟩
abbrev main_v580 : Ref sig .tc := ⟨.hbm, 729, rfl⟩
abbrev main_v581 : Ref sig .tc := ⟨.hbm, 730, rfl⟩
abbrev main_v582 : Ref sig .tc := ⟨.hbm, 731, rfl⟩
abbrev main_v583 : Ref sig .tc := ⟨.hbm, 732, rfl⟩
abbrev main_v584 : Ref sig .tc := ⟨.hbm, 733, rfl⟩

abbrev nD : Nat := 1
abbrev τ : Topo := Topo.v7x

variable {F : FTy → Type} [FloatOps F]
-- ==== Proof.Run.lean ====
module

public import proofs.«01_k».proof.Proof.Gen.KernelIdeal.Frame
public import Idealize.ShloMosaic.Lib.Claim

@[expose] public section

set_option maxRecDepth 16384
set_option maxHeartbeats 2000000

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends with the result array at what the last stretch leaves there and with the
    arguments as they were. -/
theorem run : θ_run defs (onTc (τ := τ) (main (F := F))) ⟨m, fun _ => 0, ρ⟩ (fun r => ∀ c : Dev nD,
      r.2.mem ((c.tc : Thread nD τ).loc main_v236) = W41 m ρ c (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W41 m ρ c b)
    (hfin := fun c s' => by
      iintro ⟨⟨Hh, -⟩, HSI⟩
      unfold StableHlo.held
      imodintro
      iapply (pointsTo_read_all (Pipeline.ucRefs τ sig) (fun b => (((c : Thread nD τ)).1, b)) (W41 m ρ c) s')
      isplitl [Hh] <;> iassumption)
    (hQ := fun s h hz c =>
      ⟨h c _ (mem_uc main_v236 (by decide)),
       (h c _ (mem_uc main_arg0 (by decide))).trans (W41_main_arg0 m ρ c),
       (h c _ (mem_uc main_arg1 (by decide))).trans (W41_main_arg1 m ρ c),
       (h c _ (mem_uc main_arg2 (by decide))).trans (W41_main_arg2 m ρ c),
       (h c _ (mem_uc main_arg3 (by decide))).trans (W41_main_arg3 m ρ c),
       (h c _ (mem_uc main_arg4 (by decide))).trans (W41_main_arg4 m ρ c),
       (h c _ (mem_uc main_arg5 (by decide))).trans (W41_main_arg5 m ρ c),
       (h c _ (mem_uc main_arg6 (by decide))).trans (W41_main_arg6 m ρ c),
       (h c _ (mem_uc main_arg7 (by decide))).trans (W41_main_arg7 m ρ c),
       (h c _ (mem_uc main_arg8 (by decide))).trans (W41_main_arg8 m ρ c),
       (h c _ (mem_uc main_arg9 (by decide))).trans (W41_main_arg9 m ρ c),
       (h c _ (mem_uc main_arg10 (by decide))).trans (W41_main_arg10 m ρ c),
       (h c _ (mem_uc main_arg11 (by decide))).trans (W41_main_arg11 m ρ c),
       (h c _ (mem_uc main_arg12 (by decide))).trans (W41_main_arg12 m ρ c),
       (h c _ (mem_uc main_arg13 (by decide))).trans (W41_main_arg13 m ρ c)⟩)

end Cert.KernelIdeal.Value

end
-- ==== Proof.Spec.lean ====
/-
  The mathematics of the four layers over the extended reals, row by row: plain functions of plain indices, with no
  arrays, no blocks and no programs in them.
-/
module

public import Idealize.ShloMosaic.Lib.Pointwise

@[expose] public section

noncomputable section

namespace Cert.Spec

open Idealize.ShloMosaic

/-- A number that a program writes as a float word. -/
abbrev lit (w : BitVec 32) : EReal := Ideal.ofBits .f32 w

/-- The reciprocal square root that a row's mean square is turned into. -/
def rscale (ms : EReal) : EReal := Ideal.rsqrt (Ideal.div ms (lit 0x44800000#32) + lit 0x358637BD#32)

/-- The root-mean-square norm of a row of 1024. -/
def rms (x g : Fin 1024 → EReal) (d : Fin 1024) : EReal := x d * rscale (∑ k, x k * x k) * g d

/-- A row times a matrix. -/
def rowdot {K N : ℕ} (h : Fin K → EReal) (w : Fin K → Fin N → EReal) (c : Fin N) : EReal := ∑ k, h k * w k c

/-- The tanh form of the Gaussian error linear unit. -/
def gelu (z : EReal) : EReal :=
  lit 0x3F000000#32 * z * (lit 0x3F800000#32 + Ideal.tanh (lit 0x3F4C422A#32 * (z + lit 0x3D372713#32 * (z * z * z))))

/-- The logistic function. -/
def sigm (z : EReal) : EReal := Ideal.div (lit 0x3F800000#32) (lit 0x3F800000#32 + Ideal.exp (-z))

/-- A row of 1024 less its mean. -/
def centred (v : Fin 1024 → EReal) (d : Fin 1024) : EReal := v d - Ideal.div (∑ k, v k) (lit 0x44800000#32)

/-- The layer norm of a row of 1024. -/
def lnorm (v g b : Fin 1024 → EReal) (d : Fin 1024) : EReal :=
  centred v d * rscale (∑ k, centred v k * centred v k) * g d + b d

/-- Some `N` consecutive columns of a matrix, from column `o` on. -/
def cols {K N M : ℕ} (o : ℕ) (h : o + N ≤ M) (w : Fin K → Fin M → EReal) (k : Fin K) (c : Fin N) : EReal :=
  w k ⟨o + c, by omega⟩

/-- The weights of one layer. -/
@[ext]
structure Weights where
  gmix : Fin 1024 → EReal
  win : Fin 1024 → Fin 4608 → EReal
  wa : Fin 512 → Fin 1024 → EReal
  lg : Fin 1024 → EReal
  lb : Fin 1024 → EReal
  ws : Fin 8 → Fin 128 → Fin 128 → EReal
  bs : Fin 8 → Fin 128 → EReal
  wb : Fin 1024 → Fin 1024 → EReal
  wout : Fin 1024 → Fin 1024 → EReal
  gmlp : Fin 1024 → EReal
  wup : Fin 1024 → Fin 4096 → EReal
  wdown : Fin 4096 → Fin 1024 → EReal

variable (W : Weights)

/-- The first 512 columns of the input projection of a token, which the Fourier mixer takes. -/
def arow (x : Fin 1024 → EReal) : Fin 512 → EReal := rowdot (rms x W.gmix) (cols 0 (by decide) W.win)

/-- The gate of the Fourier mixer. -/
def garow (x : Fin 1024 → EReal) (d : Fin 1024) : EReal := sigm (rowdot (rms x W.gmix) (cols 2560 (by decide) W.win) d)

/-- The gate of the spatial mixer. -/
def gbrow (x : Fin 1024 → EReal) (d : Fin 1024) : EReal := sigm (rowdot (rms x W.gmix) (cols 3584 (by decide) W.win) d)

/-- The rows that the spatial mixer multiplies by. -/
def urow (x : Fin 1024 → EReal) (d : Fin 1024) : EReal := gelu (rowdot (rms x W.gmix) (cols 512 (by decide) W.win) d)

/-- The rows that the spatial mixer mixes, normed. -/
def vrow (x : Fin 1024 → EReal) : Fin 1024 → EReal :=
  lnorm (fun e => gelu (rowdot (rms x W.gmix) (cols 1536 (by decide) W.win) e)) W.lg W.lb

/-- Position `q` of a chunk of 128 positions after the mixing of each head's 128 channels over the chunk. -/
def mix (ws : Fin 8 → Fin 128 → Fin 128 → EReal) (bias : Fin 128 → Fin 1024 → EReal) (vn : Fin 128 → Fin 1024 → EReal)
    (q : Fin 128) (d : Fin 1024) : EReal :=
  (∑ p : Fin 128, ws ⟨d / 128, by omega⟩ q p * vn p d) + bias q d

/-- The bias of the mixing, one for a head and a position. -/
def biasOf (bs : Fin 8 → Fin 128 → EReal) (q : Fin 128) (d : Fin 1024) : EReal := bs ⟨d / 128, by omega⟩ q

/-- What the spatial mixer, gated, gives position `q` of a chunk whose tokens are `xs`. -/
def mbrow (xs : Fin 128 → Fin 1024 → EReal) (q : Fin 128) (d : Fin 1024) : EReal :=
  gbrow W (xs q) d * rowdot (fun e => urow W (xs q) e * mix W.ws (biasOf W.bs) (fun p => vrow W (xs p)) q e) W.wb d

/-- Row `p` of the chunk of 128 rows that row `R` lies in. -/
def chunkRow (R : Fin 65536) (p : Fin 128) : Fin 65536 := ⟨128 * (R / 128) + p, by omega⟩

/-- The position of row `R` in its chunk. -/
def chunkPos (R : Fin 65536) : Fin 128 := ⟨R % 128, by omega⟩

/-- Row `r` of block `t` of 512 rows. -/
def blockRow (t : Fin 128) (r : Fin 512) : Fin 65536 := ⟨t.val * 512 + r.val, by omega⟩

/-- The example that block `t` of 512 positions is part of. -/
def blockEx (t : Fin 128) : Fin 32 := ⟨t.val / 4, by omega⟩

/-- The position that row `r` of block `t` is. -/
def blockPos (t : Fin 128) (r : Fin 512) : Fin 2048 := ⟨t.val % 4 * 512 + r.val, by omega⟩

/-- A row of 512 channels times a 64 by 64 table, group of 64 channels by group. -/
def group64 (a : Fin 512 → EReal) (T : Fin 64 → Fin 64 → EReal) (c : Fin 512) : EReal :=
  ∑ k : Fin 64, a ⟨64 * (c / 64) + k, by omega⟩ * T k ⟨c % 64, by omega⟩

/-- The angle of the discrete Fourier transforms: a step times a product modulo the length. -/
def angle (n : ℕ) (step : EReal) (j k : ℕ) : EReal := (((j * k % n : ℕ) : ℝ) : EReal) * step

/-- The cosine table of the channels. -/
def cosC (j k : Fin 64) : EReal := Ideal.cos (angle 64 (lit 0x3DC90FDB#32) j k) * lit 0x3E000000#32
/-- The sine table of the channels. -/
def sinC (j k : Fin 64) : EReal := Ideal.sin (angle 64 (lit 0x3DC90FDB#32) j k) * lit 0x3E000000#32
/-- The cosine table of the positions. -/
def cosS (j k : Fin 2048) : EReal := Ideal.cos (angle 2048 (lit 0x3B490FDB#32) j k) * lit 0x3CB504F3#32
/-- The sine table of the positions, with the other sign. -/
def nsinS (j k : Fin 2048) : EReal := -Ideal.sin (angle 2048 (lit 0x3B490FDB#32) j k) * lit 0x3CB504F3#32

/-- A sequence of 2048 tokens for each of 32 examples. -/
abbrev Seqs := Fin 32 → Fin 2048 → Fin 1024 → EReal

/-- The Fourier mixer at one position: the real part of the transform of the positions. -/
def yrow (p q : Fin 2048 → Fin 512 → EReal) (k : Fin 2048) (c : Fin 512) : EReal :=
  (∑ s, cosS k s * p s c) + ∑ s, nsinS k s * q s c

/-- A row of a table of two halves of 2048 times an array of two halves of 512 columns, half by half. -/
def halves (D : Fin 4096 → EReal) (P : Fin 2048 → Fin 1024 → EReal) (c : Fin 512) : EReal :=
  (∑ s : Fin 2048, D ⟨0 + s, by omega⟩ * P s ⟨0 + c, by omega⟩) + ∑ s : Fin 2048, D ⟨2048 + s, by omega⟩ * P s ⟨512 + c, by omega⟩

/-- The tokens after both mixers, from the transforms of the channels, the gate and the gated spatial mixer. -/
def outrow (x ga mb : Fin 1024 → EReal) (y : Fin 512 → EReal) (wa : Fin 512 → Fin 1024 → EReal)
    (wout : Fin 1024 → Fin 1024 → EReal) (d : Fin 1024) : EReal :=
  x d + rowdot (fun e => ga e * rowdot y wa e + mb e) wout d

/-- The channel mixing of a token, with the token added. -/
def mlprow (x g : Fin 1024 → EReal) (wup : Fin 1024 → Fin 4096 → EReal) (wdown : Fin 4096 → Fin 1024 → EReal)
    (d : Fin 1024) : EReal :=
  x d + rowdot (fun f => max (rowdot (rms x g) wup f) 0 * max (rowdot (rms x g) wup f) 0) wdown d

/-- The tokens after the two mixers of a layer. -/
def mixed (X : Seqs) : Seqs := fun b s =>
  outrow (X b s) (garow W (X b s))
    (mbrow W (fun p => X b ⟨128 * (s / 128) + p, by omega⟩) ⟨s % 128, by omega⟩)
    (yrow (fun s => group64 (arow W (X b s)) cosC) (fun s => group64 (arow W (X b s)) sinC) s) W.wa W.wout

/-- One layer. -/
def layer (X : Seqs) : Seqs := fun b s => mlprow (mixed W X b s) W.gmlp W.wup W.wdown

/-- The four layers, each with its weights, and the final norm. -/
def model (Ws : Fin 4 → Weights) (g : Fin 1024 → EReal) (X : Seqs) : Seqs := fun b s =>
  rms (layer (Ws 3) (layer (Ws 2) (layer (Ws 1) (layer (Ws 0) X))) b s) g

end Cert.Spec

end
-- ==== Proof.Words.lean ====
module

public import proofs.«01_k».proof.Proof.Spec
public import Idealize.ShloMosaic.Lib.Affine
public import Idealize.ShloMosaic.Lib.WordCmp

@[expose] public section

set_option maxRecDepth 16384
set_option maxHeartbeats 2000000

noncomputable section

namespace Cert.Spec

open Idealize.ShloMosaic

/-- The signed remainder of two small numbers as words is their remainder. -/
theorem rem_word (a n : ℕ) (ha : a < 2 ^ 31) (hn : 0 < n) (hn' : n < 2 ^ 31) :
    IntOp.remsi .host (BitVec.ofNat 32 a) (BitVec.ofNat 32 n) = BitVec.ofNat 32 (a % n) := by
  have hx : (BitVec.ofNat 32 a).toNat = a := by rw [BitVec.toNat_ofNat]; omega
  apply BitVec.eq_of_toNat_eq
  rw [IntOp.toNat_remsi _ (by rw [hx]; omega) n hn (by omega), hx, BitVec.toNat_ofNat]
  have := Nat.mod_lt a hn
  omega

/-- A remainder is not below zero. -/
theorem rem_sign (a n : ℕ) (hn : 0 < n) (hn' : n < 2 ^ 31) :
    IntOp.cmpi .slt (BitVec.ofNat 32 (a % n)) 0#32 = 0#1 := by
  have := Nat.mod_lt a hn
  rw [show (0#32 : BitVec 32) = BitVec.ofNat 32 0 from rfl, WordCmp.cmpi_slt_ofNat (by omega) (by omega)]
  simp

/-- A small number as a word, made a float. -/
theorem word_real (a : ℕ) (ha : a < 2 ^ (32 - 1)) :
    FloatOps.sitofp (F := Ideal) .f32 (BitVec.ofNat 32 a) = ((a : ℝ) : EReal) := by
  show (((BitVec.ofNat 32 a).toInt : ℝ) : EReal) = _
  rw [WordCmp.toInt_ofNat_of_lt ha]
  simp

/-- A selection on the equality of two small numbers as words. -/
theorem select_word {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b
  · rw [if_pos h, decide_eq_true h]; rfl
  · rw [if_neg h, decide_eq_false h]; rfl

/-- A sum over 512 channels of which only the 64 of one group count. -/
theorem sum_group (a : Fin 512 → EReal) (T : Fin 64 → EReal) (g : ℕ) (hg : g < 8) :
    ∑ k : Fin 512, a k * (if k.val / 64 = g then T ⟨k % 64, by omega⟩ else 0)
      = ∑ k : Fin 64, a ⟨64 * g + k, by omega⟩ * T k := by
  rw [← (finProdFinEquiv (m := 8) (n := 64)).sum_comp, Fintype.sum_prod_type, Finset.sum_eq_single ⟨g, hg⟩]
  · refine Finset.sum_congr rfl fun k _ => ?_
    have h1 : (finProdFinEquiv (m := 8) (n := 64) (⟨g, hg⟩, k)).val = 64 * g + k := by
      simp [finProdFinEquiv]; omega
    rw [if_pos (by rw [h1]; omega)]
    congr 1
    · exact congrArg a (Fin.ext h1)
    · exact congrArg T (Fin.ext (by show _ % 64 = _; rw [h1]; omega))
  · intro b _ hb
    refine Finset.sum_eq_zero fun k _ => ?_
    have h1 : (finProdFinEquiv (m := 8) (n := 64) (b, k)).val = 64 * b + k := by
      simp [finProdFinEquiv]; omega
    rw [if_neg, mul_zero]
    rw [h1]
    intro h
    exact hb (Fin.ext (by show b.val = g; omega))
  · intro h
    exact absurd (Finset.mem_univ _) h

/-- The 512 channels times a half of a table that is zero between the groups. -/
theorem rowdot_group (a : Fin 512 → EReal) (cs : Fin 512 → Fin 1024 → EReal) (T : Fin 64 → Fin 64 → EReal) (o : ℕ)
    (ho : o + 512 ≤ 1024)
    (h : ∀ i j : Fin 512, cs i ⟨o + j, by omega⟩
      = if i.val / 64 = j.val / 64 then T ⟨i % 64, by omega⟩ ⟨j % 64, by omega⟩ else 0) (e : Fin 512) :
    rowdot a cs ⟨o + e, by omega⟩ = group64 a T e :=
  (Finset.sum_congr rfl fun k _ => congrArg (a k * ·) (h k e)).trans
    (sum_group a (fun k => T k ⟨e % 64, by omega⟩) (e / 64) (by omega))

/-- The two halves of the transform of the positions, over the two halves of the transform of the channels. -/
theorem halves_eq (D : Fin 4096 → EReal) (P : Fin 2048 → Fin 1024 → EReal) (a : Fin 2048 → Fin 512 → EReal)
    (cs : Fin 512 → Fin 1024 → EReal) (k : Fin 2048)
    (hD1 : ∀ s : Fin 2048, D ⟨0 + s, by omega⟩ = cosS k s) (hD2 : ∀ s : Fin 2048, D ⟨2048 + s, by omega⟩ = nsinS k s)
    (hP : ∀ s d, P s d = rowdot (a s) cs d)
    (hc : ∀ i j : Fin 512, cs i ⟨0 + j, by omega⟩
      = if i.val / 64 = j.val / 64 then cosC ⟨i % 64, by omega⟩ ⟨j % 64, by omega⟩ else 0)
    (hs : ∀ i j : Fin 512, cs i ⟨512 + j, by omega⟩
      = if i.val / 64 = j.val / 64 then sinC ⟨i % 64, by omega⟩ ⟨j % 64, by omega⟩ else 0) :
    halves D P = yrow (fun s => group64 (a s) cosC) (fun s => group64 (a s) sinC) k := by
  funext e
  unfold halves yrow
  congr 1
  · refine Finset.sum_congr rfl fun s _ => ?_
    rw [hD1, hP, rowdot_group _ _ _ 0 (by omega) hc]
  · refine Finset.sum_congr rfl fun s _ => ?_
    rw [hD2, hP, rowdot_group _ _ _ 512 (by omega) hs]

/-- The row of all tokens that position `s` of example `b` is. -/
def flat (b : Fin 32) (s : Fin 2048) : Fin 65536 := ⟨b * 2048 + s, by omega⟩

/-- The example of a row. -/
theorem flat_div (b : Fin 32) (s : Fin 2048) : (⟨(flat b s) / 2048, by omega⟩ : Fin 32) = b := by
  apply Fin.ext
  show (b.val * 2048 + s.val) / 2048 = b.val
  omega

/-- The position of a row. -/
theorem flat_mod (b : Fin 32) (s : Fin 2048) : (⟨(flat b s) % 2048, by omega⟩ : Fin 2048) = s := by
  apply Fin.ext
  show (b.val * 2048 + s.val) % 2048 = s.val
  omega

/-- A chunk of a block is a chunk of the rows. -/
theorem chunkRow_block (t : Fin 128) (r : Fin 512) (p : Fin 128) :
    blockRow t ⟨128 * (r / 128) + p, by omega⟩ = chunkRow (blockRow t r) p := by
  refine Fin.ext ?_
  show t.val * 512 + (128 * (r.val / 128) + p.val) = 128 * ((t.val * 512 + r.val) / 128) + p.val
  omega

/-- The position of a row in its chunk, from its block. -/
theorem chunkPos_block (t : Fin 128) (r : Fin 512) : (⟨r % 128, by omega⟩ : Fin 128) = chunkPos (blockRow t r) := by
  refine Fin.ext ?_
  show r.val % 128 = (t.val * 512 + r.val) % 128
  omega

/-- The rows of a chunk lie in one example. -/
theorem chunkRow_flat (b : Fin 32) (s : Fin 2048) (p : Fin 128) :
    chunkRow (flat b s) p = flat b ⟨128 * (s / 128) + p, by omega⟩ := by
  apply Fin.ext
  show 128 * ((b.val * 2048 + s.val) / 128) + p.val = b.val * 2048 + (128 * (s.val / 128) + p.val)
  omega

/-- The position in the chunk. -/
theorem chunkPos_flat (b : Fin 32) (s : Fin 2048) : chunkPos (flat b s) = ⟨s % 128, by omega⟩ := by
  apply Fin.ext
  show (b.val * 2048 + s.val) % 128 = s.val % 128
  omega

/-- The tokens after both mixers, from the arrays that the kernel mixes: the tokens, the two gated parts, a row of the
    table of the positions, and the channels' transforms as one product with a table of all channels. -/
theorem mixed_of (w : Weights) (X : Seqs) (b : Fin 32) (s : Fin 2048) (d : Fin 1024) (x ga mb : Fin 1024 → EReal)
    (D : Fin 4096 → EReal) (P : Fin 2048 → Fin 1024 → EReal) (T : Fin 512 → Fin 1024 → EReal)
    (wa : Fin 512 → Fin 1024 → EReal) (wout : Fin 1024 → Fin 1024 → EReal)
    (hx : ∀ k, x k = X b s k) (hga : ∀ k, ga k = garow w (X b s) k)
    (hmb : ∀ k, mb k = mbrow w (fun p => X b ⟨128 * (s / 128) + p, by omega⟩) ⟨s % 128, by omega⟩ k)
    (hwa : ∀ k e, wa k e = w.wa k e) (hwout : ∀ k e, wout k e = w.wout k e)
    (hD1 : ∀ i : Fin 2048, D ⟨0 + i, by omega⟩ = cosS s i) (hD2 : ∀ i : Fin 2048, D ⟨2048 + i, by omega⟩ = nsinS s i)
    (hP : ∀ i e, P i e = rowdot (arow w (X b i)) T e)
    (hc : ∀ i j : Fin 512, T i ⟨0 + j, by omega⟩
      = if i.val / 64 = j.val / 64 then cosC ⟨i % 64, by omega⟩ ⟨j % 64, by omega⟩ else 0)
    (hs : ∀ i j : Fin 512, T i ⟨512 + j, by omega⟩
      = if i.val / 64 = j.val / 64 then sinC ⟨i % 64, by omega⟩ ⟨j % 64, by omega⟩ else 0) :
    outrow x ga mb (halves D P) wa wout d = mixed w X b s d := by
  obtain rfl : x = X b s := funext hx
  obtain rfl : ga = garow w (X b s) := funext hga
  obtain rfl : mb = _ := funext hmb
  obtain rfl : wa = w.wa := funext fun k => funext fun e => hwa k e
  obtain rfl : wout = w.wout := funext fun k => funext fun e => hwout k e
  rw [halves_eq D P (fun i => arow w (X b i)) T s hD1 hD2 hP hc hs]
  rfl

end Cert.Spec

end
-- ==== Proof.Host0.lean ====
module

public import proofs.«01_k».proof.Proof.Words
public import proofs.«01_k».proof.Proof.Gen.KernelIdeal.Frame
public import Idealize.ShloMosaic.Lib.Claim
public import Idealize.ShloMosaic.Lib.Pointwise

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

variable (W : Valuation τ sig (Elt Ideal))

/-- The numbers below 512. -/
theorem s0_v0  (i : Fin 512) :
    StableHlo.after hostOps0 W (Proc.devRef .tc main_v0) (ix1 i) = BitVec.ofNat 32 i := by
  entry_read
  pointwise [hlo_ix]

/-- The numbers below 512, as a column. -/
theorem s0_v1  (i : Fin 512) :
    StableHlo.after hostOps0 W (Proc.devRef .tc main_v1) (ix2 i 0) = BitVec.ofNat 32 i := by
  entry_read
  pointwise [hlo_ix]

/-- A constant of the tables. -/
theorem s0_c : StableHlo.after hostOps0 W (Proc.devRef .tc main_c) = constantI S_ 32 64#32 := by
  entry_read
  first | done | rfl

/-- The quotients by 64. -/
theorem s1_v2 (h : ∀ i : Fin 512, W (Proc.devRef .tc main_v1) (ix2 i 0) = BitVec.ofNat 32 i) (hc : W (Proc.devRef .tc main_c) = constantI S_ 32 64#32) (i : Fin 512) :
    StableHlo.after hostOps0_1 W (Proc.devRef .tc main_v2) (ix2 i 0) = BitVec.ofNat 32 (i / 64) := by
  entry_read
  simp only [StableHlo.TRef.toBuf, StableHlo.TRef.ofBuf, cast_cast, cast_eq]
  pointwise [h, hc, hlo_ix]
  revert i
  decide +kernel

/-- The numbers below 512, as a row. -/
theorem s2_v3 (h0 : ∀ i : Fin 512, W (Proc.devRef .tc main_v0) (ix1 i) = BitVec.ofNat 32 i) (i : Fin 512) :
    StableHlo.after hostOps0_2 W (Proc.devRef .tc main_v3) (ix2 0 i) = BitVec.ofNat 32 i := by
  entry_read
  pointwise [h0]

/-- A constant of the tables. -/
theorem s2_c : StableHlo.after hostOps0_2 W (Proc.devRef .tc main_c_0) = constantI S_ 32 64#32 := by
  entry_read
  first | done | rfl

/-- The quotients by 64. -/
theorem s3_v4 (h : ∀ i : Fin 512, W (Proc.devRef .tc main_v3) (ix2 0 i) = BitVec.ofNat 32 i) (hc : W (Proc.devRef .tc main_c_0) = constantI S_ 32 64#32) (i : Fin 512) :
    StableHlo.after hostOps0_3 W (Proc.devRef .tc main_v4) (ix2 0 i) = BitVec.ofNat 32 (i / 64) := by
  entry_read
  simp only [StableHlo.TRef.toBuf, StableHlo.TRef.ofBuf, cast_cast, cast_eq]
  pointwise [h, hc, hlo_ix]
  revert i
  decide +kernel

/-- Whether two channels are of one group. -/
theorem s4_v7 (h2 : ∀ i : Fin 512, W (Proc.devRef .tc main_v2) (ix2 i 0) = BitVec.ofNat 32 (i / 64)) (h4 : ∀ i : Fin 512, W (Proc.devRef .tc main_v4) (ix2 0 i) = BitVec.ofNat 32 (i / 64)) (i j : Fin 512) :
    StableHlo.after hostOps0_4 W (Proc.devRef .tc main_v7) (ix2 i j) = IntOp.cmpi .eq (BitVec.ofNat 32 (i / 64)) (BitVec.ofNat 32 (j / 64)) := by
  entry_read
  pointwise [h2, h4]

/-- The numbers below 512, as a column. -/
theorem s4_v8 (h0 : ∀ i : Fin 512, W (Proc.devRef .tc main_v0) (ix1 i) = BitVec.ofNat 32 i) (i : Fin 512) :
    StableHlo.after hostOps0_4 W (Proc.devRef .tc main_v8) (ix2 i 0) = BitVec.ofNat 32 i := by
  entry_read
  pointwise [h0]

/-- A constant of the tables. -/
theorem s4_c : StableHlo.after hostOps0_4 W (Proc.devRef .tc main_c_1) = constantI S_ 32 64#32 := by
  entry_read
  first | done | rfl

/-- The remainders by 64. -/
theorem s5_v9 (h : ∀ i : Fin 512, W (Proc.devRef .tc main_v8) (ix2 i 0) = BitVec.ofNat 32 i) (hc : W (Proc.devRef .tc main_c_1) = constantI S_ 32 64#32) (i : Fin 512) :
    StableHlo.after hostOps0_5 W (Proc.devRef .tc main_v9) (ix2 i 0) = BitVec.ofNat 32 (i % 64) := by
  entry_read
  simp only [StableHlo.TRef.toBuf, StableHlo.TRef.ofBuf, cast_cast, cast_eq]
  pointwise [h, hc, hlo_ix]
  revert i
  decide +kernel

/-- The numbers below 512, as a row. -/
theorem s6_v10 (h0 : ∀ i : Fin 512, W (Proc.devRef .tc main_v0) (ix1 i) = BitVec.ofNat 32 i) (i : Fin 512) :
    StableHlo.after hostOps0_6 W (Proc.devRef .tc main_v10) (ix2 0 i) = BitVec.ofNat 32 i := by
  entry_read
  pointwise [h0]

/-- A constant of the tables. -/
theorem s6_c : StableHlo.after hostOps0_6 W (Proc.devRef .tc main_c_2) = constantI S_ 32 64#32 := by
  entry_read
  first | done | rfl

/-- The remainders by 64. -/
theorem s7_v11 (h : ∀ i : Fin 512, W (Proc.devRef .tc main_v10) (ix2 0 i) = BitVec.ofNat 32 i) (hc : W (Proc.devRef .tc main_c_2) = constantI S_ 32 64#32) (i : Fin 512) :
    StableHlo.after hostOps0_7 W (Proc.devRef .tc main_v11) (ix2 0 i) = BitVec.ofNat 32 (i % 64) := by
  entry_read
  simp only [StableHlo.TRef.toBuf, StableHlo.TRef.ofBuf, cast_cast, cast_eq]
  pointwise [h, hc, hlo_ix]
  revert i
  decide +kernel

/-- The products of the remainders. -/
theorem s8_v14 (h9 : ∀ i : Fin 512, W (Proc.devRef .tc main_v9) (ix2 i 0) = BitVec.ofNat 32 (i % 64)) (h11 : ∀ i : Fin 512, W (Proc.devRef .tc main_v11) (ix2 0 i) = BitVec.ofNat 32 (i % 64)) (i j : Fin 512) :
    StableHlo.after hostOps0_8 W (Proc.devRef .tc main_v14) (ix2 i j) = BitVec.ofNat 32 (i % 64 * (j % 64)) := by
  entry_read
  pointwise [h9, h11]
  exact (BitVec.ofNat_mul ..).symm

/-- A constant of the tables. -/
theorem s8_c : StableHlo.after hostOps0_8 W (Proc.devRef .tc main_c_3) = constantI S_ 32 64#32 := by
  entry_read
  first | done | rfl

/-- The products modulo 64. -/
theorem s9_v15 (h : ∀ i j : Fin 512, W (Proc.devRef .tc main_v14) (ix2 i j) = BitVec.ofNat 32 (i % 64 * (j % 64))) (hc : W (Proc.devRef .tc main_c_3) = constantI S_ 32 64#32) (i j : Fin 512) :
    StableHlo.after hostOps0_9 W (Proc.devRef .tc main_v15) (ix2 i j) = BitVec.ofNat 32 (i % 64 * (j % 64) % 64) := by
  entry_read
  simp only [StableHlo.TRef.toBuf, StableHlo.TRef.ofBuf, cast_cast, cast_eq]
  have ha : i.val % 64 * (j.val % 64) < 2 ^ 31 := by
    have := Nat.mul_lt_mul'' (show i.val % 64 < 64 by omega) (show j.val % 64 < 64 by omega)
    omega
  pointwise [h, hc, hlo_ix]
  rw [rem_word _ _ ha (by omega) (by omega), rem_sign _ _ (by omega) (by omega)]
  exact if_neg fun h => h.1 rfl

/-- The angles of the channels. -/
theorem s10_v18 (h15 : ∀ i j : Fin 512, W (Proc.devRef .tc main_v15) (ix2 i j) = BitVec.ofNat 32 (i % 64 * (j % 64) % 64)) (i j : Fin 512) :
    StableHlo.after hostOps0_10 W (Proc.devRef .tc main_v18) (ix2 i j) = angle 64 (lit 0x3DC90FDB#32) (i % 64) (j % 64) := by
  entry_read
  have hm : i.val % 64 * (j.val % 64) % 64 < 2 ^ (32 - 1) := by
    have := Nat.mod_lt (i.val % 64 * (j.val % 64)) (show 0 < 64 by omega)
    omega
  pointwise [h15, angle, lit]
  rw [word_real _ hm]

/-- The cosines of the channels. -/
theorem s10_v21 (h15 : ∀ i j : Fin 512, W (Proc.devRef .tc main_v15) (ix2 i j) = BitVec.ofNat 32 (i % 64 * (j % 64) % 64)) (i j : Fin 512) :
    StableHlo.after hostOps0_10 W (Proc.devRef .tc main_v21) (ix2 i j) = cosC ⟨i % 64, by omega⟩ ⟨j % 64, by omega⟩ := by
  entry_read
  have hm : i.val % 64 * (j.val % 64) % 64 < 2 ^ (32 - 1) := by
    have := Nat.mod_lt (i.val % 64 * (j.val % 64)) (show 0 < 64 by omega)
    omega
  pointwise [h15, angle, lit, cosC]
  rw [word_real _ hm]

/-- A constant of the tables. -/
theorem s10_c : StableHlo.after hostOps0_10 W (Proc.devRef .tc main_cst_5) = constant (F := Ideal) S_ .f32 0x00000000#32 := by
  entry_read
  first | done | rfl

/-- The table of the channels, zero between groups. -/
theorem s11_v22 (h7 : ∀ i j : Fin 512, W (Proc.devRef .tc main_v7) (ix2 i j) = IntOp.cmpi .eq (BitVec.ofNat 32 (i / 64)) (BitVec.ofNat 32 (j / 64))) (ht : ∀ i j : Fin 512, W (Proc.devRef .tc main_v21) (ix2 i j) = cosC ⟨i % 64, by omega⟩ ⟨j % 64, by omega⟩) (hc : W (Proc.devRef .tc main_cst_5) = constant (F := Ideal) S_ .f32 0x00000000#32) (i j : Fin 512) :
    StableHlo.after hostOps0_11 W (Proc.devRef .tc main_v22) (ix2 i j) = if i.val / 64 = j.val / 64 then cosC ⟨i % 64, by omega⟩ ⟨j % 64, by omega⟩ else 0 := by
  entry_read
  simp only [StableHlo.TRef.toBuf, StableHlo.TRef.ofBuf, cast_cast, cast_eq]
  pointwise [h7, ht, hc]
  exact select_word _ _ (by omega) (by omega) _ _

/-- The sines of the channels. -/
theorem s12_v25 (h18 : ∀ i j : Fin 512, W (Proc.devRef .tc main_v18) (ix2 i j) = angle 64 (lit 0x3DC90FDB#32) (i % 64) (j % 64)) (i j : Fin 512) :
    StableHlo.after hostOps0_12 W (Proc.devRef .tc main_v25) (ix2 i j) = sinC ⟨i % 64, by omega⟩ ⟨j % 64, by omega⟩ := by
  entry_read
  pointwise [h18, lit, sinC]

/-- A constant of the tables. -/
theorem s12_c : StableHlo.after hostOps0_12 W (Proc.devRef .tc main_cst_7) = constant (F := Ideal) S_ .f32 0x00000000#32 := by
  entry_read
  first | done | rfl

/-- The table of the channels, zero between groups. -/
theorem s13_v26 (h7 : ∀ i j : Fin 512, W (Proc.devRef .tc main_v7) (ix2 i j) = IntOp.cmpi .eq (BitVec.ofNat 32 (i / 64)) (BitVec.ofNat 32 (j / 64))) (ht : ∀ i j : Fin 512, W (Proc.devRef .tc main_v25) (ix2 i j) = sinC ⟨i % 64, by omega⟩ ⟨j % 64, by omega⟩) (hc : W (Proc.devRef .tc main_cst_7) = constant (F := Ideal) S_ .f32 0x00000000#32) (i j : Fin 512) :
    StableHlo.after hostOps0_13 W (Proc.devRef .tc main_v26) (ix2 i j) = if i.val / 64 = j.val / 64 then sinC ⟨i % 64, by omega⟩ ⟨j % 64, by omega⟩ else 0 := by
  entry_read
  simp only [StableHlo.TRef.toBuf, StableHlo.TRef.ofBuf, cast_cast, cast_eq]
  pointwise [h7, ht, hc]
  exact select_word _ _ (by omega) (by omega) _ _

/-- A half of the table of the channels. -/
theorem s14_v28_lo  (i j : Fin 512) :
    StableHlo.after hostOps0_14 W (Proc.devRef .tc main_v28) (ix2 i ⟨0 + j, by omega⟩) = W (Proc.devRef .tc main_v22) (ix2 i j) := by
  entry_read
  pointwise []

/-- A half of the table of the channels. -/
theorem s14_v28_hi  (i j : Fin 512) :
    StableHlo.after hostOps0_14 W (Proc.devRef .tc main_v28) (ix2 i ⟨512 + j, by omega⟩) = W (Proc.devRef .tc main_v26) (ix2 i j) := by
  entry_read
  pointwise []

/-- The products of two positions. -/
theorem s14_v34  (i j : Fin 2048) :
    StableHlo.after hostOps0_14 W (Proc.devRef .tc main_v34) (ix2 i j) = BitVec.ofNat 32 (i * j) := by
  entry_read
  pointwise [hlo_ix]
  exact (BitVec.ofNat_mul ..).symm

/-- A constant of the tables. -/
theorem s14_c : StableHlo.after hostOps0_14 W (Proc.devRef .tc main_c_8) = constantI S_ 32 2048#32 := by
  entry_read
  first | done | rfl

/-- The products modulo 2048. -/
theorem s15_v35 (h : ∀ i j : Fin 2048, W (Proc.devRef .tc main_v34) (ix2 i j) = BitVec.ofNat 32 (i.val * j.val)) (hc : W (Proc.devRef .tc main_c_8) = constantI S_ 32 2048#32) (i j : Fin 2048) :
    StableHlo.after hostOps0_15 W (Proc.devRef .tc main_v35) (ix2 i j) = BitVec.ofNat 32 (i.val * j.val % 2048) := by
  entry_read
  simp only [StableHlo.TRef.toBuf, StableHlo.TRef.ofBuf, cast_cast, cast_eq]
  have ha : i.val * (j.val) < 2 ^ 31 := by
    have := Nat.mul_lt_mul'' (show i.val < 2048 by omega) (show j.val < 2048 by omega)
    omega
  pointwise [h, hc, hlo_ix]
  rw [rem_word _ _ ha (by omega) (by omega), rem_sign _ _ (by omega) (by omega)]
  exact if_neg fun h => h.1 rfl

/-- A half of the table of the positions. -/
theorem s16_v47_lo (h35 : ∀ i j : Fin 2048, W (Proc.devRef .tc main_v35) (ix2 i j) = BitVec.ofNat 32 (i * j % 2048)) (i j : Fin 2048) :
    StableHlo.after hostOps0_16 W (Proc.devRef .tc main_v47) (ix2 i ⟨0 + j, by omega⟩) = cosS i j := by
  entry_read
  have hm : i.val * j.val % 2048 < 2 ^ (32 - 1) := by
    have := Nat.mod_lt (i.val * j.val) (show 0 < 2048 by omega)
    omega
  pointwise [h35, angle, lit, cosS]
  rw [word_real _ hm]

/-- A half of the table of the positions. -/
theorem s16_v47_hi (h35 : ∀ i j : Fin 2048, W (Proc.devRef .tc main_v35) (ix2 i j) = BitVec.ofNat 32 (i * j % 2048)) (i j : Fin 2048) :
    StableHlo.after hostOps0_16 W (Proc.devRef .tc main_v47) (ix2 i ⟨2048 + j, by omega⟩) = nsinS i j := by
  entry_read
  have hm : i.val * j.val % 2048 < 2 ^ (32 - 1) := by
    have := Nat.mod_lt (i.val * j.val) (show 0 < 2048 by omega)
    omega
  pointwise [h35, angle, lit, nsinS]
  rw [word_real _ hm]

end Cert.KernelIdeal.Value

end
-- ==== Proof.Host1.lean ====
module

public import proofs.«01_k».proof.Proof.Host0

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

variable (m : (ℓ : Loc nD τ sig) → Buf (Elt Ideal) ℓ) (ρ : Dev nD → PrngReg) (c : Dev nD)

/-- What an argument holds. -/
abbrev inp (b : Ref sig .tc) : Buf (Elt Ideal) ((c : Thread nD τ).loc b) := m ((c : Thread nD τ).loc b)

/-- The weights of layer `l` that the arguments hold. -/
def weights (l : Fin 4) : Weights where
  gmix k := inp m c main_arg1 (ix2 l k)
  win k e := inp m c main_arg2 (ix3 l k e)
  wa k e := inp m c main_arg3 (ix3 l k e)
  lg k := inp m c main_arg4 (ix2 l k)
  lb k := inp m c main_arg5 (ix2 l k)
  ws h q p := inp m c main_arg6 (ix4 l h q p)
  bs h q := inp m c main_arg7 (ix3 l h q)
  wb k e := inp m c main_arg8 (ix3 l k e)
  wout k e := inp m c main_arg9 (ix3 l k e)
  gmlp k := inp m c main_arg10 (ix2 l k)
  wup k e := inp m c main_arg11 (ix3 l k e)
  wdown k e := inp m c main_arg12 (ix3 l k e)

/-- The tokens that the first argument holds. -/
def tokens : Seqs := fun b s k => inp m c main_arg0 (ix3 b s k)

/-- The tokens after one layer. -/
def tokens1 : Seqs := layer (weights m c 0) (tokens m c)
/-- The tokens after two layers. -/
def tokens2 : Seqs := layer (weights m c 1) (tokens1 m c)
/-- The tokens after three layers. -/
def tokens3 : Seqs := layer (weights m c 2) (tokens2 m c)

/-- A buffer at its stretch of the host. -/
theorem t1_v0 (i : Fin 512) : W1 m ρ c (Proc.devRef .tc main_v0) (ix1 i) = BitVec.ofNat 32 i :=
  s0_v0 (W0 m ρ c) i

/-- A buffer at its stretch of the host. -/
theorem t2_v2 (i : Fin 512) : W2 m ρ c (Proc.devRef .tc main_v2) (ix2 i 0) = BitVec.ofNat 32 (i / 64) :=
  s1_v2 (W1 m ρ c) (s0_v1 (W0 m ρ c)) (s0_c (W0 m ρ c)) i

/-- A buffer at its stretch of the host. -/
theorem t2_v0 (i : Fin 512) : W2 m ρ c (Proc.devRef .tc main_v0) (ix1 i) = BitVec.ofNat 32 i :=
  (congrFun (W2_of m ρ c main_v0 (by decide)) (ix1 i)).trans (t1_v0 m ρ c i)

/-- A buffer at its stretch of the host. -/
theorem t4_v4 (i : Fin 512) : W4 m ρ c (Proc.devRef .tc main_v4) (ix2 0 i) = BitVec.ofNat 32 (i / 64) :=
  s3_v4 (W3 m ρ c) (s2_v3 (W2 m ρ c) (t2_v0 m ρ c)) (s2_c (W2 m ρ c)) i

/-- A buffer at its stretch of the host. -/
theorem t4_v0 (i : Fin 512) : W4 m ρ c (Proc.devRef .tc main_v0) (ix1 i) = BitVec.ofNat 32 i :=
  (congrFun ((W4_of m ρ c main_v0 (by decide)).trans (W3_of m ρ c main_v0 (by decide))) (ix1 i)).trans (t2_v0 m ρ c i)

/-- A buffer at its stretch of the host. -/
theorem t4_v2 (i : Fin 512) : W4 m ρ c (Proc.devRef .tc main_v2) (ix2 i 0) = BitVec.ofNat 32 (i / 64) :=
  (congrFun ((W4_of m ρ c main_v2 (by decide)).trans (W3_of m ρ c main_v2 (by decide))) (ix2 i 0)).trans (t2_v2 m ρ c i)

/-- A buffer at its stretch of the host. -/
theorem t5_v7 (i j : Fin 512) : W5 m ρ c (Proc.devRef .tc main_v7) (ix2 i j) = IntOp.cmpi .eq (BitVec.ofNat 32 (i / 64)) (BitVec.ofNat 32 (j / 64)) :=
  s4_v7 (W4 m ρ c) (t4_v2 m ρ c) (t4_v4 m ρ c) i j

/-- A buffer at its stretch of the host. -/
theorem t6_v9 (i : Fin 512) : W6 m ρ c (Proc.devRef .tc main_v9) (ix2 i 0) = BitVec.ofNat 32 (i % 64) :=
  s5_v9 (W5 m ρ c) (s4_v8 (W4 m ρ c) (t4_v0 m ρ c)) (s4_c (W4 m ρ c)) i

/-- A buffer at its stretch of the host. -/
theorem t6_v0 (i : Fin 512) : W6 m ρ c (Proc.devRef .tc main_v0) (ix1 i) = BitVec.ofNat 32 i :=
  (congrFun ((W6_of m ρ c main_v0 (by decide)).trans (W5_of m ρ c main_v0 (by decide))) (ix1 i)).trans (t4_v0 m ρ c i)

/-- A buffer at its stretch of the host. -/
theorem t8_v11 (i : Fin 512) : W8 m ρ c (Proc.devRef .tc main_v11) (ix2 0 i) = BitVec.ofNat 32 (i % 64) :=
  s7_v11 (W7 m ρ c) (s6_v10 (W6 m ρ c) (t6_v0 m ρ c)) (s6_c (W6 m ρ c)) i

/-- A buffer at its stretch of the host. -/
theorem t8_v9 (i : Fin 512) : W8 m ρ c (Proc.devRef .tc main_v9) (ix2 i 0) = BitVec.ofNat 32 (i % 64) :=
  (congrFun ((W8_of m ρ c main_v9 (by decide)).trans (W7_of m ρ c main_v9 (by decide))) (ix2 i 0)).trans (t6_v9 m ρ c i)

/-- A buffer at its stretch of the host. -/
theorem t10_v15 (i j : Fin 512) : W10 m ρ c (Proc.devRef .tc main_v15) (ix2 i j) = BitVec.ofNat 32 (i % 64 * (j % 64) % 64) :=
  s9_v15 (W9 m ρ c) (s8_v14 (W8 m ρ c) (t8_v9 m ρ c) (t8_v11 m ρ c)) (s8_c (W8 m ρ c)) i j

/-- A buffer at its stretch of the host. -/
theorem t11_v18 (i j : Fin 512) : W11 m ρ c (Proc.devRef .tc main_v18) (ix2 i j) = angle 64 (lit 0x3DC90FDB#32) (i % 64) (j % 64) :=
  s10_v18 (W10 m ρ c) (t10_v15 m ρ c) i j

/-- A buffer at its stretch of the host. -/
theorem t11_v21 (i j : Fin 512) : W11 m ρ c (Proc.devRef .tc main_v21) (ix2 i j) = cosC ⟨i % 64, by omega⟩ ⟨j % 64, by omega⟩ :=
  s10_v21 (W10 m ρ c) (t10_v15 m ρ c) i j

/-- A buffer at its stretch of the host. -/
theorem t11_v7 (i j : Fin 512) : W11 m ρ c (Proc.devRef .tc main_v7) (ix2 i j) = IntOp.cmpi .eq (BitVec.ofNat 32 (i / 64)) (BitVec.ofNat 32 (j / 64)) :=
  (congrFun ((((((W11_of m ρ c main_v7 (by decide)).trans (W10_of m ρ c main_v7 (by decide))).trans (W9_of m ρ c main_v7 (by decide))).trans (W8_of m ρ c main_v7 (by decide))).trans (W7_of m ρ c main_v7 (by decide))).trans (W6_of m ρ c main_v7 (by decide))) (ix2 i j)).trans (t5_v7 m ρ c i j)

/-- A buffer at its stretch of the host. -/
theorem t12_v22 (i j : Fin 512) : W12 m ρ c (Proc.devRef .tc main_v22) (ix2 i j) = (if i.val / 64 = j.val / 64 then cosC ⟨i % 64, by omega⟩ ⟨j % 64, by omega⟩ else 0) :=
  s11_v22 (W11 m ρ c) (t11_v7 m ρ c) (t11_v21 m ρ c) (s10_c (W10 m ρ c)) i j

/-- A buffer at its stretch of the host. -/
theorem t12_v18 (i j : Fin 512) : W12 m ρ c (Proc.devRef .tc main_v18) (ix2 i j) = angle 64 (lit 0x3DC90FDB#32) (i % 64) (j % 64) :=
  (congrFun (W12_of m ρ c main_v18 (by decide)) (ix2 i j)).trans (t11_v18 m ρ c i j)

/-- A buffer at its stretch of the host. -/
theorem t13_v7 (i j : Fin 512) : W13 m ρ c (Proc.devRef .tc main_v7) (ix2 i j) = IntOp.cmpi .eq (BitVec.ofNat 32 (i / 64)) (BitVec.ofNat 32 (j / 64)) :=
  (congrFun ((W13_of m ρ c main_v7 (by decide)).trans (W12_of m ρ c main_v7 (by decide))) (ix2 i j)).trans (t11_v7 m ρ c i j)

/-- A buffer at its stretch of the host. -/
theorem t14_v26 (i j : Fin 512) : W14 m ρ c (Proc.devRef .tc main_v26) (ix2 i j) = (if i.val / 64 = j.val / 64 then sinC ⟨i % 64, by omega⟩ ⟨j % 64, by omega⟩ else 0) :=
  s13_v26 (W13 m ρ c) (t13_v7 m ρ c) (s12_v25 (W12 m ρ c) (t12_v18 m ρ c)) (s12_c (W12 m ρ c)) i j

/-- A buffer at its stretch of the host. -/
theorem t14_v22 (i j : Fin 512) : W14 m ρ c (Proc.devRef .tc main_v22) (ix2 i j) = (if i.val / 64 = j.val / 64 then cosC ⟨i % 64, by omega⟩ ⟨j % 64, by omega⟩ else 0) :=
  (congrFun ((W14_of m ρ c main_v22 (by decide)).trans (W13_of m ρ c main_v22 (by decide))) (ix2 i j)).trans (t12_v22 m ρ c i j)

/-- A buffer at its stretch of the host. -/
theorem t15_v28_lo (i j : Fin 512) : W15 m ρ c (Proc.devRef .tc main_v28) (ix2 i (⟨0 + j, by omega⟩ : Fin 1024)) = (if i.val / 64 = j.val / 64 then cosC ⟨i % 64, by omega⟩ ⟨j % 64, by omega⟩ else 0) :=
  (s14_v28_lo (W14 m ρ c) i j).trans (t14_v22 m ρ c i j)

/-- A buffer at its stretch of the host. -/
theorem t17_v28_lo (i j : Fin 512) : W17 m ρ c (Proc.devRef .tc main_v28) (ix2 i (⟨0 + j, by omega⟩ : Fin 1024)) = (if i.val / 64 = j.val / 64 then cosC ⟨i % 64, by omega⟩ ⟨j % 64, by omega⟩ else 0) :=
  (congrFun ((W17_of m ρ c main_v28 (by decide)).trans (W16_of m ρ c main_v28 (by decide))) (ix2 i (⟨0 + j, by omega⟩ : Fin 1024))).trans (t15_v28_lo m ρ c i j)

/-- A buffer at its stretch of the host. -/
theorem t15_v28_hi (i j : Fin 512) : W15 m ρ c (Proc.devRef .tc main_v28) (ix2 i (⟨512 + j, by omega⟩ : Fin 1024)) = (if i.val / 64 = j.val / 64 then sinC ⟨i % 64, by omega⟩ ⟨j % 64, by omega⟩ else 0) :=
  (s14_v28_hi (W14 m ρ c) i j).trans (t14_v26 m ρ c i j)

/-- A buffer at its stretch of the host. -/
theorem t17_v28_hi (i j : Fin 512) : W17 m ρ c (Proc.devRef .tc main_v28) (ix2 i (⟨512 + j, by omega⟩ : Fin 1024)) = (if i.val / 64 = j.val / 64 then sinC ⟨i % 64, by omega⟩ ⟨j % 64, by omega⟩ else 0) :=
  (congrFun ((W17_of m ρ c main_v28 (by decide)).trans (W16_of m ρ c main_v28 (by decide))) (ix2 i (⟨512 + j, by omega⟩ : Fin 1024))).trans (t15_v28_hi m ρ c i j)

/-- A buffer at its stretch of the host. -/
theorem t16_v35 (i j : Fin 2048) : W16 m ρ c (Proc.devRef .tc main_v35) (ix2 i j) = BitVec.ofNat 32 (i * j % 2048) :=
  s15_v35 (W15 m ρ c) (s14_v34 (W14 m ρ c)) (s14_c (W14 m ρ c)) i j

/-- A buffer at its stretch of the host. -/
theorem t17_v47_lo (i j : Fin 2048) : W17 m ρ c (Proc.devRef .tc main_v47) (ix2 i (⟨0 + j, by omega⟩ : Fin 4096)) = cosS i j :=
  s16_v47_lo (W16 m ρ c) (t16_v35 m ρ c) i j

/-- A buffer at its stretch of the host. -/
theorem t17_v47_hi (i j : Fin 2048) : W17 m ρ c (Proc.devRef .tc main_v47) (ix2 i (⟨2048 + j, by omega⟩ : Fin 4096)) = nsinS i j :=
  s16_v47_hi (W16 m ρ c) (t16_v35 m ρ c) i j

end Cert.KernelIdeal.Value

end
-- ==== Proof.Chunks.lean ====
module

public import proofs.«01_k».proof.Proof.Spec
public import proofs.«01_k».proof.Proof.Gen.KernelIdeal.Skeleton

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Chunk 0 of a block after the spatial mixing, from the normed block `v` and the eight heads' matrices. -/
theorem chunk0 (a s : FVec Ideal S512x1024 .f32) (g b : FVec Ideal S1x1024 .f32)
    (w0 w1 w2 w3 w4 w5 w6 w7 : FVec Ideal S1x128x128 .bf16) (bias : FVec Ideal S128x1024 .f32)
    (v : FVec Ideal S512x1024 .bf16) (hv : k0_pay8 (F := Ideal) a s g b = v) (q : Fin 128) (d : Fin 1024) :
    k0_pay13 (F := Ideal) v (k0_pay9 (F := Ideal) a s g b w0) (k0_pay10 (F := Ideal) a s g b w1)
        (k0_pay11 (F := Ideal) a s g b w2) (k0_pay12 (F := Ideal) a s g b w3) w4 w5 w6 w7 bias (ix2 q d)
      = mix (fun h q p => (![w0, w1, w2, w3, w4, w5, w6, w7] h : FVec Ideal S1x128x128 .bf16) (ix3 0 q p)) (fun q d => bias (ix2 q d))
          (fun p e => v (ix2 ⟨p, by omega⟩ e)) q d := by
  subst hv
  generalize hv : k0_pay8 (F := Ideal) a s g b = v
  pointwise [k0_pay13, k0_pay9, k0_pay10, k0_pay11, k0_pay12, mix]
  rw [hv]
  have hd := d.isLt
  by_cases h0 : (d : ℕ) < 128
  · rw [dif_pos h0]
    rw [show (⟨(d : ℕ) / 128, by omega⟩ : Fin 8) = 0 from Fin.ext (by show (d : ℕ) / 128 = 0; omega)]; rfl
  rw [dif_neg h0]
  by_cases h1 : (d : ℕ) - 128 < 128
  · rw [dif_pos h1]
    rw [show (⟨(d : ℕ) / 128, by omega⟩ : Fin 8) = 1 from Fin.ext (by show (d : ℕ) / 128 = 1; omega)]
    refine congrArg₂ (· + ·) (Finset.sum_congr rfl fun x _ => ?_) rfl
    refine congrArg₂ (· * ·) rfl (congrArg v (congrArg (ix2 _) (Fin.ext ?_)))
    dsimp only; omega
  rw [dif_neg h1]
  by_cases h2 : (d : ℕ) - 128 - 128 < 128
  · rw [dif_pos h2]
    rw [show (⟨(d : ℕ) / 128, by omega⟩ : Fin 8) = 2 from Fin.ext (by show (d : ℕ) / 128 = 2; omega)]
    refine congrArg₂ (· + ·) (Finset.sum_congr rfl fun x _ => ?_) rfl
    refine congrArg₂ (· * ·) rfl (congrArg v (congrArg (ix2 _) (Fin.ext ?_)))
    dsimp only; omega
  rw [dif_neg h2]
  by_cases h3 : (d : ℕ) - 128 - 128 - 128 < 128
  · rw [dif_pos h3]
    rw [show (⟨(d : ℕ) / 128, by omega⟩ : Fin 8) = 3 from Fin.ext (by show (d : ℕ) / 128 = 3; omega)]
    refine congrArg₂ (· + ·) (Finset.sum_congr rfl fun x _ => ?_) rfl
    refine congrArg₂ (· * ·) rfl (congrArg v (congrArg (ix2 _) (Fin.ext ?_)))
    dsimp only; omega
  rw [dif_neg h3]
  by_cases h4 : (d : ℕ) - 128 - 128 - 128 - 128 < 128
  · rw [dif_pos h4]
    rw [show (⟨(d : ℕ) / 128, by omega⟩ : Fin 8) = 4 from Fin.ext (by show (d : ℕ) / 128 = 4; omega)]
    refine congrArg₂ (· + ·) (Finset.sum_congr rfl fun x _ => ?_) rfl
    refine congrArg₂ (· * ·) rfl (congrArg v (congrArg (ix2 _) (Fin.ext ?_)))
    dsimp only; omega
  rw [dif_neg h4]
  by_cases h5 : (d : ℕ) - 128 - 128 - 128 - 128 - 128 < 128
  · rw [dif_pos h5]
    rw [show (⟨(d : ℕ) / 128, by omega⟩ : Fin 8) = 5 from Fin.ext (by show (d : ℕ) / 128 = 5; omega)]
    refine congrArg₂ (· + ·) (Finset.sum_congr rfl fun x _ => ?_) rfl
    refine congrArg₂ (· * ·) rfl (congrArg v (congrArg (ix2 _) (Fin.ext ?_)))
    dsimp only; omega
  rw [dif_neg h5]
  by_cases h6 : (d : ℕ) - 128 - 128 - 128 - 128 - 128 - 128 < 128
  · rw [dif_pos h6]
    rw [show (⟨(d : ℕ) / 128, by omega⟩ : Fin 8) = 6 from Fin.ext (by show (d : ℕ) / 128 = 6; omega)]
    refine congrArg₂ (· + ·) (Finset.sum_congr rfl fun x _ => ?_) rfl
    refine congrArg₂ (· * ·) rfl (congrArg v (congrArg (ix2 _) (Fin.ext ?_)))
    dsimp only; omega
  rw [dif_neg h6]
  rw [show (⟨(d : ℕ) / 128, by omega⟩ : Fin 8) = 7 from Fin.ext (by show (d : ℕ) / 128 = 7; omega)]
  refine congrArg₂ (· + ·) (Finset.sum_congr rfl fun x _ => ?_) rfl
  refine congrArg₂ (· * ·) rfl (congrArg v (congrArg (ix2 _) (Fin.ext ?_)))
  dsimp only; omega

/-- Chunk 1 of a block after the spatial mixing, from the normed block `v` and the eight heads' matrices. -/
theorem chunk1 (w0 w1 w2 w3 w4 w5 w6 w7 : FVec Ideal S1x128x128 .bf16) (bias : FVec Ideal S128x1024 .f32)
    (v : FVec Ideal S512x1024 .bf16) (q : Fin 128) (d : Fin 1024) :
    k0_pay17 (F := Ideal) v (k0_pay14 (F := Ideal) v w0) (k0_pay15 (F := Ideal) v w1) (k0_pay16 (F := Ideal) v w2)
        w3 w4 w5 w6 w7 bias (ix2 q d)
      = mix (fun h q p => (![w0, w1, w2, w3, w4, w5, w6, w7] h : FVec Ideal S1x128x128 .bf16) (ix3 0 q p)) (fun q d => bias (ix2 q d))
          (fun p e => v (ix2 ⟨128 + p, by omega⟩ e)) q d := by
  pointwise [k0_pay17, k0_pay14, k0_pay15, k0_pay16, mix]
  have hd := d.isLt
  by_cases h0 : (d : ℕ) < 128
  · rw [dif_pos h0]
    rw [show (⟨(d : ℕ) / 128, by omega⟩ : Fin 8) = 0 from Fin.ext (by show (d : ℕ) / 128 = 0; omega)]; rfl
  rw [dif_neg h0]
  by_cases h1 : (d : ℕ) - 128 < 128
  · rw [dif_pos h1]
    rw [show (⟨(d : ℕ) / 128, by omega⟩ : Fin 8) = 1 from Fin.ext (by show (d : ℕ) / 128 = 1; omega)]
    refine congrArg₂ (· + ·) (Finset.sum_congr rfl fun x _ => ?_) rfl
    refine congrArg₂ (· * ·) rfl (congrArg v (congrArg (ix2 _) (Fin.ext ?_)))
    dsimp only; omega
  rw [dif_neg h1]
  by_cases h2 : (d : ℕ) - 128 - 128 < 128
  · rw [dif_pos h2]
    rw [show (⟨(d : ℕ) / 128, by omega⟩ : Fin 8) = 2 from Fin.ext (by show (d : ℕ) / 128 = 2; omega)]
    refine congrArg₂ (· + ·) (Finset.sum_congr rfl fun x _ => ?_) rfl
    refine congrArg₂ (· * ·) rfl (congrArg v (congrArg (ix2 _) (Fin.ext ?_)))
    dsimp only; omega
  rw [dif_neg h2]
  by_cases h3 : (d : ℕ) - 128 - 128 - 128 < 128
  · rw [dif_pos h3]
    rw [show (⟨(d : ℕ) / 128, by omega⟩ : Fin 8) = 3 from Fin.ext (by show (d : ℕ) / 128 = 3; omega)]
    refine congrArg₂ (· + ·) (Finset.sum_congr rfl fun x _ => ?_) rfl
    refine congrArg₂ (· * ·) rfl (congrArg v (congrArg (ix2 _) (Fin.ext ?_)))
    dsimp only; omega
  rw [dif_neg h3]
  by_cases h4 : (d : ℕ) - 128 - 128 - 128 - 128 < 128
  · rw [dif_pos h4]
    rw [show (⟨(d : ℕ) / 128, by omega⟩ : Fin 8) = 4 from Fin.ext (by show (d : ℕ) / 128 = 4; omega)]
    refine congrArg₂ (· + ·) (Finset.sum_congr rfl fun x _ => ?_) rfl
    refine congrArg₂ (· * ·) rfl (congrArg v (congrArg (ix2 _) (Fin.ext ?_)))
    dsimp only; omega
  rw [dif_neg h4]
  by_cases h5 : (d : ℕ) - 128 - 128 - 128 - 128 - 128 < 128
  · rw [dif_pos h5]
    rw [show (⟨(d : ℕ) / 128, by omega⟩ : Fin 8) = 5 from Fin.ext (by show (d : ℕ) / 128 = 5; omega)]
    refine congrArg₂ (· + ·) (Finset.sum_congr rfl fun x _ => ?_) rfl
    refine congrArg₂ (· * ·) rfl (congrArg v (congrArg (ix2 _) (Fin.ext ?_)))
    dsimp only; omega
  rw [dif_neg h5]
  by_cases h6 : (d : ℕ) - 128 - 128 - 128 - 128 - 128 - 128 < 128
  · rw [dif_pos h6]
    rw [show (⟨(d : ℕ) / 128, by omega⟩ : Fin 8) = 6 from Fin.ext (by show (d : ℕ) / 128 = 6; omega)]
    refine congrArg₂ (· + ·) (Finset.sum_congr rfl fun x _ => ?_) rfl
    refine congrArg₂ (· * ·) rfl (congrArg v (congrArg (ix2 _) (Fin.ext ?_)))
    dsimp only; omega
  rw [dif_neg h6]
  rw [show (⟨(d : ℕ) / 128, by omega⟩ : Fin 8) = 7 from Fin.ext (by show (d : ℕ) / 128 = 7; omega)]
  refine congrArg₂ (· + ·) (Finset.sum_congr rfl fun x _ => ?_) rfl
  refine congrArg₂ (· * ·) rfl (congrArg v (congrArg (ix2 _) (Fin.ext ?_)))
  dsimp only; omega

/-- Chunk 2 of a block after the spatial mixing, from the normed block `v` and the eight heads' matrices. -/
theorem chunk2 (w0 w1 w2 w3 w4 w5 w6 w7 : FVec Ideal S1x128x128 .bf16) (bias : FVec Ideal S128x1024 .f32)
    (v : FVec Ideal S512x1024 .bf16) (q : Fin 128) (d : Fin 1024) :
    k0_pay20 (F := Ideal) v (k0_pay18 (F := Ideal) v w0) (k0_pay19 (F := Ideal) v w1) w2 w3 w4 w5 w6 w7 bias (ix2 q d)
      = mix (fun h q p => (![w0, w1, w2, w3, w4, w5, w6, w7] h : FVec Ideal S1x128x128 .bf16) (ix3 0 q p)) (fun q d => bias (ix2 q d))
          (fun p e => v (ix2 ⟨256 + p, by omega⟩ e)) q d := by
  pointwise [k0_pay20, k0_pay18, k0_pay19, mix]
  have hd := d.isLt
  by_cases h0 : (d : ℕ) < 128
  · rw [dif_pos h0]
    rw [show (⟨(d : ℕ) / 128, by omega⟩ : Fin 8) = 0 from Fin.ext (by show (d : ℕ) / 128 = 0; omega)]; rfl
  rw [dif_neg h0]
  by_cases h1 : (d : ℕ) - 128 < 128
  · rw [dif_pos h1]
    rw [show (⟨(d : ℕ) / 128, by omega⟩ : Fin 8) = 1 from Fin.ext (by show (d : ℕ) / 128 = 1; omega)]
    refine congrArg₂ (· + ·) (Finset.sum_congr rfl fun x _ => ?_) rfl
    refine congrArg₂ (· * ·) rfl (congrArg v (congrArg (ix2 _) (Fin.ext ?_)))
    dsimp only; omega
  rw [dif_neg h1]
  by_cases h2 : (d : ℕ) - 128 - 128 < 128
  · rw [dif_pos h2]
    rw [show (⟨(d : ℕ) / 128, by omega⟩ : Fin 8) = 2 from Fin.ext (by show (d : ℕ) / 128 = 2; omega)]
    refine congrArg₂ (· + ·) (Finset.sum_congr rfl fun x _ => ?_) rfl
    refine congrArg₂ (· * ·) rfl (congrArg v (congrArg (ix2 _) (Fin.ext ?_)))
    dsimp only; omega
  rw [dif_neg h2]
  by_cases h3 : (d : ℕ) - 128 - 128 - 128 < 128
  · rw [dif_pos h3]
    rw [show (⟨(d : ℕ) / 128, by omega⟩ : Fin 8) = 3 from Fin.ext (by show (d : ℕ) / 128 = 3; omega)]
    refine congrArg₂ (· + ·) (Finset.sum_congr rfl fun x _ => ?_) rfl
    refine congrArg₂ (· * ·) rfl (congrArg v (congrArg (ix2 _) (Fin.ext ?_)))
    dsimp only; omega
  rw [dif_neg h3]
  by_cases h4 : (d : ℕ) - 128 - 128 - 128 - 128 < 128
  · rw [dif_pos h4]
    rw [show (⟨(d : ℕ) / 128, by omega⟩ : Fin 8) = 4 from Fin.ext (by show (d : ℕ) / 128 = 4; omega)]
    refine congrArg₂ (· + ·) (Finset.sum_congr rfl fun x _ => ?_) rfl
    refine congrArg₂ (· * ·) rfl (congrArg v (congrArg (ix2 _) (Fin.ext ?_)))
    dsimp only; omega
  rw [dif_neg h4]
  by_cases h5 : (d : ℕ) - 128 - 128 - 128 - 128 - 128 < 128
  · rw [dif_pos h5]
    rw [show (⟨(d : ℕ) / 128, by omega⟩ : Fin 8) = 5 from Fin.ext (by show (d : ℕ) / 128 = 5; omega)]
    refine congrArg₂ (· + ·) (Finset.sum_congr rfl fun x _ => ?_) rfl
    refine congrArg₂ (· * ·) rfl (congrArg v (congrArg (ix2 _) (Fin.ext ?_)))
    dsimp only; omega
  rw [dif_neg h5]
  by_cases h6 : (d : ℕ) - 128 - 128 - 128 - 128 - 128 - 128 < 128
  · rw [dif_pos h6]
    rw [show (⟨(d : ℕ) / 128, by omega⟩ : Fin 8) = 6 from Fin.ext (by show (d : ℕ) / 128 = 6; omega)]
    refine congrArg₂ (· + ·) (Finset.sum_congr rfl fun x _ => ?_) rfl
    refine congrArg₂ (· * ·) rfl (congrArg v (congrArg (ix2 _) (Fin.ext ?_)))
    dsimp only; omega
  rw [dif_neg h6]
  rw [show (⟨(d : ℕ) / 128, by omega⟩ : Fin 8) = 7 from Fin.ext (by show (d : ℕ) / 128 = 7; omega)]
  refine congrArg₂ (· + ·) (Finset.sum_congr rfl fun x _ => ?_) rfl
  refine congrArg₂ (· * ·) rfl (congrArg v (congrArg (ix2 _) (Fin.ext ?_)))
  dsimp only; omega

/-- Chunk 3 of a block after the spatial mixing, from the normed block `v` and the eight heads' matrices. -/
theorem chunk3 (w0 w1 w2 w3 w4 w5 w6 w7 : FVec Ideal S1x128x128 .bf16) (bias : FVec Ideal S128x1024 .f32)
    (v : FVec Ideal S512x1024 .bf16) (q : Fin 128) (d : Fin 1024) :
    k0_pay23 (F := Ideal) v (k0_pay21 (F := Ideal) w0) (k0_pay22 (F := Ideal) v) w1 w2 w3 w4 w5 w6 w7 (ix2 q d) + bias (ix2 q d)
      = mix (fun h q p => (![w0, w1, w2, w3, w4, w5, w6, w7] h : FVec Ideal S1x128x128 .bf16) (ix3 0 q p)) (fun q d => bias (ix2 q d))
          (fun p e => v (ix2 ⟨384 + p, by omega⟩ e)) q d := by
  pointwise [k0_pay23, k0_pay21, k0_pay22, mix]
  have hd := d.isLt
  by_cases h0 : (d : ℕ) < 128
  · rw [dif_pos h0]
    rw [show (⟨(d : ℕ) / 128, by omega⟩ : Fin 8) = 0 from Fin.ext (by show (d : ℕ) / 128 = 0; omega)]; rfl
  rw [dif_neg h0]
  by_cases h1 : (d : ℕ) - 128 < 128
  · rw [dif_pos h1]
    rw [show (⟨(d : ℕ) / 128, by omega⟩ : Fin 8) = 1 from Fin.ext (by show (d : ℕ) / 128 = 1; omega)]
    refine congrArg₂ (· + ·) (Finset.sum_congr rfl fun x _ => ?_) rfl
    refine congrArg₂ (· * ·) rfl (congrArg v (congrArg (ix2 _) (Fin.ext ?_)))
    dsimp only; omega
  rw [dif_neg h1]
  by_cases h2 : (d : ℕ) - 128 - 128 < 128
  · rw [dif_pos h2]
    rw [show (⟨(d : ℕ) / 128, by omega⟩ : Fin 8) = 2 from Fin.ext (by show (d : ℕ) / 128 = 2; omega)]
    refine congrArg₂ (· + ·) (Finset.sum_congr rfl fun x _ => ?_) rfl
    refine congrArg₂ (· * ·) rfl (congrArg v (congrArg (ix2 _) (Fin.ext ?_)))
    dsimp only; omega
  rw [dif_neg h2]
  by_cases h3 : (d : ℕ) - 128 - 128 - 128 < 128
  · rw [dif_pos h3]
    rw [show (⟨(d : ℕ) / 128, by omega⟩ : Fin 8) = 3 from Fin.ext (by show (d : ℕ) / 128 = 3; omega)]
    refine congrArg₂ (· + ·) (Finset.sum_congr rfl fun x _ => ?_) rfl
    refine congrArg₂ (· * ·) rfl (congrArg v (congrArg (ix2 _) (Fin.ext ?_)))
    dsimp only; omega
  rw [dif_neg h3]
  by_cases h4 : (d : ℕ) - 128 - 128 - 128 - 128 < 128
  · rw [dif_pos h4]
    rw [show (⟨(d : ℕ) / 128, by omega⟩ : Fin 8) = 4 from Fin.ext (by show (d : ℕ) / 128 = 4; omega)]
    refine congrArg₂ (· + ·) (Finset.sum_congr rfl fun x _ => ?_) rfl
    refine congrArg₂ (· * ·) rfl (congrArg v (congrArg (ix2 _) (Fin.ext ?_)))
    dsimp only; omega
  rw [dif_neg h4]
  by_cases h5 : (d : ℕ) - 128 - 128 - 128 - 128 - 128 < 128
  · rw [dif_pos h5]
    rw [show (⟨(d : ℕ) / 128, by omega⟩ : Fin 8) = 5 from Fin.ext (by show (d : ℕ) / 128 = 5; omega)]
    refine congrArg₂ (· + ·) (Finset.sum_congr rfl fun x _ => ?_) rfl
    refine congrArg₂ (· * ·) rfl (congrArg v (congrArg (ix2 _) (Fin.ext ?_)))
    dsimp only; omega
  rw [dif_neg h5]
  by_cases h6 : (d : ℕ) - 128 - 128 - 128 - 128 - 128 - 128 < 128
  · rw [dif_pos h6]
    rw [show (⟨(d : ℕ) / 128, by omega⟩ : Fin 8) = 6 from Fin.ext (by show (d : ℕ) / 128 = 6; omega)]
    refine congrArg₂ (· + ·) (Finset.sum_congr rfl fun x _ => ?_) rfl
    refine congrArg₂ (· * ·) rfl (congrArg v (congrArg (ix2 _) (Fin.ext ?_)))
    dsimp only; omega
  rw [dif_neg h6]
  rw [show (⟨(d : ℕ) / 128, by omega⟩ : Fin 8) = 7 from Fin.ext (by show (d : ℕ) / 128 = 7; omega)]
  refine congrArg₂ (· + ·) (Finset.sum_congr rfl fun x _ => ?_) rfl
  refine congrArg₂ (· * ·) rfl (congrArg v (congrArg (ix2 _) (Fin.ext ?_)))
  dsimp only; omega

end Cert.KernelIdeal.Value

end
-- ==== Proof.MixIn.lean ====
module

public import proofs.«01_k».proof.Proof.Spec
public import proofs.«01_k».proof.Proof.Chunks
public import proofs.«01_k».proof.Proof.Gen.KernelIdeal.Frame
public import Idealize.ShloMosaic.Lib.Pipeline.ValueKit

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- The rounded norm of the rows of a block. -/
theorem pay2 (x : FVec Ideal S512x1024 .f32) (g : FVec Ideal S1x1024 .f32) (r : Fin 512) (d : Fin 1024) :
    k0_pay2 (F := Ideal) x g (ix2 r d) = rms (fun k => x (ix2 r k)) (fun k => g (ix2 0 k)) d := by
  pointwise [k0_pay2, rms, rscale, lit]

/-- The projection to the Fourier mixer times the table of the channels. -/
theorem pay3 (x : FVec Ideal S512x1024 .f32) (g : FVec Ideal S1x1024 .f32) (w : FVec Ideal S1024x512 .bf16)
    (cs : FVec Ideal S512x1024 .bf16) (r : Fin 512) (d : Fin 1024) :
    k0_pay3 (F := Ideal) x g w cs (ix2 r d)
      = rowdot (rowdot (fun k => k0_pay2 (F := Ideal) x g (ix2 r k)) fun k c => w (ix2 k c)) (fun k c => cs (ix2 k c)) d := by
  pointwise [k0_pay3, rowdot]

/-- The gate of the Fourier mixer. -/
theorem pay4 (x : FVec Ideal S512x1024 .f32) (g : FVec Ideal S1x1024 .f32) (w : FVec Ideal S1024x1024 .bf16)
    (r : Fin 512) (d : Fin 1024) :
    k0_pay4 (F := Ideal) x g w (ix2 r d)
      = sigm (rowdot (fun k => k0_pay2 (F := Ideal) x g (ix2 r k)) (fun k c => w (ix2 k c)) d) := by
  pointwise [k0_pay4, rowdot, sigm, lit]
  rw [zero_sub]

/-- The rows the spatial mixer multiplies by. -/
theorem pay5 (h : FVec Ideal S512x1024 .bf16) (w : FVec Ideal S1024x1024 .bf16) (r : Fin 512) (d : Fin 1024) :
    k0_pay5 (F := Ideal) h w (ix2 r d) = gelu (rowdot (fun k => h (ix2 r k)) (fun k c => w (ix2 k c)) d) := by
  pointwise [k0_pay5, rowdot, gelu, lit]

/-- The rows the spatial mixer mixes, less their mean. -/
theorem pay6 (h : FVec Ideal S512x1024 .bf16) (w : FVec Ideal S1024x1024 .bf16) (r : Fin 512) (d : Fin 1024) :
    k0_pay6 (F := Ideal) h w (ix2 r d)
      = centred (fun e => gelu (rowdot (fun k => h (ix2 r k)) (fun k c => w (ix2 k c)) e)) d := by
  pointwise [k0_pay6, rowdot, gelu, lit, centred]

/-- The layer norm, from centred rows and their squares. -/
theorem pay8 (v v2 : FVec Ideal S512x1024 .f32) (g b : FVec Ideal S1x1024 .f32) (r : Fin 512) (d : Fin 1024) :
    k0_pay8 (F := Ideal) v v2 g b (ix2 r d)
      = v (ix2 r d) * rscale (∑ k, v2 (ix2 r k)) * g (ix2 0 d) + b (ix2 0 d) := by
  pointwise [k0_pay8, rscale, lit]

/-- The squares of the centred rows. -/
theorem pay7 (h : FVec Ideal S512x1024 .bf16) (w : FVec Ideal S1024x1024 .bf16) (r : Fin 512) (d : Fin 1024) :
    k0_pay7 (F := Ideal) h w (ix2 r d) = k0_pay6 (F := Ideal) h w (ix2 r d) * k0_pay6 (F := Ideal) h w (ix2 r d) := by
  pointwise [k0_pay7]

/-- The gated spatial mixer, from the chunks `M` after the mixing. -/
theorem pay1 (h : FVec Ideal S512x1024 .bf16) (u : FVec Ideal S512x1024 .f32) (m0 m1 m2 m3 bias : FVec Ideal S128x1024 .f32)
    (wb wg : FVec Ideal S1024x1024 .bf16) (M : Fin 4 → Fin 128 → Fin 1024 → EReal)
    (h0 : ∀ q e, m0 (ix2 q e) = M 0 q e) (h1 : ∀ q e, m1 (ix2 q e) = M 1 q e) (h2 : ∀ q e, m2 (ix2 q e) = M 2 q e)
    (h3 : ∀ q e, m3 (ix2 q e) + bias (ix2 q e) = M 3 q e) (r : Fin 512) (d : Fin 1024) :
    k0_pay1 (F := Ideal) h u m0 m1 m2 m3 bias wb wg (ix2 r d)
      = sigm (rowdot (fun k => h (ix2 r k)) (fun k c => wg (ix2 k c)) d)
        * rowdot (fun e => u (ix2 r e) * M ⟨r / 128, by omega⟩ ⟨r % 128, by omega⟩ e) (fun k c => wb (ix2 k c)) d := by
  pointwise [k0_pay1, rowdot, sigm, lit]
  rw [zero_sub]
  refine congrArg₂ (· * ·) rfl (Finset.sum_congr rfl fun e _ => ?_)
  refine congrArg₂ (· * ·) (congrArg₂ (· * ·) rfl ?_) rfl
  have hr := r.isLt
  by_cases c0 : (r : ℕ) < 128
  · rw [dif_pos c0, h0]
    exact congrArg₂ (M · · e) (Fin.ext (by show 0 = (r : ℕ) / 128; omega)) (Fin.ext (by show (r : ℕ) = r % 128; omega))
  rw [dif_neg c0]
  by_cases c1 : (r : ℕ) - 128 < 128
  · rw [dif_pos c1, h1]
    exact congrArg₂ (M · · e) (Fin.ext (by show 1 = (r : ℕ) / 128; omega)) (Fin.ext (by show (r : ℕ) - 128 = r % 128; omega))
  rw [dif_neg c1]
  by_cases c2 : (r : ℕ) - 128 - 128 < 128
  · rw [dif_pos c2, h2]
    exact congrArg₂ (M · · e) (Fin.ext (by show 2 = (r : ℕ) / 128; omega)) (Fin.ext (by show (r : ℕ) - 128 - 128 = r % 128; omega))
  rw [dif_neg c2, h3]
  exact congrArg₂ (M · · e) (Fin.ext (by show 3 = (r : ℕ) / 128; omega)) (Fin.ext (by show (r : ℕ) - 128 - 128 - 128 = r % 128; omega))

/-- Columns 0 to 512 of the input projection. -/
theorem ld_p (x : Vec Ideal S1024x4608 .bf16) (k : Fin 1024) (c : Fin 512) :
    (View.ld x r0_2 : Vec Ideal S1024x512 .bf16) (ix2 k c) = x (ix2 k ⟨0 + c, by omega⟩) := by
  pointwise []

/-- Columns 512 to 1536 of the input projection. -/
theorem ld_u (x : Vec Ideal S1024x4608 .bf16) (k : Fin 1024) (c : Fin 1024) :
    (View.ld x r0_4 : Vec Ideal S1024x1024 .bf16) (ix2 k c) = x (ix2 k ⟨512 + c, by omega⟩) := by
  pointwise []

/-- Columns 1536 to 2560 of the input projection. -/
theorem ld_v (x : Vec Ideal S1024x4608 .bf16) (k : Fin 1024) (c : Fin 1024) :
    (View.ld x r0_5 : Vec Ideal S1024x1024 .bf16) (ix2 k c) = x (ix2 k ⟨1536 + c, by omega⟩) := by
  pointwise []

/-- Columns 2560 to 3584 of the input projection. -/
theorem ld_ga (x : Vec Ideal S1024x4608 .bf16) (k : Fin 1024) (c : Fin 1024) :
    (View.ld x r0_3 : Vec Ideal S1024x1024 .bf16) (ix2 k c) = x (ix2 k ⟨2560 + c, by omega⟩) := by
  pointwise []

/-- Columns 3584 to 4608 of the input projection. -/
theorem ld_gb (x : Vec Ideal S1024x4608 .bf16) (k : Fin 1024) (c : Fin 1024) :
    (View.ld x r0_16 : Vec Ideal S1024x1024 .bf16) (ix2 k c) = x (ix2 k ⟨3584 + c, by omega⟩) := by
  pointwise []

/-- The matrix of head 0. -/
theorem ld_head0 (x : Vec Ideal S8x128x128 .bf16) (q p : Fin 128) :
    (View.ld x r0_6 : Vec Ideal S1x128x128 .bf16) (ix3 0 q p) = x (ix3 0 q p) := by
  pointwise []

/-- The matrix of head 1. -/
theorem ld_head1 (x : Vec Ideal S8x128x128 .bf16) (q p : Fin 128) :
    (View.ld x r0_7 : Vec Ideal S1x128x128 .bf16) (ix3 0 q p) = x (ix3 1 q p) := by
  pointwise []

/-- The matrix of head 2. -/
theorem ld_head2 (x : Vec Ideal S8x128x128 .bf16) (q p : Fin 128) :
    (View.ld x r0_8 : Vec Ideal S1x128x128 .bf16) (ix3 0 q p) = x (ix3 2 q p) := by
  pointwise []

/-- The matrix of head 3. -/
theorem ld_head3 (x : Vec Ideal S8x128x128 .bf16) (q p : Fin 128) :
    (View.ld x r0_9 : Vec Ideal S1x128x128 .bf16) (ix3 0 q p) = x (ix3 3 q p) := by
  pointwise []

/-- The matrix of head 4. -/
theorem ld_head4 (x : Vec Ideal S8x128x128 .bf16) (q p : Fin 128) :
    (View.ld x r0_10 : Vec Ideal S1x128x128 .bf16) (ix3 0 q p) = x (ix3 4 q p) := by
  pointwise []

/-- The matrix of head 5. -/
theorem ld_head5 (x : Vec Ideal S8x128x128 .bf16) (q p : Fin 128) :
    (View.ld x r0_11 : Vec Ideal S1x128x128 .bf16) (ix3 0 q p) = x (ix3 5 q p) := by
  pointwise []

/-- The matrix of head 6. -/
theorem ld_head6 (x : Vec Ideal S8x128x128 .bf16) (q p : Fin 128) :
    (View.ld x r0_12 : Vec Ideal S1x128x128 .bf16) (ix3 0 q p) = x (ix3 6 q p) := by
  pointwise []

/-- The matrix of head 7. -/
theorem ld_head7 (x : Vec Ideal S8x128x128 .bf16) (q p : Fin 128) :
    (View.ld x r0_13 : Vec Ideal S1x128x128 .bf16) (ix3 0 q p) = x (ix3 7 q p) := by
  pointwise []

section Point

variable (W : Weights) (x0 : Vec Ideal S512x1024 .f32) (x1 : Vec Ideal S1x1024 .f32) (x2 : Vec Ideal S1024x4608 .bf16)
  (x3 : Vec Ideal S512x1024 .bf16) (x4 x5 : Vec Ideal S1x1024 .f32) (x6 : Vec Ideal S8x128x128 .bf16)
  (x7 : Vec Ideal S128x1024 .f32) (x8 : Vec Ideal S1024x1024 .bf16)

include W in
/-- The normed rows of a block. -/
theorem hrow (h1 : ∀ k, x1 (ix2 0 k) = W.gmix k) (r : Fin 512) :
    (fun k => k0_pay2 (F := Ideal) x0 x1 (ix2 r k)) = rms (fun k => x0 (ix2 r k)) W.gmix := by
  funext k
  rw [pay2]
  simp only [h1]

/-- The transforms of the channels, as one product with a table of all 512. -/
theorem point_pq (h1 : ∀ k, x1 (ix2 0 k) = W.gmix k) (h2 : ∀ k c, x2 (ix2 k c) = W.win k c) (r : Fin 512) (d : Fin 1024) :
    k0_pay3 (F := Ideal) x0 x1 (View.ld x2 r0_2) x3 (ix2 r d)
      = rowdot (arow W fun k => x0 (ix2 r k)) (fun k c => x3 (ix2 k c)) d := by
  rw [pay3, hrow W x0 x1 h1]
  exact congrArg (fun w => rowdot (rowdot _ w) _ d) (funext fun k => funext fun c => (ld_p x2 k c).trans (h2 _ _))

/-- The gate of the Fourier mixer. -/
theorem point_ga (h1 : ∀ k, x1 (ix2 0 k) = W.gmix k) (h2 : ∀ k c, x2 (ix2 k c) = W.win k c) (r : Fin 512) (d : Fin 1024) :
    k0_pay4 (F := Ideal) x0 x1 (View.ld x2 r0_3) (ix2 r d) = garow W (fun k => x0 (ix2 r k)) d := by
  rw [pay4, hrow W x0 x1 h1]
  exact congrArg (fun w => sigm (rowdot _ w d)) (funext fun k => funext fun c => (ld_ga x2 k c).trans (h2 _ _))

/-- The normed rows that the spatial mixer mixes. -/
theorem point_v (h1 : ∀ k, x1 (ix2 0 k) = W.gmix k) (h2 : ∀ k c, x2 (ix2 k c) = W.win k c)
    (h4 : ∀ k, x4 (ix2 0 k) = W.lg k) (h5 : ∀ k, x5 (ix2 0 k) = W.lb k) (r : Fin 512) (d : Fin 1024) :
    k0_pay8 (F := Ideal) (k0_pay6 (k0_pay2 x0 x1) (View.ld x2 r0_5)) (k0_pay7 (k0_pay2 x0 x1) (View.ld x2 r0_5)) x4 x5 (ix2 r d)
      = vrow W (fun k => x0 (ix2 r k)) d := by
  rw [pay8]
  simp only [pay7, pay6]
  rw [hrow W x0 x1 h1, h4, h5]
  exact congrArg (fun w => lnorm (fun e => gelu (rowdot (rms (fun k => x0 (ix2 r k)) W.gmix) w e)) W.lg W.lb d)
    (funext fun k => funext fun c => (ld_v x2 k c).trans (h2 _ _))

/-- The gated spatial mixer at row `r` of a block. -/
theorem point_mb (h1 : ∀ k, x1 (ix2 0 k) = W.gmix k) (h2 : ∀ k c, x2 (ix2 k c) = W.win k c)
    (h4 : ∀ k, x4 (ix2 0 k) = W.lg k) (h5 : ∀ k, x5 (ix2 0 k) = W.lb k) (h6 : ∀ h q p, x6 (ix3 h q p) = W.ws h q p)
    (h7 : ∀ q d, x7 (ix2 q d) = biasOf W.bs q d) (h8 : ∀ k c, x8 (ix2 k c) = W.wb k c) (r : Fin 512) (d : Fin 1024) :
    out0_11 (F := Ideal) x0 x1 x2 x3 x4 x5 x6 x7 x8 (ix2 r d)
      = mbrow W (fun p k => x0 (ix2 ⟨128 * (r / 128) + p, by omega⟩ k)) ⟨r % 128, by omega⟩ d := by
  have hw : (fun h q p => (![View.ld x6 r0_6, View.ld x6 r0_7, View.ld x6 r0_8, View.ld x6 r0_9, View.ld x6 r0_10,
      View.ld x6 r0_11, View.ld x6 r0_12, View.ld x6 r0_13] h : FVec Ideal S1x128x128 .bf16) (ix3 0 q p)) = W.ws := by
    funext h q p
    rw [← h6]
    fin_cases h
    · exact ld_head0 x6 q p
    · exact ld_head1 x6 q p
    · exact ld_head2 x6 q p
    · exact ld_head3 x6 q p
    · exact ld_head4 x6 q p
    · exact ld_head5 x6 q p
    · exact ld_head6 x6 q p
    · exact ld_head7 x6 q p
  have hb : (fun q d => x7 (ix2 q d)) = biasOf W.bs := funext fun q => funext fun d => h7 q d
  have hm : ∀ (f f' : Fin 128 → Fin 1024 → EReal) q e, f = f' → mix (fun h q p => (![View.ld x6 r0_6, View.ld x6 r0_7,
      View.ld x6 r0_8, View.ld x6 r0_9, View.ld x6 r0_10, View.ld x6 r0_11, View.ld x6 r0_12, View.ld x6 r0_13] h :
      FVec Ideal S1x128x128 .bf16) (ix3 0 q p)) (fun q d => x7 (ix2 q d)) f q e = mix W.ws (biasOf W.bs) f' q e := by
    intro f f' q e hf
    rw [hw, hb, hf]
  have hv := point_v W x0 x1 x2 x4 x5 h1 h2 h4 h5
  unfold_out out0_11
  frame_out
  refine (pay1 _ _ _ _ _ _ _ _ _ (fun c q e => mix W.ws (biasOf W.bs)
    (fun p => vrow W (fun k => x0 (ix2 ⟨128 * c + p, by omega⟩ k))) q e) ?_ ?_ ?_ ?_ r d).trans ?_
  · intro q e
    refine (chunk0 _ _ _ _ _ _ _ _ _ _ _ _ _ _ rfl q e).trans (hm _ _ q e ?_)
    refine funext fun p => funext fun e => (hv _ e).trans ?_
    rw [show (⟨(p : ℕ), by omega⟩ : Fin 512) = ⟨128 * (0 : Fin 4) + p, by omega⟩ from Fin.ext (by simp)]
  · intro q e
    refine (chunk1 _ _ _ _ _ _ _ _ _ _ q e).trans (hm _ _ q e ?_)
    exact funext fun p => funext fun e => hv _ e
  · intro q e
    refine (chunk2 _ _ _ _ _ _ _ _ _ _ q e).trans (hm _ _ q e ?_)
    exact funext fun p => funext fun e => hv _ e
  · intro q e
    refine (chunk3 _ _ _ _ _ _ _ _ _ _ q e).trans (hm _ _ q e ?_)
    exact funext fun p => funext fun e => hv _ e
  · have hx : ∀ k, x0 (ix2 (⟨128 * (r / 128) + (r % 128), by omega⟩ : Fin 512) k) = x0 (ix2 r k) := fun k =>
      congrArg (fun i => x0 (ix2 i k)) (Fin.ext (by show 128 * ((r : ℕ) / 128) + r % 128 = r; omega))
    unfold mbrow gbrow urow
    simp only [hx, pay5]
    rw [hrow W x0 x1 h1]
    have eg : (fun k c => (View.ld x2 r0_16 : Vec Ideal S1024x1024 .bf16) (ix2 k c)) = cols 3584 (by decide) W.win :=
      funext fun k => funext fun c => (ld_gb x2 k c).trans (h2 _ _)
    have eu : (fun k c => (View.ld x2 r0_4 : Vec Ideal S1024x1024 .bf16) (ix2 k c)) = cols 512 (by decide) W.win :=
      funext fun k => funext fun c => (ld_u x2 k c).trans (h2 _ _)
    have eb : (fun k c => x8 (ix2 k c)) = W.wb := funext fun k => funext fun c => h8 k c
    exact congrArg₂ (· * ·) (congrArg (fun w => sigm (rowdot (rms (fun k => x0 (ix2 r k)) W.gmix) w d)) eg)
      (congrArg₂ (fun u wb => rowdot (fun e => gelu (rowdot (rms (fun k => x0 (ix2 r k)) W.gmix) u e)
        * mix W.ws (biasOf W.bs) (fun p => vrow W fun k => x0 (ix2 ⟨128 * (r / 128) + p, by omega⟩ k)) ⟨r % 128, by omega⟩ e) wb d)
        eu eb)

end Point

end Cert.KernelIdeal.Value

end
-- ==== Proof.Reg0.lean ====
module

public import proofs.«01_k».proof.Proof.MixIn
public import proofs.«01_k».proof.Proof.Words

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx0 : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0, 0] ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, _)

variable (V : (c : Dev nD) → (b : Ref sig .tc) → Buf (Elt Ideal) ((c : Thread nD τ).loc b)) (c : Dev nD) (W : Weights)

/-- A block of the tokens. -/
theorem blk0_0 (t : Fin cfg0.N) (r : Fin 512) (k : Fin 1024) :
    iblk0 V c 0 t (ix2 r k) = V c main_v54 (ix2 (blockRow t r) k) := by
  blk_ext [iblk0, idx0 t, blockRow]

/-- Window 1 holds its whole array. -/
theorem blk0_1 (t : Fin cfg0.N) (k : Fin 1024) :
    iblk0 V c 1 t (ix2 0 k) = V c main_v57 (ix2 0 k) := by
  blk_ext [iblk0, idx0 t]

/-- Window 2 holds its whole array. -/
theorem blk0_2 (t : Fin cfg0.N) (k : Fin 1024) (d : Fin 4608) :
    iblk0 V c 2 t (ix2 k d) = V c main_v60 (ix2 k d) := by
  blk_ext [iblk0, idx0 t]

/-- Window 3 holds its whole array. -/
theorem blk0_3 (t : Fin cfg0.N) (k : Fin 512) (d : Fin 1024) :
    iblk0 V c 3 t (ix2 k d) = V c main_v28 (ix2 k d) := by
  blk_ext [iblk0, idx0 t]

/-- Window 4 holds its whole array. -/
theorem blk0_4 (t : Fin cfg0.N) (k : Fin 1024) :
    iblk0 V c 4 t (ix2 0 k) = V c main_v63 (ix2 0 k) := by
  blk_ext [iblk0, idx0 t]

/-- Window 5 holds its whole array. -/
theorem blk0_5 (t : Fin cfg0.N) (k : Fin 1024) :
    iblk0 V c 5 t (ix2 0 k) = V c main_v66 (ix2 0 k) := by
  blk_ext [iblk0, idx0 t]

/-- Window 6 holds its whole array. -/
theorem blk0_6 (t : Fin cfg0.N) (h : Fin 8) (q p : Fin 128) :
    iblk0 V c 6 t (ix3 h q p) = V c main_v69 (ix3 h q p) := by
  blk_ext [iblk0, idx0 t]

/-- Window 7 holds its whole array. -/
theorem blk0_7 (t : Fin cfg0.N) (q : Fin 128) (d : Fin 1024) :
    iblk0 V c 7 t (ix2 q d) = V c main_v53 (ix2 q d) := by
  blk_ext [iblk0, idx0 t]

/-- Window 8 holds its whole array. -/
theorem blk0_8 (t : Fin cfg0.N) (k d : Fin 1024) :
    iblk0 V c 8 t (ix2 k d) = V c main_v72 (ix2 k d) := by
  blk_ext [iblk0, idx0 t]

/-- Where block `t` of window 9 lies. -/
theorem emb0_9 (t : Fin cfg0.N) (r : Fin 512) (d : Fin 1024) :
    ((cfg0.win 9).blk t).view.emb (ix2 r d) = ix2 (blockRow t r) d := by
  blk_ext [idx0 t, blockRow]

/-- Where block `t` of window 10 lies. -/
theorem emb0_10 (t : Fin cfg0.N) (r : Fin 512) (d : Fin 1024) :
    ((cfg0.win 10).blk t).view.emb (ix2 r d) = ix2 (blockRow t r) d := by
  blk_ext [idx0 t, blockRow]

/-- Where block `t` of window 11 lies. -/
theorem emb0_11 (t : Fin cfg0.N) (r : Fin 512) (d : Fin 1024) :
    ((cfg0.win 11).blk t).view.emb (ix2 r d) = ix2 (blockRow t r) d := by
  blk_ext [idx0 t, blockRow]

/-- The transforms of the channels of every token. -/
theorem reg0_pq (h1 : ∀ k, V c main_v57 (ix2 0 k) = W.gmix k) (h2 : ∀ k d, V c main_v60 (ix2 k d) = W.win k d)
    (R : Fin 65536) (d : Fin 1024) :
    (dat0 V c).arrAt 9 cfg0.N (ix2 R d) = rowdot (arow W fun k => V c main_v54 (ix2 R k)) (fun k c' => V c main_v28 (ix2 k c')) d := by
  refine congrFun ((dat0 V c).arrAt_eq_of_covers 9 (fun i => rowdot (arow W fun k => V c main_v54 (ix2 (i 0) k)) (fun k c' => V c main_v28 (ix2 k c')) (i 1))
    (by decide +kernel) (fun t _ y => ?_)) (ix2 R d)
  idx_vars y
  blk_simp
  rw [after0_9]
  unfold out0_9
  frame_out
  refine (point_pq W (iblk0 V c 0 t) (iblk0 V c 1 t) (iblk0 V c 2 t) (iblk0 V c 3 t) (fun k => (blk0_1 V c t k).trans (h1 k)) (fun k d => (blk0_2 V c t k d).trans (h2 k d)) y0 y1).trans ?_
  refine Eq.trans ?_ (congrArg (fun i : S65536x1024.Idx => rowdot (arow W fun k => V c main_v54 (ix2 (i 0) k)) (fun k c' => V c main_v28 (ix2 k c')) (i 1)) (emb0_9 t y0 y1)).symm
  exact congrArg₂ (fun x (w : Fin 512 → Fin 1024 → EReal) => rowdot (arow W x) w y1) (funext fun k => blk0_0 V c t y0 k)
    (funext fun k => funext fun d => blk0_3 V c t k d)

/-- The gate of the Fourier mixer for every token. -/
theorem reg0_ga (h1 : ∀ k, V c main_v57 (ix2 0 k) = W.gmix k) (h2 : ∀ k d, V c main_v60 (ix2 k d) = W.win k d)
    (R : Fin 65536) (d : Fin 1024) :
    (dat0 V c).arrAt 10 cfg0.N (ix2 R d) = garow W (fun k => V c main_v54 (ix2 R k)) d := by
  refine congrFun ((dat0 V c).arrAt_eq_of_covers 10 (fun i => garow W (fun k => V c main_v54 (ix2 (i 0) k)) (i 1))
    (by decide +kernel) (fun t _ y => ?_)) (ix2 R d)
  idx_vars y
  blk_simp
  rw [after0_10]
  unfold out0_10
  frame_out
  refine (point_ga W (iblk0 V c 0 t) (iblk0 V c 1 t) (iblk0 V c 2 t) (fun k => (blk0_1 V c t k).trans (h1 k)) (fun k d => (blk0_2 V c t k d).trans (h2 k d)) y0 y1).trans ?_
  refine Eq.trans ?_ (congrArg (fun i : S65536x1024.Idx => garow W (fun k => V c main_v54 (ix2 (i 0) k)) (i 1)) (emb0_10 t y0 y1)).symm
  exact congrArg (fun x => garow W x y1) (funext fun k => blk0_0 V c t y0 k)

/-- The gated spatial mixer for every token. -/
theorem reg0_mb (h1 : ∀ k, V c main_v57 (ix2 0 k) = W.gmix k) (h2 : ∀ k d, V c main_v60 (ix2 k d) = W.win k d) (h4 : ∀ k, V c main_v63 (ix2 0 k) = W.lg k) (h5 : ∀ k, V c main_v66 (ix2 0 k) = W.lb k) (h6 : ∀ h q p, V c main_v69 (ix3 h q p) = W.ws h q p) (h7 : ∀ q d, V c main_v53 (ix2 q d) = biasOf W.bs q d) (h8 : ∀ k d, V c main_v72 (ix2 k d) = W.wb k d)
    (R : Fin 65536) (d : Fin 1024) :
    (dat0 V c).arrAt 11 cfg0.N (ix2 R d) = mbrow W (fun p k => V c main_v54 (ix2 (chunkRow R p) k)) (chunkPos R) d := by
  refine congrFun ((dat0 V c).arrAt_eq_of_covers 11 (fun i => mbrow W (fun p k => V c main_v54 (ix2 (chunkRow (i 0) p) k)) (chunkPos (i 0)) (i 1))
    (by decide +kernel) (fun t _ y => ?_)) (ix2 R d)
  idx_vars y
  blk_simp
  rw [after0_11]
  refine (point_mb W (iblk0 V c 0 t) (iblk0 V c 1 t) (iblk0 V c 2 t) (iblk0 V c 3 t) (iblk0 V c 4 t) (iblk0 V c 5 t) (iblk0 V c 6 t) (iblk0 V c 7 t) (iblk0 V c 8 t) (fun k => (blk0_1 V c t k).trans (h1 k)) (fun k d => (blk0_2 V c t k d).trans (h2 k d)) (fun k => (blk0_4 V c t k).trans (h4 k)) (fun k => (blk0_5 V c t k).trans (h5 k)) (fun h q p => (blk0_6 V c t h q p).trans (h6 h q p)) (fun q d => (blk0_7 V c t q d).trans (h7 q d)) (fun k d => (blk0_8 V c t k d).trans (h8 k d)) y0 y1).trans ?_
  refine Eq.trans ?_ (congrArg (fun i : S65536x1024.Idx => mbrow W (fun p k => V c main_v54 (ix2 (chunkRow (i 0) p) k)) (chunkPos (i 0)) (i 1)) (emb0_11 t y0 y1)).symm
  exact congrArg₂ (fun x q => mbrow W x q y1) (funext fun p => funext fun k =>
    (blk0_0 V c t _ k).trans (congrArg (fun R => V c main_v54 (ix2 R k)) (chunkRow_block t y0 p))) (chunkPos_block t y0)

end Cert.KernelIdeal.Value

end
-- ==== Proof.MixOut.lean ====
module

public import proofs.«01_k».proof.Proof.Spec
public import proofs.«01_k».proof.Proof.Gen.KernelIdeal.Frame
public import Idealize.ShloMosaic.Lib.Pipeline.ValueKit

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- The mixed tokens of a block, from the two halves of the table and of the transforms of the channels. -/
theorem pay_out (a0 a1 : FVec Ideal S512x2048 .bf16) (p0 p1 : FVec Ideal S1x2048x512 .bf16) (wa : FVec Ideal S512x1024 .bf16)
    (ga mb : FVec Ideal S1x512x1024 .bf16) (x : FVec Ideal S1x512x1024 .f32) (wo : FVec Ideal S1024x1024 .bf16)
    (r : Fin 512) (d : Fin 1024) :
    k1_pay1 (F := Ideal) (k1_pay2 (F := Ideal) a0 p0 a1 p1 wa ga mb x wo) (ix3 0 r d)
      = outrow (fun k => x (ix3 0 r k)) (fun k => ga (ix3 0 r k)) (fun k => mb (ix3 0 r k))
          (fun c => (∑ s, a0 (ix2 r s) * p0 (ix3 0 s c)) + ∑ s, a1 (ix2 r s) * p1 (ix3 0 s c))
          (fun k c => wa (ix2 k c)) (fun k c => wo (ix2 k c)) d := by
  pointwise [k1_pay1, k1_pay2, outrow, rowdot]

/-- Half of the table of the positions. -/
theorem ld_dft_l (x : Vec Ideal S512x4096 .bf16) (r : Fin 512) (s : Fin 2048) :
    (View.ld x r1_0 : Vec Ideal S512x2048 .bf16) (ix2 r s) = x (ix2 r ⟨0 + s, by omega⟩) := by
  pointwise []

/-- Half of the table of the positions. -/
theorem ld_dft_r (x : Vec Ideal S512x4096 .bf16) (r : Fin 512) (s : Fin 2048) :
    (View.ld x r1_2 : Vec Ideal S512x2048 .bf16) (ix2 r s) = x (ix2 r ⟨2048 + s, by omega⟩) := by
  pointwise []

/-- Half of the transforms of the channels. -/
theorem ld_pq_l (x : Vec Ideal S1x2048x1024 .bf16) (s : Fin 2048) (c : Fin 512) :
    (View.ld x r1_1 : Vec Ideal S1x2048x512 .bf16) (ix3 0 s c) = x (ix3 0 s ⟨0 + c, by omega⟩) := by
  pointwise []

/-- Half of the transforms of the channels. -/
theorem ld_pq_r (x : Vec Ideal S1x2048x1024 .bf16) (s : Fin 2048) (c : Fin 512) :
    (View.ld x r1_3 : Vec Ideal S1x2048x512 .bf16) (ix3 0 s c) = x (ix3 0 s ⟨512 + c, by omega⟩) := by
  pointwise []

/-- The mixed tokens of a block. -/
theorem point_out (x0 : Vec Ideal S512x4096 .bf16) (x1 : Vec Ideal S1x2048x1024 .bf16) (x2 : Vec Ideal S1x512x1024 .f32)
    (x3 x4 : Vec Ideal S1x512x1024 .bf16) (x5 : Vec Ideal S512x1024 .bf16) (x6 : Vec Ideal S1024x1024 .bf16)
    (r : Fin 512) (d : Fin 1024) :
    out1_7 (F := Ideal) x0 x1 x2 x3 x4 x5 x6 (ix3 0 r d)
      = outrow (fun k => x2 (ix3 0 r k)) (fun k => x3 (ix3 0 r k)) (fun k => x4 (ix3 0 r k))
          (halves (fun k => x0 (ix2 r k)) (fun s k => x1 (ix3 0 s k)))
          (fun k c => x5 (ix2 k c)) (fun k c => x6 (ix2 k c)) d := by
  unfold out1_7
  frame_out
  refine (pay_out _ _ _ _ _ _ _ _ _ r d).trans ?_
  exact congrArg (fun y => outrow _ _ _ y _ _ d) (funext fun c => congrArg₂ (· + ·)
    (Finset.sum_congr rfl fun s _ => congrArg₂ (· * ·) (ld_dft_l x0 r s) (ld_pq_l x1 s c))
    (Finset.sum_congr rfl fun s _ => congrArg₂ (· * ·) (ld_dft_r x0 r s) (ld_pq_r x1 s c)))

end Cert.KernelIdeal.Value

end
-- ==== Proof.Reg1.lean ====
module

public import proofs.«01_k».proof.Proof.MixOut

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx1 : ∀ t : Fin cfg1.N, win1_0.index t = ![t.val % 4, 0] ∧ win1_1.index t = ![t.val / 4, 0, 0] ∧ win1_2.index t = ![t.val / 4, t.val % 4, 0] ∧ win1_3.index t = ![t.val / 4, t.val % 4, 0] ∧ win1_4.index t = ![t.val / 4, t.val % 4, 0] ∧ win1_5.index t = ![0, 0] ∧ win1_6.index t = ![0, 0] ∧ win1_7.index t = ![t.val / 4, t.val % 4, 0] :=
  (by decide +kernel : ∀ t : Fin grid1.N, _)

variable (V : (c : Dev nD) → (b : Ref sig .tc) → Buf (Elt Ideal) ((c : Thread nD τ).loc b)) (c : Dev nD)

/-- The rows of the table of the positions that a block reads. -/
theorem blk1_0 (t : Fin cfg1.N) (r : Fin 512) (k : Fin 4096) :
    iblk1 V c 0 t (ix2 r k) = V c main_v47 (ix2 (blockPos t r) k) := by
  blk_ext [iblk1, idx1 t, blockPos]

/-- The transforms of the channels of one example. -/
theorem blk1_1 (t : Fin cfg1.N) (s : Fin 2048) (k : Fin 1024) :
    iblk1 V c 1 t (ix3 0 s k) = V c main_v74 (ix3 (blockEx t) s k) := by
  blk_ext [iblk1, idx1 t, blockEx]

/-- A block of the tokens. -/
theorem blk1_2 (t : Fin cfg1.N) (r : Fin 512) (k : Fin 1024) :
    iblk1 V c 2 t (ix3 0 r k) = V c main_arg0 (ix3 (blockEx t) (blockPos t r) k) := by
  blk_ext [iblk1, idx1 t, blockEx, blockPos]

/-- A block of the gate. -/
theorem blk1_3 (t : Fin cfg1.N) (r : Fin 512) (k : Fin 1024) :
    iblk1 V c 3 t (ix3 0 r k) = V c main_v75 (ix3 (blockEx t) (blockPos t r) k) := by
  blk_ext [iblk1, idx1 t, blockEx, blockPos]

/-- A block of the gated spatial mixer. -/
theorem blk1_4 (t : Fin cfg1.N) (r : Fin 512) (k : Fin 1024) :
    iblk1 V c 4 t (ix3 0 r k) = V c main_v76 (ix3 (blockEx t) (blockPos t r) k) := by
  blk_ext [iblk1, idx1 t, blockEx, blockPos]

/-- Window 5 holds its whole array. -/
theorem blk1_5 (t : Fin cfg1.N) (k : Fin 512) (d : Fin 1024) :
    iblk1 V c 5 t (ix2 k d) = V c main_v79 (ix2 k d) := by
  blk_ext [iblk1, idx1 t]

/-- Window 6 holds its whole array. -/
theorem blk1_6 (t : Fin cfg1.N) (k : Fin 1024) (d : Fin 1024) :
    iblk1 V c 6 t (ix2 k d) = V c main_v82 (ix2 k d) := by
  blk_ext [iblk1, idx1 t]

/-- Where block `t` of the result lies. -/
theorem emb1_7 (t : Fin cfg1.N) (r : Fin 512) (d : Fin 1024) :
    ((cfg1.win 7).blk t).view.emb (ix3 0 r d) = ix3 (blockEx t) (blockPos t r) d := by
  blk_ext [idx1 t, blockEx, blockPos]

/-- The tokens after both mixers. -/
theorem reg1_out (b : Fin 32) (s : Fin 2048) (d : Fin 1024) :
    (dat1 V c).arrAt 7 cfg1.N (ix3 b s d)
      = outrow (fun k => V c main_arg0 (ix3 b s k)) (fun k => V c main_v75 (ix3 b s k)) (fun k => V c main_v76 (ix3 b s k))
        (halves (fun k => V c main_v47 (ix2 s k)) (fun s' k => V c main_v74 (ix3 b s' k)))
        (fun k c' => V c main_v79 (ix2 k c')) (fun k c' => V c main_v82 (ix2 k c')) d := by
  refine congrFun ((dat1 V c).arrAt_eq_of_covers 7 (fun i => outrow (fun k => V c main_arg0 (ix3 (i 0) (i 1) k)) (fun k => V c main_v75 (ix3 (i 0) (i 1) k)) (fun k => V c main_v76 (ix3 (i 0) (i 1) k))
        (halves (fun k => V c main_v47 (ix2 (i 1) k)) (fun s' k => V c main_v74 (ix3 (i 0) s' k)))
        (fun k c' => V c main_v79 (ix2 k c')) (fun k c' => V c main_v82 (ix2 k c')) (i 2))
    (by decide +kernel) (fun t _ y => ?_)) (ix3 b s d)
  idx_vars y
  obtain rfl : y0 = 0 := Subsingleton.elim _ _
  blk_simp
  rw [after1_7]
  refine (point_out (iblk1 V c 0 t) (iblk1 V c 1 t) (iblk1 V c 2 t) (iblk1 V c 3 t) (iblk1 V c 4 t) (iblk1 V c 5 t) (iblk1 V c 6 t) y1 y2).trans ?_
  refine Eq.trans ?_ (congrArg (fun i : S32x2048x1024.Idx => outrow (fun k => V c main_arg0 (ix3 (i 0) (i 1) k)) (fun k => V c main_v75 (ix3 (i 0) (i 1) k)) (fun k => V c main_v76 (ix3 (i 0) (i 1) k))
        (halves (fun k => V c main_v47 (ix2 (i 1) k)) (fun s' k => V c main_v74 (ix3 (i 0) s' k)))
        (fun k c' => V c main_v79 (ix2 k c')) (fun k c' => V c main_v82 (ix2 k c')) (i 2)) (emb1_7 t y1 y2)).symm
  simp only [blk1_0, blk1_1, blk1_2, blk1_3, blk1_4, blk1_5, blk1_6]
  rfl

end Cert.KernelIdeal.Value

end
-- ==== Proof.Mlp.lean ====
module

public import proofs.«01_k».proof.Proof.Spec
public import proofs.«01_k».proof.Proof.Gen.KernelIdeal.Frame
public import Idealize.ShloMosaic.Lib.Pipeline.ValueKit

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- A block of 1024 of the hidden channels: its part of the sum that is added to a token, from the normed token. -/
def part (h : Fin 1024 → EReal) (wu wd : Fin 1024 → Fin 1024 → EReal) (d : Fin 1024) : EReal :=
  rowdot (fun f => max (rowdot h wu f) 0 * max (rowdot h wu f) 0) wd d

/-- A sum over 4096 as four sums over 1024. -/
theorem sum4 (f : Fin 4096 → EReal) : (∑ k, f k)
    = (∑ k : Fin 1024, f ⟨0 + k, by omega⟩) + (∑ k : Fin 1024, f ⟨1024 + k, by omega⟩) + (∑ k : Fin 1024, f ⟨2048 + k, by omega⟩)
      + ∑ k : Fin 1024, f ⟨3072 + k, by omega⟩ := by
  have e := Fin.sum_univ_add (a := 3072) (b := 1024) f
  rw [show (∑ k, f k) = _ from e, Fin.sum_univ_add (a := 2048) (b := 1024), Fin.sum_univ_add (a := 1024) (b := 1024)]
  refine congrArg₂ (· + ·) (congrArg₂ (· + ·) (congrArg₂ (· + ·) ?_ ?_) ?_) ?_ <;>
    exact Finset.sum_congr rfl fun k _ => congrArg f (Fin.ext (by simp [Fin.castAdd, Fin.natAdd]))

/-- The normed rows of a block. -/
theorem pay_h (x : FVec Ideal S512x1024 .f32) (g : FVec Ideal S1x1024 .f32) (r : Fin 512) (d : Fin 1024) :
    k2_pay3 (F := Ideal) x g (ix2 r d) = rms (fun k => x (ix2 r k)) (fun k => g (ix2 0 k)) d := by
  pointwise [k2_pay3, k2_pay2, rms, rscale, lit]

/-- The part of a block of hidden channels, from the normed rows. -/
theorem pay_0 (x : FVec Ideal S512x1024 .f32) (g : FVec Ideal S1x1024 .f32) (wu wd : FVec Ideal S1024x1024 .bf16)
    (r : Fin 512) (d : Fin 1024) :
    k2_pay4 (F := Ideal) x g wu wd (ix2 r d)
      = x (ix2 r d) + part (fun k => k2_pay3 (F := Ideal) x g (ix2 r k)) (fun k c => wu (ix2 k c)) (fun k c => wd (ix2 k c)) d := by
  pointwise [k2_pay4, k2_pay2, part, rowdot]

/-- The part of the second block of hidden channels. -/
theorem pay_1 (x : FVec Ideal S512x1024 .f32) (g : FVec Ideal S1x1024 .f32) (wu wd : FVec Ideal S1024x1024 .bf16)
    (r : Fin 512) (d : Fin 1024) :
    k2_pay5 (F := Ideal) x g wu wd (ix2 r d)
      = part (fun k => k2_pay3 (F := Ideal) x g (ix2 r k)) (fun k c => wu (ix2 k c)) (fun k c => wd (ix2 k c)) d := by
  pointwise [k2_pay5, part, rowdot]

/-- The sum of all four parts. -/
theorem pay_2 (h : FVec Ideal S512x1024 .bf16) (a b : FVec Ideal S512x1024 .f32) (wu wd wu' wd' : FVec Ideal S1024x1024 .bf16)
    (r : Fin 512) (d : Fin 1024) :
    k2_pay1 (F := Ideal) h a b wu wd wu' wd' (ix2 r d)
      = a (ix2 r d) + b (ix2 r d) + part (fun k => h (ix2 r k)) (fun k c => wu (ix2 k c)) (fun k c => wd (ix2 k c)) d
        + part (fun k => h (ix2 r k)) (fun k c => wu' (ix2 k c)) (fun k c => wd' (ix2 k c)) d := by
  pointwise [k2_pay1, part, rowdot]

/-- Block 0 of the columns. -/
theorem ld_up0 (x : Vec Ideal S1024x4096 .bf16) (k c : Fin 1024) :
    (View.ld x r2_2 : Vec Ideal S1024x1024 .bf16) (ix2 k c) = x (ix2 k ⟨0 + c, by omega⟩) := by
  pointwise []

/-- Block 0 of the rows. -/
theorem ld_down0 (x : Vec Ideal S4096x1024 .bf16) (k c : Fin 1024) :
    (View.ld x r2_3 : Vec Ideal S1024x1024 .bf16) (ix2 k c) = x (ix2 ⟨0 + k, by omega⟩ c) := by
  pointwise []

/-- Block 1 of the columns. -/
theorem ld_up1 (x : Vec Ideal S1024x4096 .bf16) (k c : Fin 1024) :
    (View.ld x r2_4 : Vec Ideal S1024x1024 .bf16) (ix2 k c) = x (ix2 k ⟨1024 + c, by omega⟩) := by
  pointwise []

/-- Block 1 of the rows. -/
theorem ld_down1 (x : Vec Ideal S4096x1024 .bf16) (k c : Fin 1024) :
    (View.ld x r2_5 : Vec Ideal S1024x1024 .bf16) (ix2 k c) = x (ix2 ⟨1024 + k, by omega⟩ c) := by
  pointwise []

/-- Block 2 of the columns. -/
theorem ld_up2 (x : Vec Ideal S1024x4096 .bf16) (k c : Fin 1024) :
    (View.ld x r2_6 : Vec Ideal S1024x1024 .bf16) (ix2 k c) = x (ix2 k ⟨2048 + c, by omega⟩) := by
  pointwise []

/-- Block 2 of the rows. -/
theorem ld_down2 (x : Vec Ideal S4096x1024 .bf16) (k c : Fin 1024) :
    (View.ld x r2_7 : Vec Ideal S1024x1024 .bf16) (ix2 k c) = x (ix2 ⟨2048 + k, by omega⟩ c) := by
  pointwise []

/-- Block 3 of the columns. -/
theorem ld_up3 (x : Vec Ideal S1024x4096 .bf16) (k c : Fin 1024) :
    (View.ld x r2_8 : Vec Ideal S1024x1024 .bf16) (ix2 k c) = x (ix2 k ⟨3072 + c, by omega⟩) := by
  pointwise []

/-- Block 3 of the rows. -/
theorem ld_down3 (x : Vec Ideal S4096x1024 .bf16) (k c : Fin 1024) :
    (View.ld x r2_9 : Vec Ideal S1024x1024 .bf16) (ix2 k c) = x (ix2 ⟨3072 + k, by omega⟩ c) := by
  pointwise []

/-- The channel mixing of the tokens of a block, with the tokens added. -/
theorem point_mlp (x0 : Vec Ideal S512x1024 .f32) (x1 : Vec Ideal S1x1024 .f32) (x2 : Vec Ideal S1024x4096 .bf16)
    (x3 : Vec Ideal S4096x1024 .bf16) (r : Fin 512) (d : Fin 1024) :
    k2_pay1 (F := Ideal) (k2_pay3 x0 x1) (k2_pay4 x0 x1 (View.ld x2 r2_2) (View.ld x3 r2_3))
        (k2_pay5 x0 x1 (View.ld x2 r2_4) (View.ld x3 r2_5)) (View.ld x2 r2_6) (View.ld x3 r2_7) (View.ld x2 r2_8)
        (View.ld x3 r2_9) (ix2 r d)
      = mlprow (fun k => x0 (ix2 r k)) (fun k => x1 (ix2 0 k)) (fun k c => x2 (ix2 k c)) (fun k c => x3 (ix2 k c)) d := by
  rw [pay_2, pay_0, pay_1]
  have hh : (fun k => k2_pay3 (F := Ideal) x0 x1 (ix2 r k)) = rms (fun k => x0 (ix2 r k)) (fun k => x1 (ix2 0 k)) :=
    funext fun k => pay_h x0 x1 r k
  rw [hh]
  have e0 : part (rms (fun k => x0 (ix2 r k)) (fun k => x1 (ix2 0 k)))
      (fun k c => (View.ld x2 r2_2 : Vec Ideal S1024x1024 .bf16) (ix2 k c)) (fun k c => (View.ld x3 r2_3 : Vec Ideal S1024x1024 .bf16) (ix2 k c)) d = _ :=
    congrArg₂ (part _ · · d) (funext fun k => funext fun c => ld_up0 x2 k c) (funext fun k => funext fun c => ld_down0 x3 k c)
  have e1 : part (rms (fun k => x0 (ix2 r k)) (fun k => x1 (ix2 0 k)))
      (fun k c => (View.ld x2 r2_4 : Vec Ideal S1024x1024 .bf16) (ix2 k c)) (fun k c => (View.ld x3 r2_5 : Vec Ideal S1024x1024 .bf16) (ix2 k c)) d = _ :=
    congrArg₂ (part _ · · d) (funext fun k => funext fun c => ld_up1 x2 k c) (funext fun k => funext fun c => ld_down1 x3 k c)
  have e2 : part (rms (fun k => x0 (ix2 r k)) (fun k => x1 (ix2 0 k)))
      (fun k c => (View.ld x2 r2_6 : Vec Ideal S1024x1024 .bf16) (ix2 k c)) (fun k c => (View.ld x3 r2_7 : Vec Ideal S1024x1024 .bf16) (ix2 k c)) d = _ :=
    congrArg₂ (part _ · · d) (funext fun k => funext fun c => ld_up2 x2 k c) (funext fun k => funext fun c => ld_down2 x3 k c)
  have e3 : part (rms (fun k => x0 (ix2 r k)) (fun k => x1 (ix2 0 k)))
      (fun k c => (View.ld x2 r2_8 : Vec Ideal S1024x1024 .bf16) (ix2 k c)) (fun k c => (View.ld x3 r2_9 : Vec Ideal S1024x1024 .bf16) (ix2 k c)) d = _ :=
    congrArg₂ (part _ · · d) (funext fun k => funext fun c => ld_up3 x2 k c) (funext fun k => funext fun c => ld_down3 x3 k c)
  unfold mlprow
  refine (congrArg₂ (· + ·) (congrArg₂ (· + ·) (congrArg₂ (· + ·) (congrArg₂ (· + ·) rfl e0) e1) e2) e3).trans ?_
  conv_rhs => rw [rowdot, sum4]
  simp only [add_assoc]
  rfl

/-- The final norm of the rows of a block. -/
def lastnorm (v : FVec Ideal S512x1024 .f32) (g : FVec Ideal S1x1024 .f32) : FVec Ideal S512x1024 .f32 :=
  mulf (mulf v (broadcastTo S512x1024 (rsqrt (addf (divf (shapeCast S512x1 (multiReduction .add [1] S512 (mulf v v) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

/-- The final norm at a row. -/
theorem lastnorm_apply (v : FVec Ideal S512x1024 .f32) (g : FVec Ideal S1x1024 .f32) (r : Fin 512) (d : Fin 1024) :
    lastnorm v g (ix2 r d) = rms (fun k => v (ix2 r k)) (fun k => g (ix2 0 k)) d := by
  pointwise [lastnorm, rms, rscale, lit]

/-- The channel mixing of the last layer, with the final norm after it. -/
theorem point_last (x0 : Vec Ideal S512x1024 .f32) (x1 : Vec Ideal S1x1024 .f32) (x2 : Vec Ideal S1024x4096 .bf16)
    (x3 : Vec Ideal S4096x1024 .bf16) (x4 : Vec Ideal S1x1024 .f32) (r : Fin 512) (d : Fin 1024) :
    k11_pay5 (F := Ideal) (k11_pay2 x0 x1) (k11_pay3 x0 x1 (View.ld x2 r11_2) (View.ld x3 r11_3))
        (k11_pay4 x0 x1 (View.ld x2 r11_4) (View.ld x3 r11_5)) (View.ld x2 r11_6) (View.ld x3 r11_7) (View.ld x2 r11_8)
        (View.ld x3 r11_9) x4 (ix2 r d)
      = rms (mlprow (fun k => x0 (ix2 r k)) (fun k => x1 (ix2 0 k)) (fun k c => x2 (ix2 k c)) (fun k c => x3 (ix2 k c)))
          (fun k => x4 (ix2 0 k)) d := by
  change lastnorm (k2_pay1 (F := Ideal) (k2_pay3 x0 x1) (k2_pay4 x0 x1 (View.ld x2 r2_2) (View.ld x3 r2_3))
        (k2_pay5 x0 x1 (View.ld x2 r2_4) (View.ld x3 r2_5)) (View.ld x2 r2_6) (View.ld x3 r2_7) (View.ld x2 r2_8)
        (View.ld x3 r2_9)) x4 (ix2 r d) = _
  rw [lastnorm_apply]
  simp only [point_mlp]

end Cert.KernelIdeal.Value

end
-- ==== Proof.Reg2.lean ====
module

public import proofs.«01_k».proof.Proof.Mlp

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx2 : ∀ t : Fin cfg2.N, win2_0.index t = ![t.val, 0] ∧ win2_1.index t = ![0, 0] ∧ win2_2.index t = ![0, 0] ∧ win2_3.index t = ![0, 0] ∧ win2_4.index t = ![0, 0] ∧ win2_5.index t = ![t.val, 0] :=
  (by decide +kernel : ∀ t : Fin grid2.N, _)

variable (V : (c : Dev nD) → (b : Ref sig .tc) → Buf (Elt Ideal) ((c : Thread nD τ).loc b)) (c : Dev nD)

/-- A block of the tokens. -/
theorem blk2_0 (t : Fin cfg2.N) (r : Fin 512) (k : Fin 1024) :
    iblk2 V c 0 t (ix2 r k) = V c main_v84 (ix2 (blockRow t r) k) := by
  blk_ext [iblk2, idx2 t, blockRow]

/-- Window 1 holds its whole array. -/
theorem blk2_1 (t : Fin cfg2.N) (k : Fin 1024) :
    iblk2 V c 1 t (ix2 0 k) = V c main_v87 (ix2 0 k) := by
  blk_ext [iblk2, idx2 t]

/-- Window 2 holds its whole array. -/
theorem blk2_2 (t : Fin cfg2.N) (k : Fin 1024) (d : Fin 4096) :
    iblk2 V c 2 t (ix2 k d) = V c main_v90 (ix2 k d) := by
  blk_ext [iblk2, idx2 t]

/-- Window 3 holds its whole array. -/
theorem blk2_3 (t : Fin cfg2.N) (k : Fin 4096) (d : Fin 1024) :
    iblk2 V c 3 t (ix2 k d) = V c main_v93 (ix2 k d) := by
  blk_ext [iblk2, idx2 t]

/-- Where block `t` of the result lies. -/
theorem emb2_5 (t : Fin cfg2.N) (r : Fin 512) (d : Fin 1024) :
    ((cfg2.win 5).blk t).view.emb (ix2 r d) = ix2 (blockRow t r) d := by
  blk_ext [idx2 t, blockRow]

/-- The tokens after the channel mixing. -/
theorem reg2_mlp (R : Fin 65536) (d : Fin 1024) :
    (dat2 V c).arrAt 5 cfg2.N (ix2 R d)
      = mlprow (fun k => V c main_v84 (ix2 R k)) (fun k => V c main_v87 (ix2 0 k)) (fun k c' => V c main_v90 (ix2 k c')) (fun k c' => V c main_v93 (ix2 k c')) d := by
  refine congrFun ((dat2 V c).arrAt_eq_of_covers 5 (fun i => mlprow (fun k => V c main_v84 (ix2 (i 0) k)) (fun k => V c main_v87 (ix2 0 k)) (fun k c' => V c main_v90 (ix2 k c')) (fun k c' => V c main_v93 (ix2 k c')) (i 1))
    (by decide +kernel) (fun t _ y => ?_)) (ix2 R d)
  idx_vars y
  blk_simp
  rw [after2_5]
  unfold out2_5
  frame_out
  refine (point_mlp (iblk2 V c 0 t) (iblk2 V c 1 t) (iblk2 V c 2 t) (iblk2 V c 3 t) y0 y1).trans ?_
  refine Eq.trans ?_ (congrArg (fun i : S65536x1024.Idx => mlprow (fun k => V c main_v84 (ix2 (i 0) k)) (fun k => V c main_v87 (ix2 0 k)) (fun k c' => V c main_v90 (ix2 k c')) (fun k c' => V c main_v93 (ix2 k c')) (i 1)) (emb2_5 t y0 y1)).symm
  simp only [blk2_0, blk2_1, blk2_2, blk2_3]
  rfl

end Cert.KernelIdeal.Value

end
-- ==== Proof.Layer0.lean ====
module

public import proofs.«01_k».proof.Proof.Host1
public import proofs.«01_k».proof.Proof.Reg0
public import proofs.«01_k».proof.Proof.Reg1
public import proofs.«01_k».proof.Proof.Reg2

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

section Host

variable (W : Valuation τ sig (Elt Ideal))

/-- The tokens, row after row. -/
theorem s_v54 (b : Fin 32) (s : Fin 2048) (d : Fin 1024) :
    StableHlo.after hostOps0_16 W (Proc.devRef .tc main_v54) (ix2 (flat b s) d) = W (Proc.devRef .tc main_arg0) (ix3 b s d) := by
  entry_read
  pointwise [flat]

/-- A row of scales. -/
theorem s_v57 (k : Fin 1024) :
    StableHlo.after hostOps0_16 W (Proc.devRef .tc main_v57) (ix2 0 k) = W (Proc.devRef .tc main_arg1) (ix2 0 k) := by
  entry_read
  pointwise [flat]

/-- The input projection. -/
theorem s_v60 (k : Fin 1024) (e : Fin 4608) :
    StableHlo.after hostOps0_16 W (Proc.devRef .tc main_v60) (ix2 k e) = W (Proc.devRef .tc main_arg2) (ix3 0 k e) := by
  entry_read
  pointwise [flat]

/-- A row of scales. -/
theorem s_v63 (k : Fin 1024) :
    StableHlo.after hostOps0_16 W (Proc.devRef .tc main_v63) (ix2 0 k) = W (Proc.devRef .tc main_arg4) (ix2 0 k) := by
  entry_read
  pointwise [flat]

/-- A row of shifts. -/
theorem s_v66 (k : Fin 1024) :
    StableHlo.after hostOps0_16 W (Proc.devRef .tc main_v66) (ix2 0 k) = W (Proc.devRef .tc main_arg5) (ix2 0 k) := by
  entry_read
  pointwise [flat]

/-- The spatial mixing matrices. -/
theorem s_v69 (h : Fin 8) (q p : Fin 128) :
    StableHlo.after hostOps0_16 W (Proc.devRef .tc main_v69) (ix3 h q p) = W (Proc.devRef .tc main_arg6) (ix4 0 h q p) := by
  entry_read
  pointwise [flat]

/-- The bias of a head, over its channels. -/
theorem s_v53 (q : Fin 128) (e : Fin 1024) :
    StableHlo.after hostOps0_16 W (Proc.devRef .tc main_v53) (ix2 q e) = biasOf (fun h p => W (Proc.devRef .tc main_arg7) (ix3 0 h p)) q e := by
  entry_read
  pointwise [flat]
  rfl

/-- The projection of the spatial mixer. -/
theorem s_v72 (k e : Fin 1024) :
    StableHlo.after hostOps0_16 W (Proc.devRef .tc main_v72) (ix2 k e) = W (Proc.devRef .tc main_arg8) (ix3 0 k e) := by
  entry_read
  pointwise [flat]

/-- The rows by example. -/
theorem s_v74 (b : Fin 32) (s : Fin 2048) (d : Fin 1024) :
    StableHlo.after hostOps1 W (Proc.devRef .tc main_v74) (ix3 b s d) = W (Proc.devRef .tc main_v73_0) (ix2 (flat b s) d) := by
  entry_read
  pointwise [flat]

/-- The rows by example. -/
theorem s_v75 (b : Fin 32) (s : Fin 2048) (d : Fin 1024) :
    StableHlo.after hostOps1 W (Proc.devRef .tc main_v75) (ix3 b s d) = W (Proc.devRef .tc main_v73_1) (ix2 (flat b s) d) := by
  entry_read
  pointwise [flat]

/-- The rows by example. -/
theorem s_v76 (b : Fin 32) (s : Fin 2048) (d : Fin 1024) :
    StableHlo.after hostOps1 W (Proc.devRef .tc main_v76) (ix3 b s d) = W (Proc.devRef .tc main_v73_2) (ix2 (flat b s) d) := by
  entry_read
  pointwise [flat]

/-- A weight. -/
theorem s_v79 (k : Fin 512) (e : Fin 1024) :
    StableHlo.after hostOps1 W (Proc.devRef .tc main_v79) (ix2 k e) = W (Proc.devRef .tc main_arg3) (ix3 0 k e) := by
  entry_read
  pointwise [flat]

/-- A weight. -/
theorem s_v82 (k e : Fin 1024) :
    StableHlo.after hostOps1 W (Proc.devRef .tc main_v82) (ix2 k e) = W (Proc.devRef .tc main_arg9) (ix3 0 k e) := by
  entry_read
  pointwise [flat]

/-- The rows in one. -/
theorem s_v84 (b : Fin 32) (s : Fin 2048) (d : Fin 1024) :
    StableHlo.after hostOps2 W (Proc.devRef .tc main_v84) (ix2 (flat b s) d) = W (Proc.devRef .tc main_v83) (ix3 b s d) := by
  entry_read
  pointwise [flat]

/-- A row of scales. -/
theorem s_v87 (k : Fin 1024) :
    StableHlo.after hostOps2 W (Proc.devRef .tc main_v87) (ix2 0 k) = W (Proc.devRef .tc main_arg10) (ix2 0 k) := by
  entry_read
  pointwise [flat]

/-- A weight. -/
theorem s_v90 (k : Fin 1024) (e : Fin 4096) :
    StableHlo.after hostOps2 W (Proc.devRef .tc main_v90) (ix2 k e) = W (Proc.devRef .tc main_arg11) (ix3 0 k e) := by
  entry_read
  pointwise [flat]

/-- A weight. -/
theorem s_v93 (k : Fin 4096) (e : Fin 1024) :
    StableHlo.after hostOps2 W (Proc.devRef .tc main_v93) (ix2 k e) = W (Proc.devRef .tc main_arg12) (ix3 0 k e) := by
  entry_read
  pointwise [flat]

/-- The rows by example. -/
theorem s_v95 (b : Fin 32) (s : Fin 2048) (d : Fin 1024) :
    StableHlo.after hostOps3 W (Proc.devRef .tc main_v95) (ix3 b s d) = W (Proc.devRef .tc main_v94) (ix2 (flat b s) d) := by
  entry_read
  pointwise [flat]

/-- The row of the final norm. -/
theorem s_v48 (k : Fin 1024) :
    StableHlo.after hostOps0_16 W (Proc.devRef .tc main_v48) (ix2 0 k) = W (Proc.devRef .tc main_arg13) (ix1 k) := by
  entry_read
  pointwise []

end Host

variable (m : (ℓ : Loc nD τ sig) → Buf (Elt Ideal) ℓ) (ρ : Dev nD → PrngReg) (c : Dev nD)

/-- A token as the layer finds it. -/
theorem row_v54 (b : Fin 32) (s : Fin 2048) : (fun k => V17 m ρ c main_v54 (ix2 (flat b s) k)) = tokens m c b s :=
  funext fun k => (s_v54 (W16 m ρ c) b s k).trans (congrFun (W16_args m ρ c main_arg0 (by decide)) (ix3 b s k))

/-- A weight as the layer finds it. -/
theorem t17_v57 (k : Fin 1024) : V17 m ρ c main_v57 (ix2 0 k) = (weights m c 0).gmix k :=
  (s_v57 (W16 m ρ c) k).trans (congrFun (W16_args m ρ c main_arg1 (by decide)) _)

/-- A weight as the layer finds it. -/
theorem t17_v60 (k : Fin 1024) (e : Fin 4608) : V17 m ρ c main_v60 (ix2 k e) = (weights m c 0).win k e :=
  (s_v60 (W16 m ρ c) k e).trans (congrFun (W16_args m ρ c main_arg2 (by decide)) _)

/-- A weight as the layer finds it. -/
theorem t17_v63 (k : Fin 1024) : V17 m ρ c main_v63 (ix2 0 k) = (weights m c 0).lg k :=
  (s_v63 (W16 m ρ c) k).trans (congrFun (W16_args m ρ c main_arg4 (by decide)) _)

/-- A weight as the layer finds it. -/
theorem t17_v66 (k : Fin 1024) : V17 m ρ c main_v66 (ix2 0 k) = (weights m c 0).lb k :=
  (s_v66 (W16 m ρ c) k).trans (congrFun (W16_args m ρ c main_arg5 (by decide)) _)

/-- A weight as the layer finds it. -/
theorem t17_v69 (h : Fin 8) (q p : Fin 128) : V17 m ρ c main_v69 (ix3 h q p) = (weights m c 0).ws h q p :=
  (s_v69 (W16 m ρ c) h q p).trans (congrFun (W16_args m ρ c main_arg6 (by decide)) _)

/-- A weight as the layer finds it. -/
theorem t17_v72 (k e : Fin 1024) : V17 m ρ c main_v72 (ix2 k e) = (weights m c 0).wb k e :=
  (s_v72 (W16 m ρ c) k e).trans (congrFun (W16_args m ρ c main_arg8 (by decide)) _)

/-- The bias as the layer finds it. -/
theorem t17_v53 (q : Fin 128) (e : Fin 1024) : V17 m ρ c main_v53 (ix2 q e) = biasOf (weights m c 0).bs q e :=
  (s_v53 (W16 m ρ c) q e).trans (congrArg (fun f => biasOf f q e)
    (funext fun h => funext fun p => congrFun (W16_args m ρ c main_arg7 (by decide)) (ix3 0 h p)))

/-- The channels' transforms. -/
theorem t18_pq (b : Fin 32) (s : Fin 2048) (d : Fin 1024) :
    W18 m ρ c (Proc.devRef .tc main_v73_0) (ix2 (flat b s) d)
      = rowdot (arow (weights m c 0) (tokens m c b s)) (fun k c' => V17 m ρ c main_v28 (ix2 k c')) d := by
  refine (congrFun (W18_arr m ρ c 9) (ix2 (flat b s) d)).trans ?_
  refine (reg0_pq (V17 m ρ) c (weights m c 0) (t17_v57 m ρ c) (t17_v60 m ρ c) (flat b s) d).trans ?_
  rw [row_v54]

/-- The gate of the Fourier mixer. -/
theorem t18_ga (b : Fin 32) (s : Fin 2048) (d : Fin 1024) :
    W18 m ρ c (Proc.devRef .tc main_v73_1) (ix2 (flat b s) d) = garow (weights m c 0) (tokens m c b s) d := by
  refine (congrFun (W18_arr m ρ c 10) (ix2 (flat b s) d)).trans ?_
  refine (reg0_ga (V17 m ρ) c (weights m c 0) (t17_v57 m ρ c) (t17_v60 m ρ c) (flat b s) d).trans ?_
  rw [row_v54]

/-- The spatial mixer, gated. -/
theorem t18_mb (b : Fin 32) (s : Fin 2048) (d : Fin 1024) :
    W18 m ρ c (Proc.devRef .tc main_v73_2) (ix2 (flat b s) d)
      = mbrow (weights m c 0) (fun p => tokens m c b ⟨128 * (s / 128) + p, by omega⟩) ⟨s % 128, by omega⟩ d := by
  refine (congrFun (W18_arr m ρ c 11) (ix2 (flat b s) d)).trans ?_
  refine (reg0_mb (V17 m ρ) c (weights m c 0) (t17_v57 m ρ c) (t17_v60 m ρ c) (t17_v63 m ρ c) (t17_v66 m ρ c)
    (t17_v69 m ρ c) (t17_v53 m ρ c) (t17_v72 m ρ c) (flat b s) d).trans ?_
  have h : (fun p k => V17 m ρ c main_v54 (ix2 (chunkRow (flat b s) p) k))
      = fun p : Fin 128 => tokens m c b ⟨128 * (s / 128) + p, by omega⟩ := by
    funext p
    rw [chunkRow_flat]
    exact row_v54 m ρ c b _
  rw [h, chunkPos_flat]

/-- The tokens after the two mixers. -/
theorem t20_v83 (b : Fin 32) (s : Fin 2048) (d : Fin 1024) :
    W20 m ρ c (Proc.devRef .tc main_v83) (ix3 b s d) = mixed (weights m c 0) (tokens m c) b s d := by
  refine (congrFun (W20_arr m ρ c 7) (ix3 b s d)).trans ?_
  refine (reg1_out (V19 m ρ) c b s d).trans ?_
  have e47 : ∀ k, V19 m ρ c main_v47 (ix2 s k) = V17 m ρ c main_v47 (ix2 s k) := fun k =>
    congrFun ((W19_of m ρ c main_v47 (by decide)).trans (W18_of m ρ c main_v47 (by decide))) (ix2 s k)
  exact mixed_of (weights m c 0) (tokens m c) b s d _ _ _ _ _ (fun k c' => V17 m ρ c main_v28 (ix2 k c')) _ _
    (fun k => congrFun (W19_args m ρ c main_arg0 (by decide)) (ix3 b s k))
    (fun k => (s_v75 (W18 m ρ c) b s k).trans (t18_ga m ρ c b s k))
    (fun k => (s_v76 (W18 m ρ c) b s k).trans (t18_mb m ρ c b s k))
    (fun k e => (s_v79 (W18 m ρ c) k e).trans (congrFun (W18_args m ρ c main_arg3 (by decide)) _))
    (fun k e => (s_v82 (W18 m ρ c) k e).trans (congrFun (W18_args m ρ c main_arg9 (by decide)) _))
    (fun k => (e47 _).trans (t17_v47_lo m ρ c s k)) (fun k => (e47 _).trans (t17_v47_hi m ρ c s k))
    (fun i k => (s_v74 (W18 m ρ c) b i k).trans (t18_pq m ρ c b i k))
    (fun i j => (t17_v28_lo m ρ c i j)) (fun i j => (t17_v28_hi m ρ c i j))

/-- The tokens after the layer. -/
theorem t22_v94 (b : Fin 32) (s : Fin 2048) (d : Fin 1024) :
    W22 m ρ c (Proc.devRef .tc main_v94) (ix2 (flat b s) d) = tokens1 m c b s d := by
  refine (congrFun (W22_arr m ρ c 5) (ix2 (flat b s) d)).trans ?_
  refine (reg2_mlp (V21 m ρ) c (flat b s) d).trans ?_
  have e0 : (fun k => V21 m ρ c main_v84 (ix2 (flat b s) k)) = mixed (weights m c 0) (tokens m c) b s :=
    funext fun k => (s_v84 (W20 m ρ c) b s k).trans (t20_v83 m ρ c b s k)
  have e1 : (fun k => V21 m ρ c main_v87 (ix2 0 k)) = (weights m c 0).gmlp :=
    funext fun k => (s_v87 (W20 m ρ c) k).trans (congrFun (W20_args m ρ c main_arg10 (by decide)) _)
  have e2 : (fun k c' => V21 m ρ c main_v90 (ix2 k c')) = (weights m c 0).wup :=
    funext fun k => funext fun e => (s_v90 (W20 m ρ c) k e).trans (congrFun (W20_args m ρ c main_arg11 (by decide)) _)
  have e3 : (fun k c' => V21 m ρ c main_v93 (ix2 k c')) = (weights m c 0).wdown :=
    funext fun k => funext fun e => (s_v93 (W20 m ρ c) k e).trans (congrFun (W20_args m ρ c main_arg12 (by decide)) _)
  rw [e0, e1, e2, e3]
  rfl

/-- The tokens after the layer, by example. -/
theorem t23_v95 (b : Fin 32) (s : Fin 2048) (d : Fin 1024) :
    W23 m ρ c (Proc.devRef .tc main_v95) (ix3 b s d) = tokens1 m c b s d :=
  (s_v95 (W22 m ρ c) b s d).trans (t22_v94 m ρ c b s d)

end Cert.KernelIdeal.Value

end
-- ==== Proof.Reg3.lean ====
module

public import proofs.«01_k».proof.Proof.MixIn
public import proofs.«01_k».proof.Proof.Words

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx3 : ∀ t : Fin cfg3.N, win3_0.index t = ![t.val, 0] ∧ win3_1.index t = ![0, 0] ∧ win3_2.index t = ![0, 0] ∧ win3_3.index t = ![0, 0] ∧ win3_4.index t = ![0, 0] ∧ win3_5.index t = ![0, 0] ∧ win3_6.index t = ![0, 0, 0] ∧ win3_7.index t = ![0, 0] ∧ win3_8.index t = ![0, 0] ∧ win3_9.index t = ![t.val, 0] ∧ win3_10.index t = ![t.val, 0] ∧ win3_11.index t = ![t.val, 0] :=
  (by decide +kernel : ∀ t : Fin grid3.N, _)

variable (V : (c : Dev nD) → (b : Ref sig .tc) → Buf (Elt Ideal) ((c : Thread nD τ).loc b)) (c : Dev nD) (W : Weights)

/-- A block of the tokens. -/
theorem blk3_0 (t : Fin cfg3.N) (r : Fin 512) (k : Fin 1024) :
    iblk3 V c 0 t (ix2 r k) = V c main_v101 (ix2 (blockRow t r) k) := by
  blk_ext [iblk3, idx3 t, blockRow]

/-- Window 1 holds its whole array. -/
theorem blk3_1 (t : Fin cfg3.N) (k : Fin 1024) :
    iblk3 V c 1 t (ix2 0 k) = V c main_v104 (ix2 0 k) := by
  blk_ext [iblk3, idx3 t]

/-- Window 2 holds its whole array. -/
theorem blk3_2 (t : Fin cfg3.N) (k : Fin 1024) (d : Fin 4608) :
    iblk3 V c 2 t (ix2 k d) = V c main_v107 (ix2 k d) := by
  blk_ext [iblk3, idx3 t]

/-- Window 3 holds its whole array. -/
theorem blk3_3 (t : Fin cfg3.N) (k : Fin 512) (d : Fin 1024) :
    iblk3 V c 3 t (ix2 k d) = V c main_v28 (ix2 k d) := by
  blk_ext [iblk3, idx3 t]

/-- Window 4 holds its whole array. -/
theorem blk3_4 (t : Fin cfg3.N) (k : Fin 1024) :
    iblk3 V c 4 t (ix2 0 k) = V c main_v110 (ix2 0 k) := by
  blk_ext [iblk3, idx3 t]

/-- Window 5 holds its whole array. -/
theorem blk3_5 (t : Fin cfg3.N) (k : Fin 1024) :
    iblk3 V c 5 t (ix2 0 k) = V c main_v113 (ix2 0 k) := by
  blk_ext [iblk3, idx3 t]

/-- Window 6 holds its whole array. -/
theorem blk3_6 (t : Fin cfg3.N) (h : Fin 8) (q p : Fin 128) :
    iblk3 V c 6 t (ix3 h q p) = V c main_v116 (ix3 h q p) := by
  blk_ext [iblk3, idx3 t]

/-- Window 7 holds its whole array. -/
theorem blk3_7 (t : Fin cfg3.N) (q : Fin 128) (d : Fin 1024) :
    iblk3 V c 7 t (ix2 q d) = V c main_v100 (ix2 q d) := by
  blk_ext [iblk3, idx3 t]

/-- Window 8 holds its whole array. -/
theorem blk3_8 (t : Fin cfg3.N) (k d : Fin 1024) :
    iblk3 V c 8 t (ix2 k d) = V c main_v119 (ix2 k d) := by
  blk_ext [iblk3, idx3 t]

/-- Where block `t` of window 9 lies. -/
theorem emb3_9 (t : Fin cfg3.N) (r : Fin 512) (d : Fin 1024) :
    ((cfg3.win 9).blk t).view.emb (ix2 r d) = ix2 (blockRow t r) d := by
  blk_ext [idx3 t, blockRow]

/-- Where block `t` of window 10 lies. -/
theorem emb3_10 (t : Fin cfg3.N) (r : Fin 512) (d : Fin 1024) :
    ((cfg3.win 10).blk t).view.emb (ix2 r d) = ix2 (blockRow t r) d := by
  blk_ext [idx3 t, blockRow]

/-- Where block `t` of window 11 lies. -/
theorem emb3_11 (t : Fin cfg3.N) (r : Fin 512) (d : Fin 1024) :
    ((cfg3.win 11).blk t).view.emb (ix2 r d) = ix2 (blockRow t r) d := by
  blk_ext [idx3 t, blockRow]

/-- The transforms of the channels of every token. -/
theorem reg3_pq (h1 : ∀ k, V c main_v104 (ix2 0 k) = W.gmix k) (h2 : ∀ k d, V c main_v107 (ix2 k d) = W.win k d)
    (R : Fin 65536) (d : Fin 1024) :
    (dat3 V c).arrAt 9 cfg3.N (ix2 R d) = rowdot (arow W fun k => V c main_v101 (ix2 R k)) (fun k c' => V c main_v28 (ix2 k c')) d := by
  refine congrFun ((dat3 V c).arrAt_eq_of_covers 9 (fun i => rowdot (arow W fun k => V c main_v101 (ix2 (i 0) k)) (fun k c' => V c main_v28 (ix2 k c')) (i 1))
    (by decide +kernel) (fun t _ y => ?_)) (ix2 R d)
  idx_vars y
  blk_simp
  rw [after3_9]
  unfold out3_9
  frame_out
  refine (point_pq W (iblk3 V c 0 t) (iblk3 V c 1 t) (iblk3 V c 2 t) (iblk3 V c 3 t) (fun k => (blk3_1 V c t k).trans (h1 k)) (fun k d => (blk3_2 V c t k d).trans (h2 k d)) y0 y1).trans ?_
  refine Eq.trans ?_ (congrArg (fun i : S65536x1024.Idx => rowdot (arow W fun k => V c main_v101 (ix2 (i 0) k)) (fun k c' => V c main_v28 (ix2 k c')) (i 1)) (emb3_9 t y0 y1)).symm
  exact congrArg₂ (fun x (w : Fin 512 → Fin 1024 → EReal) => rowdot (arow W x) w y1) (funext fun k => blk3_0 V c t y0 k)
    (funext fun k => funext fun d => blk3_3 V c t k d)

/-- The gate of the Fourier mixer for every token. -/
theorem reg3_ga (h1 : ∀ k, V c main_v104 (ix2 0 k) = W.gmix k) (h2 : ∀ k d, V c main_v107 (ix2 k d) = W.win k d)
    (R : Fin 65536) (d : Fin 1024) :
    (dat3 V c).arrAt 10 cfg3.N (ix2 R d) = garow W (fun k => V c main_v101 (ix2 R k)) d := by
  refine congrFun ((dat3 V c).arrAt_eq_of_covers 10 (fun i => garow W (fun k => V c main_v101 (ix2 (i 0) k)) (i 1))
    (by decide +kernel) (fun t _ y => ?_)) (ix2 R d)
  idx_vars y
  blk_simp
  rw [after3_10]
  unfold out3_10
  frame_out
  refine (point_ga W (iblk3 V c 0 t) (iblk3 V c 1 t) (iblk3 V c 2 t) (fun k => (blk3_1 V c t k).trans (h1 k)) (fun k d => (blk3_2 V c t k d).trans (h2 k d)) y0 y1).trans ?_
  refine Eq.trans ?_ (congrArg (fun i : S65536x1024.Idx => garow W (fun k => V c main_v101 (ix2 (i 0) k)) (i 1)) (emb3_10 t y0 y1)).symm
  exact congrArg (fun x => garow W x y1) (funext fun k => blk3_0 V c t y0 k)

/-- The gated spatial mixer for every token. -/
theorem reg3_mb (h1 : ∀ k, V c main_v104 (ix2 0 k) = W.gmix k) (h2 : ∀ k d, V c main_v107 (ix2 k d) = W.win k d) (h4 : ∀ k, V c main_v110 (ix2 0 k) = W.lg k) (h5 : ∀ k, V c main_v113 (ix2 0 k) = W.lb k) (h6 : ∀ h q p, V c main_v116 (ix3 h q p) = W.ws h q p) (h7 : ∀ q d, V c main_v100 (ix2 q d) = biasOf W.bs q d) (h8 : ∀ k d, V c main_v119 (ix2 k d) = W.wb k d)
    (R : Fin 65536) (d : Fin 1024) :
    (dat3 V c).arrAt 11 cfg3.N (ix2 R d) = mbrow W (fun p k => V c main_v101 (ix2 (chunkRow R p) k)) (chunkPos R) d := by
  refine congrFun ((dat3 V c).arrAt_eq_of_covers 11 (fun i => mbrow W (fun p k => V c main_v101 (ix2 (chunkRow (i 0) p) k)) (chunkPos (i 0)) (i 1))
    (by decide +kernel) (fun t _ y => ?_)) (ix2 R d)
  idx_vars y
  blk_simp
  rw [after3_11]
  refine (point_mb W (iblk3 V c 0 t) (iblk3 V c 1 t) (iblk3 V c 2 t) (iblk3 V c 3 t) (iblk3 V c 4 t) (iblk3 V c 5 t) (iblk3 V c 6 t) (iblk3 V c 7 t) (iblk3 V c 8 t) (fun k => (blk3_1 V c t k).trans (h1 k)) (fun k d => (blk3_2 V c t k d).trans (h2 k d)) (fun k => (blk3_4 V c t k).trans (h4 k)) (fun k => (blk3_5 V c t k).trans (h5 k)) (fun h q p => (blk3_6 V c t h q p).trans (h6 h q p)) (fun q d => (blk3_7 V c t q d).trans (h7 q d)) (fun k d => (blk3_8 V c t k d).trans (h8 k d)) y0 y1).trans ?_
  refine Eq.trans ?_ (congrArg (fun i : S65536x1024.Idx => mbrow W (fun p k => V c main_v101 (ix2 (chunkRow (i 0) p) k)) (chunkPos (i 0)) (i 1)) (emb3_11 t y0 y1)).symm
  exact congrArg₂ (fun x q => mbrow W x q y1) (funext fun p => funext fun k =>
    (blk3_0 V c t _ k).trans (congrArg (fun R => V c main_v101 (ix2 R k)) (chunkRow_block t y0 p))) (chunkPos_block t y0)

end Cert.KernelIdeal.Value

end
-- ==== Proof.Reg4.lean ====
module

public import proofs.«01_k».proof.Proof.MixOut

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx4 : ∀ t : Fin cfg4.N, win4_0.index t = ![t.val % 4, 0] ∧ win4_1.index t = ![t.val / 4, 0, 0] ∧ win4_2.index t = ![t.val / 4, t.val % 4, 0] ∧ win4_3.index t = ![t.val / 4, t.val % 4, 0] ∧ win4_4.index t = ![t.val / 4, t.val % 4, 0] ∧ win4_5.index t = ![0, 0] ∧ win4_6.index t = ![0, 0] ∧ win4_7.index t = ![t.val / 4, t.val % 4, 0] :=
  (by decide +kernel : ∀ t : Fin grid4.N, _)

variable (V : (c : Dev nD) → (b : Ref sig .tc) → Buf (Elt Ideal) ((c : Thread nD τ).loc b)) (c : Dev nD)

/-- The rows of the table of the positions that a block reads. -/
theorem blk4_0 (t : Fin cfg4.N) (r : Fin 512) (k : Fin 4096) :
    iblk4 V c 0 t (ix2 r k) = V c main_v47 (ix2 (blockPos t r) k) := by
  blk_ext [iblk4, idx4 t, blockPos]

/-- The transforms of the channels of one example. -/
theorem blk4_1 (t : Fin cfg4.N) (s : Fin 2048) (k : Fin 1024) :
    iblk4 V c 1 t (ix3 0 s k) = V c main_v121 (ix3 (blockEx t) s k) := by
  blk_ext [iblk4, idx4 t, blockEx]

/-- A block of the tokens. -/
theorem blk4_2 (t : Fin cfg4.N) (r : Fin 512) (k : Fin 1024) :
    iblk4 V c 2 t (ix3 0 r k) = V c main_v95 (ix3 (blockEx t) (blockPos t r) k) := by
  blk_ext [iblk4, idx4 t, blockEx, blockPos]

/-- A block of the gate. -/
theorem blk4_3 (t : Fin cfg4.N) (r : Fin 512) (k : Fin 1024) :
    iblk4 V c 3 t (ix3 0 r k) = V c main_v122 (ix3 (blockEx t) (blockPos t r) k) := by
  blk_ext [iblk4, idx4 t, blockEx, blockPos]

/-- A block of the gated spatial mixer. -/
theorem blk4_4 (t : Fin cfg4.N) (r : Fin 512) (k : Fin 1024) :
    iblk4 V c 4 t (ix3 0 r k) = V c main_v123 (ix3 (blockEx t) (blockPos t r) k) := by
  blk_ext [iblk4, idx4 t, blockEx, blockPos]

/-- Window 5 holds its whole array. -/
theorem blk4_5 (t : Fin cfg4.N) (k : Fin 512) (d : Fin 1024) :
    iblk4 V c 5 t (ix2 k d) = V c main_v126 (ix2 k d) := by
  blk_ext [iblk4, idx4 t]

/-- Window 6 holds its whole array. -/
theorem blk4_6 (t : Fin cfg4.N) (k : Fin 1024) (d : Fin 1024) :
    iblk4 V c 6 t (ix2 k d) = V c main_v129 (ix2 k d) := by
  blk_ext [iblk4, idx4 t]

/-- Where block `t` of the result lies. -/
theorem emb4_7 (t : Fin cfg4.N) (r : Fin 512) (d : Fin 1024) :
    ((cfg4.win 7).blk t).view.emb (ix3 0 r d) = ix3 (blockEx t) (blockPos t r) d := by
  blk_ext [idx4 t, blockEx, blockPos]

/-- The tokens after both mixers. -/
theorem reg4_out (b : Fin 32) (s : Fin 2048) (d : Fin 1024) :
    (dat4 V c).arrAt 7 cfg4.N (ix3 b s d)
      = outrow (fun k => V c main_v95 (ix3 b s k)) (fun k => V c main_v122 (ix3 b s k)) (fun k => V c main_v123 (ix3 b s k))
        (halves (fun k => V c main_v47 (ix2 s k)) (fun s' k => V c main_v121 (ix3 b s' k)))
        (fun k c' => V c main_v126 (ix2 k c')) (fun k c' => V c main_v129 (ix2 k c')) d := by
  refine congrFun ((dat4 V c).arrAt_eq_of_covers 7 (fun i => outrow (fun k => V c main_v95 (ix3 (i 0) (i 1) k)) (fun k => V c main_v122 (ix3 (i 0) (i 1) k)) (fun k => V c main_v123 (ix3 (i 0) (i 1) k))
        (halves (fun k => V c main_v47 (ix2 (i 1) k)) (fun s' k => V c main_v121 (ix3 (i 0) s' k)))
        (fun k c' => V c main_v126 (ix2 k c')) (fun k c' => V c main_v129 (ix2 k c')) (i 2))
    (by decide +kernel) (fun t _ y => ?_)) (ix3 b s d)
  idx_vars y
  obtain rfl : y0 = 0 := Subsingleton.elim _ _
  blk_simp
  rw [after4_7]
  refine (point_out (iblk4 V c 0 t) (iblk4 V c 1 t) (iblk4 V c 2 t) (iblk4 V c 3 t) (iblk4 V c 4 t) (iblk4 V c 5 t) (iblk4 V c 6 t) y1 y2).trans ?_
  refine Eq.trans ?_ (congrArg (fun i : S32x2048x1024.Idx => outrow (fun k => V c main_v95 (ix3 (i 0) (i 1) k)) (fun k => V c main_v122 (ix3 (i 0) (i 1) k)) (fun k => V c main_v123 (ix3 (i 0) (i 1) k))
        (halves (fun k => V c main_v47 (ix2 (i 1) k)) (fun s' k => V c main_v121 (ix3 (i 0) s' k)))
        (fun k c' => V c main_v126 (ix2 k c')) (fun k c' => V c main_v129 (ix2 k c')) (i 2)) (emb4_7 t y1 y2)).symm
  simp only [blk4_0, blk4_1, blk4_2, blk4_3, blk4_4, blk4_5, blk4_6]
  rfl

end Cert.KernelIdeal.Value

end
-- ==== Proof.Reg5.lean ====
module

public import proofs.«01_k».proof.Proof.Mlp

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx5 : ∀ t : Fin cfg5.N, win5_0.index t = ![t.val, 0] ∧ win5_1.index t = ![0, 0] ∧ win5_2.index t = ![0, 0] ∧ win5_3.index t = ![0, 0] ∧ win5_4.index t = ![0, 0] ∧ win5_5.index t = ![t.val, 0] :=
  (by decide +kernel : ∀ t : Fin grid5.N, _)

variable (V : (c : Dev nD) → (b : Ref sig .tc) → Buf (Elt Ideal) ((c : Thread nD τ).loc b)) (c : Dev nD)

/-- A block of the tokens. -/
theorem blk5_0 (t : Fin cfg5.N) (r : Fin 512) (k : Fin 1024) :
    iblk5 V c 0 t (ix2 r k) = V c main_v131 (ix2 (blockRow t r) k) := by
  blk_ext [iblk5, idx5 t, blockRow]

/-- Window 1 holds its whole array. -/
theorem blk5_1 (t : Fin cfg5.N) (k : Fin 1024) :
    iblk5 V c 1 t (ix2 0 k) = V c main_v134 (ix2 0 k) := by
  blk_ext [iblk5, idx5 t]

/-- Window 2 holds its whole array. -/
theorem blk5_2 (t : Fin cfg5.N) (k : Fin 1024) (d : Fin 4096) :
    iblk5 V c 2 t (ix2 k d) = V c main_v137 (ix2 k d) := by
  blk_ext [iblk5, idx5 t]

/-- Window 3 holds its whole array. -/
theorem blk5_3 (t : Fin cfg5.N) (k : Fin 4096) (d : Fin 1024) :
    iblk5 V c 3 t (ix2 k d) = V c main_v140 (ix2 k d) := by
  blk_ext [iblk5, idx5 t]

/-- Where block `t` of the result lies. -/
theorem emb5_5 (t : Fin cfg5.N) (r : Fin 512) (d : Fin 1024) :
    ((cfg5.win 5).blk t).view.emb (ix2 r d) = ix2 (blockRow t r) d := by
  blk_ext [idx5 t, blockRow]

/-- The tokens after the channel mixing. -/
theorem reg5_mlp (R : Fin 65536) (d : Fin 1024) :
    (dat5 V c).arrAt 5 cfg5.N (ix2 R d)
      = mlprow (fun k => V c main_v131 (ix2 R k)) (fun k => V c main_v134 (ix2 0 k)) (fun k c' => V c main_v137 (ix2 k c')) (fun k c' => V c main_v140 (ix2 k c')) d := by
  refine congrFun ((dat5 V c).arrAt_eq_of_covers 5 (fun i => mlprow (fun k => V c main_v131 (ix2 (i 0) k)) (fun k => V c main_v134 (ix2 0 k)) (fun k c' => V c main_v137 (ix2 k c')) (fun k c' => V c main_v140 (ix2 k c')) (i 1))
    (by decide +kernel) (fun t _ y => ?_)) (ix2 R d)
  idx_vars y
  blk_simp
  rw [after5_5]
  unfold out5_5
  frame_out
  refine (point_mlp (iblk5 V c 0 t) (iblk5 V c 1 t) (iblk5 V c 2 t) (iblk5 V c 3 t) y0 y1).trans ?_
  refine Eq.trans ?_ (congrArg (fun i : S65536x1024.Idx => mlprow (fun k => V c main_v131 (ix2 (i 0) k)) (fun k => V c main_v134 (ix2 0 k)) (fun k c' => V c main_v137 (ix2 k c')) (fun k c' => V c main_v140 (ix2 k c')) (i 1)) (emb5_5 t y0 y1)).symm
  simp only [blk5_0, blk5_1, blk5_2, blk5_3]
  rfl

end Cert.KernelIdeal.Value

end
-- ==== Proof.Layer1.lean ====
module

public import proofs.«01_k».proof.Proof.Layer0
public import proofs.«01_k».proof.Proof.Reg3
public import proofs.«01_k».proof.Proof.Reg4
public import proofs.«01_k».proof.Proof.Reg5

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

section Host

variable (W : Valuation τ sig (Elt Ideal))

/-- The tokens, row after row. -/
theorem s_v101 (b : Fin 32) (s : Fin 2048) (d : Fin 1024) :
    StableHlo.after hostOps3 W (Proc.devRef .tc main_v101) (ix2 (flat b s) d) = W (Proc.devRef .tc main_v94) (ix2 (flat b s) d) := by
  entry_read
  pointwise [flat]

/-- A row of scales. -/
theorem s_v104 (k : Fin 1024) :
    StableHlo.after hostOps3 W (Proc.devRef .tc main_v104) (ix2 0 k) = W (Proc.devRef .tc main_arg1) (ix2 1 k) := by
  entry_read
  pointwise [flat]

/-- The input projection. -/
theorem s_v107 (k : Fin 1024) (e : Fin 4608) :
    StableHlo.after hostOps3 W (Proc.devRef .tc main_v107) (ix2 k e) = W (Proc.devRef .tc main_arg2) (ix3 1 k e) := by
  entry_read
  pointwise [flat]

/-- A row of scales. -/
theorem s_v110 (k : Fin 1024) :
    StableHlo.after hostOps3 W (Proc.devRef .tc main_v110) (ix2 0 k) = W (Proc.devRef .tc main_arg4) (ix2 1 k) := by
  entry_read
  pointwise [flat]

/-- A row of shifts. -/
theorem s_v113 (k : Fin 1024) :
    StableHlo.after hostOps3 W (Proc.devRef .tc main_v113) (ix2 0 k) = W (Proc.devRef .tc main_arg5) (ix2 1 k) := by
  entry_read
  pointwise [flat]

/-- The spatial mixing matrices. -/
theorem s_v116 (h : Fin 8) (q p : Fin 128) :
    StableHlo.after hostOps3 W (Proc.devRef .tc main_v116) (ix3 h q p) = W (Proc.devRef .tc main_arg6) (ix4 1 h q p) := by
  entry_read
  pointwise [flat]

/-- The bias of a head, over its channels. -/
theorem s_v100 (q : Fin 128) (e : Fin 1024) :
    StableHlo.after hostOps3 W (Proc.devRef .tc main_v100) (ix2 q e) = biasOf (fun h p => W (Proc.devRef .tc main_arg7) (ix3 1 h p)) q e := by
  entry_read
  pointwise [flat]
  rfl

/-- The projection of the spatial mixer. -/
theorem s_v119 (k e : Fin 1024) :
    StableHlo.after hostOps3 W (Proc.devRef .tc main_v119) (ix2 k e) = W (Proc.devRef .tc main_arg8) (ix3 1 k e) := by
  entry_read
  pointwise [flat]

/-- The rows by example. -/
theorem s_v121 (b : Fin 32) (s : Fin 2048) (d : Fin 1024) :
    StableHlo.after hostOps4 W (Proc.devRef .tc main_v121) (ix3 b s d) = W (Proc.devRef .tc main_v120_0) (ix2 (flat b s) d) := by
  entry_read
  pointwise [flat]

/-- The rows by example. -/
theorem s_v122 (b : Fin 32) (s : Fin 2048) (d : Fin 1024) :
    StableHlo.after hostOps4 W (Proc.devRef .tc main_v122) (ix3 b s d) = W (Proc.devRef .tc main_v120_1) (ix2 (flat b s) d) := by
  entry_read
  pointwise [flat]

/-- The rows by example. -/
theorem s_v123 (b : Fin 32) (s : Fin 2048) (d : Fin 1024) :
    StableHlo.after hostOps4 W (Proc.devRef .tc main_v123) (ix3 b s d) = W (Proc.devRef .tc main_v120_2) (ix2 (flat b s) d) := by
  entry_read
  pointwise [flat]

/-- A weight. -/
theorem s_v126 (k : Fin 512) (e : Fin 1024) :
    StableHlo.after hostOps4 W (Proc.devRef .tc main_v126) (ix2 k e) = W (Proc.devRef .tc main_arg3) (ix3 1 k e) := by
  entry_read
  pointwise [flat]

/-- A weight. -/
theorem s_v129 (k e : Fin 1024) :
    StableHlo.after hostOps4 W (Proc.devRef .tc main_v129) (ix2 k e) = W (Proc.devRef .tc main_arg9) (ix3 1 k e) := by
  entry_read
  pointwise [flat]

/-- The rows in one. -/
theorem s_v131 (b : Fin 32) (s : Fin 2048) (d : Fin 1024) :
    StableHlo.after hostOps5 W (Proc.devRef .tc main_v131) (ix2 (flat b s) d) = W (Proc.devRef .tc main_v130) (ix3 b s d) := by
  entry_read
  pointwise [flat]

/-- A row of scales. -/
theorem s_v134 (k : Fin 1024) :
    StableHlo.after hostOps5 W (Proc.devRef .tc main_v134) (ix2 0 k) = W (Proc.devRef .tc main_arg10) (ix2 1 k) := by
  entry_read
  pointwise [flat]

/-- A weight. -/
theorem s_v137 (k : Fin 1024) (e : Fin 4096) :
    StableHlo.after hostOps5 W (Proc.devRef .tc main_v137) (ix2 k e) = W (Proc.devRef .tc main_arg11) (ix3 1 k e) := by
  entry_read
  pointwise [flat]

/-- A weight. -/
theorem s_v140 (k : Fin 4096) (e : Fin 1024) :
    StableHlo.after hostOps5 W (Proc.devRef .tc main_v140) (ix2 k e) = W (Proc.devRef .tc main_arg12) (ix3 1 k e) := by
  entry_read
  pointwise [flat]

/-- The rows by example. -/
theorem s_v142 (b : Fin 32) (s : Fin 2048) (d : Fin 1024) :
    StableHlo.after hostOps6 W (Proc.devRef .tc main_v142) (ix3 b s d) = W (Proc.devRef .tc main_v141) (ix2 (flat b s) d) := by
  entry_read
  pointwise [flat]

end Host

variable (m : (ℓ : Loc nD τ sig) → Buf (Elt Ideal) ℓ) (ρ : Dev nD → PrngReg) (c : Dev nD)

/-- The table of the channels is what it was. -/
theorem keep23_v28 : V23 m ρ c main_v28 = V17 m ρ c main_v28 :=
  ((((((W23_of m ρ c main_v28 (by decide)).trans (W22_of m ρ c main_v28 (by decide))).trans (W21_of m ρ c main_v28 (by decide))).trans (W20_of m ρ c main_v28 (by decide))).trans (W19_of m ρ c main_v28 (by decide))).trans (W18_of m ρ c main_v28 (by decide)))

/-- The table of the positions is what it was. -/
theorem keep23_v47 : V23 m ρ c main_v47 = V17 m ρ c main_v47 :=
  ((((((W23_of m ρ c main_v47 (by decide)).trans (W22_of m ρ c main_v47 (by decide))).trans (W21_of m ρ c main_v47 (by decide))).trans (W20_of m ρ c main_v47 (by decide))).trans (W19_of m ρ c main_v47 (by decide))).trans (W18_of m ρ c main_v47 (by decide)))

/-- A token as the layer finds it. -/
theorem row_v101 (b : Fin 32) (s : Fin 2048) : (fun k => V23 m ρ c main_v101 (ix2 (flat b s) k)) = tokens1 m c b s :=
  funext fun k => (s_v101 (W22 m ρ c) b s k).trans (t22_v94 m ρ c b s k)

/-- A weight as the layer finds it. -/
theorem t23_v104 (k : Fin 1024) : V23 m ρ c main_v104 (ix2 0 k) = (weights m c 1).gmix k :=
  (s_v104 (W22 m ρ c) k).trans (congrFun (W22_args m ρ c main_arg1 (by decide)) _)

/-- A weight as the layer finds it. -/
theorem t23_v107 (k : Fin 1024) (e : Fin 4608) : V23 m ρ c main_v107 (ix2 k e) = (weights m c 1).win k e :=
  (s_v107 (W22 m ρ c) k e).trans (congrFun (W22_args m ρ c main_arg2 (by decide)) _)

/-- A weight as the layer finds it. -/
theorem t23_v110 (k : Fin 1024) : V23 m ρ c main_v110 (ix2 0 k) = (weights m c 1).lg k :=
  (s_v110 (W22 m ρ c) k).trans (congrFun (W22_args m ρ c main_arg4 (by decide)) _)

/-- A weight as the layer finds it. -/
theorem t23_v113 (k : Fin 1024) : V23 m ρ c main_v113 (ix2 0 k) = (weights m c 1).lb k :=
  (s_v113 (W22 m ρ c) k).trans (congrFun (W22_args m ρ c main_arg5 (by decide)) _)

/-- A weight as the layer finds it. -/
theorem t23_v116 (h : Fin 8) (q p : Fin 128) : V23 m ρ c main_v116 (ix3 h q p) = (weights m c 1).ws h q p :=
  (s_v116 (W22 m ρ c) h q p).trans (congrFun (W22_args m ρ c main_arg6 (by decide)) _)

/-- A weight as the layer finds it. -/
theorem t23_v119 (k e : Fin 1024) : V23 m ρ c main_v119 (ix2 k e) = (weights m c 1).wb k e :=
  (s_v119 (W22 m ρ c) k e).trans (congrFun (W22_args m ρ c main_arg8 (by decide)) _)

/-- The bias as the layer finds it. -/
theorem t23_v100 (q : Fin 128) (e : Fin 1024) : V23 m ρ c main_v100 (ix2 q e) = biasOf (weights m c 1).bs q e :=
  (s_v100 (W22 m ρ c) q e).trans (congrArg (fun f => biasOf f q e)
    (funext fun h => funext fun p => congrFun (W22_args m ρ c main_arg7 (by decide)) (ix3 1 h p)))

/-- The channels' transforms. -/
theorem t24_pq (b : Fin 32) (s : Fin 2048) (d : Fin 1024) :
    W24 m ρ c (Proc.devRef .tc main_v120_0) (ix2 (flat b s) d)
      = rowdot (arow (weights m c 1) (tokens1 m c b s)) (fun k c' => V23 m ρ c main_v28 (ix2 k c')) d := by
  refine (congrFun (W24_arr m ρ c 9) (ix2 (flat b s) d)).trans ?_
  refine (reg3_pq (V23 m ρ) c (weights m c 1) (t23_v104 m ρ c) (t23_v107 m ρ c) (flat b s) d).trans ?_
  rw [row_v101]

/-- The gate of the Fourier mixer. -/
theorem t24_ga (b : Fin 32) (s : Fin 2048) (d : Fin 1024) :
    W24 m ρ c (Proc.devRef .tc main_v120_1) (ix2 (flat b s) d) = garow (weights m c 1) (tokens1 m c b s) d := by
  refine (congrFun (W24_arr m ρ c 10) (ix2 (flat b s) d)).trans ?_
  refine (reg3_ga (V23 m ρ) c (weights m c 1) (t23_v104 m ρ c) (t23_v107 m ρ c) (flat b s) d).trans ?_
  rw [row_v101]

/-- The spatial mixer, gated. -/
theorem t24_mb (b : Fin 32) (s : Fin 2048) (d : Fin 1024) :
    W24 m ρ c (Proc.devRef .tc main_v120_2) (ix2 (flat b s) d)
      = mbrow (weights m c 1) (fun p => tokens1 m c b ⟨128 * (s / 128) + p, by omega⟩) ⟨s % 128, by omega⟩ d := by
  refine (congrFun (W24_arr m ρ c 11) (ix2 (flat b s) d)).trans ?_
  refine (reg3_mb (V23 m ρ) c (weights m c 1) (t23_v104 m ρ c) (t23_v107 m ρ c) (t23_v110 m ρ c) (t23_v113 m ρ c)
    (t23_v116 m ρ c) (t23_v100 m ρ c) (t23_v119 m ρ c) (flat b s) d).trans ?_
  have h : (fun p k => V23 m ρ c main_v101 (ix2 (chunkRow (flat b s) p) k))
      = fun p : Fin 128 => tokens1 m c b ⟨128 * (s / 128) + p, by omega⟩ := by
    funext p
    rw [chunkRow_flat]
    exact row_v101 m ρ c b _
  rw [h, chunkPos_flat]

/-- The tokens after the two mixers. -/
theorem t26_v130 (b : Fin 32) (s : Fin 2048) (d : Fin 1024) :
    W26 m ρ c (Proc.devRef .tc main_v130) (ix3 b s d) = mixed (weights m c 1) (tokens1 m c) b s d := by
  refine (congrFun (W26_arr m ρ c 7) (ix3 b s d)).trans ?_
  refine (reg4_out (V25 m ρ) c b s d).trans ?_
  have e47 : ∀ k, V25 m ρ c main_v47 (ix2 s k) = V17 m ρ c main_v47 (ix2 s k) := fun k =>
    congrFun (((W25_of m ρ c main_v47 (by decide)).trans (W24_of m ρ c main_v47 (by decide))).trans (keep23_v47 m ρ c)) (ix2 s k)
  exact mixed_of (weights m c 1) (tokens1 m c) b s d _ _ _ _ _ (fun k c' => V23 m ρ c main_v28 (ix2 k c')) _ _
    (fun k => (congrFun ((W25_of m ρ c main_v95 (by decide)).trans (W24_of m ρ c main_v95 (by decide))) (ix3 b s k)).trans (t23_v95 m ρ c b s k))
    (fun k => (s_v122 (W24 m ρ c) b s k).trans (t24_ga m ρ c b s k))
    (fun k => (s_v123 (W24 m ρ c) b s k).trans (t24_mb m ρ c b s k))
    (fun k e => (s_v126 (W24 m ρ c) k e).trans (congrFun (W24_args m ρ c main_arg3 (by decide)) _))
    (fun k e => (s_v129 (W24 m ρ c) k e).trans (congrFun (W24_args m ρ c main_arg9 (by decide)) _))
    (fun k => (e47 _).trans (t17_v47_lo m ρ c s k)) (fun k => (e47 _).trans (t17_v47_hi m ρ c s k))
    (fun i k => (s_v121 (W24 m ρ c) b i k).trans (t24_pq m ρ c b i k))
    (fun i j => (congrFun (keep23_v28 m ρ c) _).trans (t17_v28_lo m ρ c i j)) (fun i j => (congrFun (keep23_v28 m ρ c) _).trans (t17_v28_hi m ρ c i j))

/-- The tokens after the layer. -/
theorem t28_v141 (b : Fin 32) (s : Fin 2048) (d : Fin 1024) :
    W28 m ρ c (Proc.devRef .tc main_v141) (ix2 (flat b s) d) = tokens2 m c b s d := by
  refine (congrFun (W28_arr m ρ c 5) (ix2 (flat b s) d)).trans ?_
  refine (reg5_mlp (V27 m ρ) c (flat b s) d).trans ?_
  have e0 : (fun k => V27 m ρ c main_v131 (ix2 (flat b s) k)) = mixed (weights m c 1) (tokens1 m c) b s :=
    funext fun k => (s_v131 (W26 m ρ c) b s k).trans (t26_v130 m ρ c b s k)
  have e1 : (fun k => V27 m ρ c main_v134 (ix2 0 k)) = (weights m c 1).gmlp :=
    funext fun k => (s_v134 (W26 m ρ c) k).trans (congrFun (W26_args m ρ c main_arg10 (by decide)) _)
  have e2 : (fun k c' => V27 m ρ c main_v137 (ix2 k c')) = (weights m c 1).wup :=
    funext fun k => funext fun e => (s_v137 (W26 m ρ c) k e).trans (congrFun (W26_args m ρ c main_arg11 (by decide)) _)
  have e3 : (fun k c' => V27 m ρ c main_v140 (ix2 k c')) = (weights m c 1).wdown :=
    funext fun k => funext fun e => (s_v140 (W26 m ρ c) k e).trans (congrFun (W26_args m ρ c main_arg12 (by decide)) _)
  rw [e0, e1, e2, e3]
  rfl

/-- The tokens after the layer, by example. -/
theorem t29_v142 (b : Fin 32) (s : Fin 2048) (d : Fin 1024) :
    W29 m ρ c (Proc.devRef .tc main_v142) (ix3 b s d) = tokens2 m c b s d :=
  (s_v142 (W28 m ρ c) b s d).trans (t28_v141 m ρ c b s d)

end Cert.KernelIdeal.Value

end
-- ==== Proof.Reg6.lean ====
module

public import proofs.«01_k».proof.Proof.MixIn
public import proofs.«01_k».proof.Proof.Words

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx6 : ∀ t : Fin cfg6.N, win6_0.index t = ![t.val, 0] ∧ win6_1.index t = ![0, 0] ∧ win6_2.index t = ![0, 0] ∧ win6_3.index t = ![0, 0] ∧ win6_4.index t = ![0, 0] ∧ win6_5.index t = ![0, 0] ∧ win6_6.index t = ![0, 0, 0] ∧ win6_7.index t = ![0, 0] ∧ win6_8.index t = ![0, 0] ∧ win6_9.index t = ![t.val, 0] ∧ win6_10.index t = ![t.val, 0] ∧ win6_11.index t = ![t.val, 0] :=
  (by decide +kernel : ∀ t : Fin grid6.N, _)

variable (V : (c : Dev nD) → (b : Ref sig .tc) → Buf (Elt Ideal) ((c : Thread nD τ).loc b)) (c : Dev nD) (W : Weights)

/-- A block of the tokens. -/
theorem blk6_0 (t : Fin cfg6.N) (r : Fin 512) (k : Fin 1024) :
    iblk6 V c 0 t (ix2 r k) = V c main_v148 (ix2 (blockRow t r) k) := by
  blk_ext [iblk6, idx6 t, blockRow]

/-- Window 1 holds its whole array. -/
theorem blk6_1 (t : Fin cfg6.N) (k : Fin 1024) :
    iblk6 V c 1 t (ix2 0 k) = V c main_v151 (ix2 0 k) := by
  blk_ext [iblk6, idx6 t]

/-- Window 2 holds its whole array. -/
theorem blk6_2 (t : Fin cfg6.N) (k : Fin 1024) (d : Fin 4608) :
    iblk6 V c 2 t (ix2 k d) = V c main_v154 (ix2 k d) := by
  blk_ext [iblk6, idx6 t]

/-- Window 3 holds its whole array. -/
theorem blk6_3 (t : Fin cfg6.N) (k : Fin 512) (d : Fin 1024) :
    iblk6 V c 3 t (ix2 k d) = V c main_v28 (ix2 k d) := by
  blk_ext [iblk6, idx6 t]

/-- Window 4 holds its whole array. -/
theorem blk6_4 (t : Fin cfg6.N) (k : Fin 1024) :
    iblk6 V c 4 t (ix2 0 k) = V c main_v157 (ix2 0 k) := by
  blk_ext [iblk6, idx6 t]

/-- Window 5 holds its whole array. -/
theorem blk6_5 (t : Fin cfg6.N) (k : Fin 1024) :
    iblk6 V c 5 t (ix2 0 k) = V c main_v160 (ix2 0 k) := by
  blk_ext [iblk6, idx6 t]

/-- Window 6 holds its whole array. -/
theorem blk6_6 (t : Fin cfg6.N) (h : Fin 8) (q p : Fin 128) :
    iblk6 V c 6 t (ix3 h q p) = V c main_v163 (ix3 h q p) := by
  blk_ext [iblk6, idx6 t]

/-- Window 7 holds its whole array. -/
theorem blk6_7 (t : Fin cfg6.N) (q : Fin 128) (d : Fin 1024) :
    iblk6 V c 7 t (ix2 q d) = V c main_v147 (ix2 q d) := by
  blk_ext [iblk6, idx6 t]

/-- Window 8 holds its whole array. -/
theorem blk6_8 (t : Fin cfg6.N) (k d : Fin 1024) :
    iblk6 V c 8 t (ix2 k d) = V c main_v166 (ix2 k d) := by
  blk_ext [iblk6, idx6 t]

/-- Where block `t` of window 9 lies. -/
theorem emb6_9 (t : Fin cfg6.N) (r : Fin 512) (d : Fin 1024) :
    ((cfg6.win 9).blk t).view.emb (ix2 r d) = ix2 (blockRow t r) d := by
  blk_ext [idx6 t, blockRow]

/-- Where block `t` of window 10 lies. -/
theorem emb6_10 (t : Fin cfg6.N) (r : Fin 512) (d : Fin 1024) :
    ((cfg6.win 10).blk t).view.emb (ix2 r d) = ix2 (blockRow t r) d := by
  blk_ext [idx6 t, blockRow]

/-- Where block `t` of window 11 lies. -/
theorem emb6_11 (t : Fin cfg6.N) (r : Fin 512) (d : Fin 1024) :
    ((cfg6.win 11).blk t).view.emb (ix2 r d) = ix2 (blockRow t r) d := by
  blk_ext [idx6 t, blockRow]

/-- The transforms of the channels of every token. -/
theorem reg6_pq (h1 : ∀ k, V c main_v151 (ix2 0 k) = W.gmix k) (h2 : ∀ k d, V c main_v154 (ix2 k d) = W.win k d)
    (R : Fin 65536) (d : Fin 1024) :
    (dat6 V c).arrAt 9 cfg6.N (ix2 R d) = rowdot (arow W fun k => V c main_v148 (ix2 R k)) (fun k c' => V c main_v28 (ix2 k c')) d := by
  refine congrFun ((dat6 V c).arrAt_eq_of_covers 9 (fun i => rowdot (arow W fun k => V c main_v148 (ix2 (i 0) k)) (fun k c' => V c main_v28 (ix2 k c')) (i 1))
    (by decide +kernel) (fun t _ y => ?_)) (ix2 R d)
  idx_vars y
  blk_simp
  rw [after6_9]
  unfold out6_9
  frame_out
  refine (point_pq W (iblk6 V c 0 t) (iblk6 V c 1 t) (iblk6 V c 2 t) (iblk6 V c 3 t) (fun k => (blk6_1 V c t k).trans (h1 k)) (fun k d => (blk6_2 V c t k d).trans (h2 k d)) y0 y1).trans ?_
  refine Eq.trans ?_ (congrArg (fun i : S65536x1024.Idx => rowdot (arow W fun k => V c main_v148 (ix2 (i 0) k)) (fun k c' => V c main_v28 (ix2 k c')) (i 1)) (emb6_9 t y0 y1)).symm
  exact congrArg₂ (fun x (w : Fin 512 → Fin 1024 → EReal) => rowdot (arow W x) w y1) (funext fun k => blk6_0 V c t y0 k)
    (funext fun k => funext fun d => blk6_3 V c t k d)

/-- The gate of the Fourier mixer for every token. -/
theorem reg6_ga (h1 : ∀ k, V c main_v151 (ix2 0 k) = W.gmix k) (h2 : ∀ k d, V c main_v154 (ix2 k d) = W.win k d)
    (R : Fin 65536) (d : Fin 1024) :
    (dat6 V c).arrAt 10 cfg6.N (ix2 R d) = garow W (fun k => V c main_v148 (ix2 R k)) d := by
  refine congrFun ((dat6 V c).arrAt_eq_of_covers 10 (fun i => garow W (fun k => V c main_v148 (ix2 (i 0) k)) (i 1))
    (by decide +kernel) (fun t _ y => ?_)) (ix2 R d)
  idx_vars y
  blk_simp
  rw [after6_10]
  unfold out6_10
  frame_out
  refine (point_ga W (iblk6 V c 0 t) (iblk6 V c 1 t) (iblk6 V c 2 t) (fun k => (blk6_1 V c t k).trans (h1 k)) (fun k d => (blk6_2 V c t k d).trans (h2 k d)) y0 y1).trans ?_
  refine Eq.trans ?_ (congrArg (fun i : S65536x1024.Idx => garow W (fun k => V c main_v148 (ix2 (i 0) k)) (i 1)) (emb6_10 t y0 y1)).symm
  exact congrArg (fun x => garow W x y1) (funext fun k => blk6_0 V c t y0 k)

/-- The gated spatial mixer for every token. -/
theorem reg6_mb (h1 : ∀ k, V c main_v151 (ix2 0 k) = W.gmix k) (h2 : ∀ k d, V c main_v154 (ix2 k d) = W.win k d) (h4 : ∀ k, V c main_v157 (ix2 0 k) = W.lg k) (h5 : ∀ k, V c main_v160 (ix2 0 k) = W.lb k) (h6 : ∀ h q p, V c main_v163 (ix3 h q p) = W.ws h q p) (h7 : ∀ q d, V c main_v147 (ix2 q d) = biasOf W.bs q d) (h8 : ∀ k d, V c main_v166 (ix2 k d) = W.wb k d)
    (R : Fin 65536) (d : Fin 1024) :
    (dat6 V c).arrAt 11 cfg6.N (ix2 R d) = mbrow W (fun p k => V c main_v148 (ix2 (chunkRow R p) k)) (chunkPos R) d := by
  refine congrFun ((dat6 V c).arrAt_eq_of_covers 11 (fun i => mbrow W (fun p k => V c main_v148 (ix2 (chunkRow (i 0) p) k)) (chunkPos (i 0)) (i 1))
    (by decide +kernel) (fun t _ y => ?_)) (ix2 R d)
  idx_vars y
  blk_simp
  rw [after6_11]
  refine (point_mb W (iblk6 V c 0 t) (iblk6 V c 1 t) (iblk6 V c 2 t) (iblk6 V c 3 t) (iblk6 V c 4 t) (iblk6 V c 5 t) (iblk6 V c 6 t) (iblk6 V c 7 t) (iblk6 V c 8 t) (fun k => (blk6_1 V c t k).trans (h1 k)) (fun k d => (blk6_2 V c t k d).trans (h2 k d)) (fun k => (blk6_4 V c t k).trans (h4 k)) (fun k => (blk6_5 V c t k).trans (h5 k)) (fun h q p => (blk6_6 V c t h q p).trans (h6 h q p)) (fun q d => (blk6_7 V c t q d).trans (h7 q d)) (fun k d => (blk6_8 V c t k d).trans (h8 k d)) y0 y1).trans ?_
  refine Eq.trans ?_ (congrArg (fun i : S65536x1024.Idx => mbrow W (fun p k => V c main_v148 (ix2 (chunkRow (i 0) p) k)) (chunkPos (i 0)) (i 1)) (emb6_11 t y0 y1)).symm
  exact congrArg₂ (fun x q => mbrow W x q y1) (funext fun p => funext fun k =>
    (blk6_0 V c t _ k).trans (congrArg (fun R => V c main_v148 (ix2 R k)) (chunkRow_block t y0 p))) (chunkPos_block t y0)

end Cert.KernelIdeal.Value

end
-- ==== Proof.Reg7.lean ====
module

public import proofs.«01_k».proof.Proof.MixOut

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx7 : ∀ t : Fin cfg7.N, win7_0.index t = ![t.val % 4, 0] ∧ win7_1.index t = ![t.val / 4, 0, 0] ∧ win7_2.index t = ![t.val / 4, t.val % 4, 0] ∧ win7_3.index t = ![t.val / 4, t.val % 4, 0] ∧ win7_4.index t = ![t.val / 4, t.val % 4, 0] ∧ win7_5.index t = ![0, 0] ∧ win7_6.index t = ![0, 0] ∧ win7_7.index t = ![t.val / 4, t.val % 4, 0] :=
  (by decide +kernel : ∀ t : Fin grid7.N, _)

variable (V : (c : Dev nD) → (b : Ref sig .tc) → Buf (Elt Ideal) ((c : Thread nD τ).loc b)) (c : Dev nD)

/-- The rows of the table of the positions that a block reads. -/
theorem blk7_0 (t : Fin cfg7.N) (r : Fin 512) (k : Fin 4096) :
    iblk7 V c 0 t (ix2 r k) = V c main_v47 (ix2 (blockPos t r) k) := by
  blk_ext [iblk7, idx7 t, blockPos]

/-- The transforms of the channels of one example. -/
theorem blk7_1 (t : Fin cfg7.N) (s : Fin 2048) (k : Fin 1024) :
    iblk7 V c 1 t (ix3 0 s k) = V c main_v168 (ix3 (blockEx t) s k) := by
  blk_ext [iblk7, idx7 t, blockEx]

/-- A block of the tokens. -/
theorem blk7_2 (t : Fin cfg7.N) (r : Fin 512) (k : Fin 1024) :
    iblk7 V c 2 t (ix3 0 r k) = V c main_v142 (ix3 (blockEx t) (blockPos t r) k) := by
  blk_ext [iblk7, idx7 t, blockEx, blockPos]

/-- A block of the gate. -/
theorem blk7_3 (t : Fin cfg7.N) (r : Fin 512) (k : Fin 1024) :
    iblk7 V c 3 t (ix3 0 r k) = V c main_v169 (ix3 (blockEx t) (blockPos t r) k) := by
  blk_ext [iblk7, idx7 t, blockEx, blockPos]

/-- A block of the gated spatial mixer. -/
theorem blk7_4 (t : Fin cfg7.N) (r : Fin 512) (k : Fin 1024) :
    iblk7 V c 4 t (ix3 0 r k) = V c main_v170 (ix3 (blockEx t) (blockPos t r) k) := by
  blk_ext [iblk7, idx7 t, blockEx, blockPos]

/-- Window 5 holds its whole array. -/
theorem blk7_5 (t : Fin cfg7.N) (k : Fin 512) (d : Fin 1024) :
    iblk7 V c 5 t (ix2 k d) = V c main_v173 (ix2 k d) := by
  blk_ext [iblk7, idx7 t]

/-- Window 6 holds its whole array. -/
theorem blk7_6 (t : Fin cfg7.N) (k : Fin 1024) (d : Fin 1024) :
    iblk7 V c 6 t (ix2 k d) = V c main_v176 (ix2 k d) := by
  blk_ext [iblk7, idx7 t]

/-- Where block `t` of the result lies. -/
theorem emb7_7 (t : Fin cfg7.N) (r : Fin 512) (d : Fin 1024) :
    ((cfg7.win 7).blk t).view.emb (ix3 0 r d) = ix3 (blockEx t) (blockPos t r) d := by
  blk_ext [idx7 t, blockEx, blockPos]

/-- The tokens after both mixers. -/
theorem reg7_out (b : Fin 32) (s : Fin 2048) (d : Fin 1024) :
    (dat7 V c).arrAt 7 cfg7.N (ix3 b s d)
      = outrow (fun k => V c main_v142 (ix3 b s k)) (fun k => V c main_v169 (ix3 b s k)) (fun k => V c main_v170 (ix3 b s k))
        (halves (fun k => V c main_v47 (ix2 s k)) (fun s' k => V c main_v168 (ix3 b s' k)))
        (fun k c' => V c main_v173 (ix2 k c')) (fun k c' => V c main_v176 (ix2 k c')) d := by
  refine congrFun ((dat7 V c).arrAt_eq_of_covers 7 (fun i => outrow (fun k => V c main_v142 (ix3 (i 0) (i 1) k)) (fun k => V c main_v169 (ix3 (i 0) (i 1) k)) (fun k => V c main_v170 (ix3 (i 0) (i 1) k))
        (halves (fun k => V c main_v47 (ix2 (i 1) k)) (fun s' k => V c main_v168 (ix3 (i 0) s' k)))
        (fun k c' => V c main_v173 (ix2 k c')) (fun k c' => V c main_v176 (ix2 k c')) (i 2))
    (by decide +kernel) (fun t _ y => ?_)) (ix3 b s d)
  idx_vars y
  obtain rfl : y0 = 0 := Subsingleton.elim _ _
  blk_simp
  rw [after7_7]
  refine (point_out (iblk7 V c 0 t) (iblk7 V c 1 t) (iblk7 V c 2 t) (iblk7 V c 3 t) (iblk7 V c 4 t) (iblk7 V c 5 t) (iblk7 V c 6 t) y1 y2).trans ?_
  refine Eq.trans ?_ (congrArg (fun i : S32x2048x1024.Idx => outrow (fun k => V c main_v142 (ix3 (i 0) (i 1) k)) (fun k => V c main_v169 (ix3 (i 0) (i 1) k)) (fun k => V c main_v170 (ix3 (i 0) (i 1) k))
        (halves (fun k => V c main_v47 (ix2 (i 1) k)) (fun s' k => V c main_v168 (ix3 (i 0) s' k)))
        (fun k c' => V c main_v173 (ix2 k c')) (fun k c' => V c main_v176 (ix2 k c')) (i 2)) (emb7_7 t y1 y2)).symm
  simp only [blk7_0, blk7_1, blk7_2, blk7_3, blk7_4, blk7_5, blk7_6]
  rfl

end Cert.KernelIdeal.Value

end
-- ==== Proof.Reg8.lean ====
module

public import proofs.«01_k».proof.Proof.Mlp

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx8 : ∀ t : Fin cfg8.N, win8_0.index t = ![t.val, 0] ∧ win8_1.index t = ![0, 0] ∧ win8_2.index t = ![0, 0] ∧ win8_3.index t = ![0, 0] ∧ win8_4.index t = ![0, 0] ∧ win8_5.index t = ![t.val, 0] :=
  (by decide +kernel : ∀ t : Fin grid8.N, _)

variable (V : (c : Dev nD) → (b : Ref sig .tc) → Buf (Elt Ideal) ((c : Thread nD τ).loc b)) (c : Dev nD)

/-- A block of the tokens. -/
theorem blk8_0 (t : Fin cfg8.N) (r : Fin 512) (k : Fin 1024) :
    iblk8 V c 0 t (ix2 r k) = V c main_v178 (ix2 (blockRow t r) k) := by
  blk_ext [iblk8, idx8 t, blockRow]

/-- Window 1 holds its whole array. -/
theorem blk8_1 (t : Fin cfg8.N) (k : Fin 1024) :
    iblk8 V c 1 t (ix2 0 k) = V c main_v181 (ix2 0 k) := by
  blk_ext [iblk8, idx8 t]

/-- Window 2 holds its whole array. -/
theorem blk8_2 (t : Fin cfg8.N) (k : Fin 1024) (d : Fin 4096) :
    iblk8 V c 2 t (ix2 k d) = V c main_v184 (ix2 k d) := by
  blk_ext [iblk8, idx8 t]

/-- Window 3 holds its whole array. -/
theorem blk8_3 (t : Fin cfg8.N) (k : Fin 4096) (d : Fin 1024) :
    iblk8 V c 3 t (ix2 k d) = V c main_v187 (ix2 k d) := by
  blk_ext [iblk8, idx8 t]

/-- Where block `t` of the result lies. -/
theorem emb8_5 (t : Fin cfg8.N) (r : Fin 512) (d : Fin 1024) :
    ((cfg8.win 5).blk t).view.emb (ix2 r d) = ix2 (blockRow t r) d := by
  blk_ext [idx8 t, blockRow]

/-- The tokens after the channel mixing. -/
theorem reg8_mlp (R : Fin 65536) (d : Fin 1024) :
    (dat8 V c).arrAt 5 cfg8.N (ix2 R d)
      = mlprow (fun k => V c main_v178 (ix2 R k)) (fun k => V c main_v181 (ix2 0 k)) (fun k c' => V c main_v184 (ix2 k c')) (fun k c' => V c main_v187 (ix2 k c')) d := by
  refine congrFun ((dat8 V c).arrAt_eq_of_covers 5 (fun i => mlprow (fun k => V c main_v178 (ix2 (i 0) k)) (fun k => V c main_v181 (ix2 0 k)) (fun k c' => V c main_v184 (ix2 k c')) (fun k c' => V c main_v187 (ix2 k c')) (i 1))
    (by decide +kernel) (fun t _ y => ?_)) (ix2 R d)
  idx_vars y
  blk_simp
  rw [after8_5]
  unfold out8_5
  frame_out
  refine (point_mlp (iblk8 V c 0 t) (iblk8 V c 1 t) (iblk8 V c 2 t) (iblk8 V c 3 t) y0 y1).trans ?_
  refine Eq.trans ?_ (congrArg (fun i : S65536x1024.Idx => mlprow (fun k => V c main_v178 (ix2 (i 0) k)) (fun k => V c main_v181 (ix2 0 k)) (fun k c' => V c main_v184 (ix2 k c')) (fun k c' => V c main_v187 (ix2 k c')) (i 1)) (emb8_5 t y0 y1)).symm
  simp only [blk8_0, blk8_1, blk8_2, blk8_3]
  rfl

end Cert.KernelIdeal.Value

end
-- ==== Proof.Layer2.lean ====
module

public import proofs.«01_k».proof.Proof.Layer1
public import proofs.«01_k».proof.Proof.Reg6
public import proofs.«01_k».proof.Proof.Reg7
public import proofs.«01_k».proof.Proof.Reg8

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

section Host

variable (W : Valuation τ sig (Elt Ideal))

/-- The tokens, row after row. -/
theorem s_v148 (b : Fin 32) (s : Fin 2048) (d : Fin 1024) :
    StableHlo.after hostOps6 W (Proc.devRef .tc main_v148) (ix2 (flat b s) d) = W (Proc.devRef .tc main_v141) (ix2 (flat b s) d) := by
  entry_read
  pointwise [flat]

/-- A row of scales. -/
theorem s_v151 (k : Fin 1024) :
    StableHlo.after hostOps6 W (Proc.devRef .tc main_v151) (ix2 0 k) = W (Proc.devRef .tc main_arg1) (ix2 2 k) := by
  entry_read
  pointwise [flat]

/-- The input projection. -/
theorem s_v154 (k : Fin 1024) (e : Fin 4608) :
    StableHlo.after hostOps6 W (Proc.devRef .tc main_v154) (ix2 k e) = W (Proc.devRef .tc main_arg2) (ix3 2 k e) := by
  entry_read
  pointwise [flat]

/-- A row of scales. -/
theorem s_v157 (k : Fin 1024) :
    StableHlo.after hostOps6 W (Proc.devRef .tc main_v157) (ix2 0 k) = W (Proc.devRef .tc main_arg4) (ix2 2 k) := by
  entry_read
  pointwise [flat]

/-- A row of shifts. -/
theorem s_v160 (k : Fin 1024) :
    StableHlo.after hostOps6 W (Proc.devRef .tc main_v160) (ix2 0 k) = W (Proc.devRef .tc main_arg5) (ix2 2 k) := by
  entry_read
  pointwise [flat]

/-- The spatial mixing matrices. -/
theorem s_v163 (h : Fin 8) (q p : Fin 128) :
    StableHlo.after hostOps6 W (Proc.devRef .tc main_v163) (ix3 h q p) = W (Proc.devRef .tc main_arg6) (ix4 2 h q p) := by
  entry_read
  pointwise [flat]

/-- The bias of a head, over its channels. -/
theorem s_v147 (q : Fin 128) (e : Fin 1024) :
    StableHlo.after hostOps6 W (Proc.devRef .tc main_v147) (ix2 q e) = biasOf (fun h p => W (Proc.devRef .tc main_arg7) (ix3 2 h p)) q e := by
  entry_read
  pointwise [flat]
  rfl

/-- The projection of the spatial mixer. -/
theorem s_v166 (k e : Fin 1024) :
    StableHlo.after hostOps6 W (Proc.devRef .tc main_v166) (ix2 k e) = W (Proc.devRef .tc main_arg8) (ix3 2 k e) := by
  entry_read
  pointwise [flat]

/-- The rows by example. -/
theorem s_v168 (b : Fin 32) (s : Fin 2048) (d : Fin 1024) :
    StableHlo.after hostOps7 W (Proc.devRef .tc main_v168) (ix3 b s d) = W (Proc.devRef .tc main_v167_0) (ix2 (flat b s) d) := by
  entry_read
  pointwise [flat]

/-- The rows by example. -/
theorem s_v169 (b : Fin 32) (s : Fin 2048) (d : Fin 1024) :
    StableHlo.after hostOps7 W (Proc.devRef .tc main_v169) (ix3 b s d) = W (Proc.devRef .tc main_v167_1) (ix2 (flat b s) d) := by
  entry_read
  pointwise [flat]

/-- The rows by example. -/
theorem s_v170 (b : Fin 32) (s : Fin 2048) (d : Fin 1024) :
    StableHlo.after hostOps7 W (Proc.devRef .tc main_v170) (ix3 b s d) = W (Proc.devRef .tc main_v167_2) (ix2 (flat b s) d) := by
  entry_read
  pointwise [flat]

/-- A weight. -/
theorem s_v173 (k : Fin 512) (e : Fin 1024) :
    StableHlo.after hostOps7 W (Proc.devRef .tc main_v173) (ix2 k e) = W (Proc.devRef .tc main_arg3) (ix3 2 k e) := by
  entry_read
  pointwise [flat]

/-- A weight. -/
theorem s_v176 (k e : Fin 1024) :
    StableHlo.after hostOps7 W (Proc.devRef .tc main_v176) (ix2 k e) = W (Proc.devRef .tc main_arg9) (ix3 2 k e) := by
  entry_read
  pointwise [flat]

/-- The rows in one. -/
theorem s_v178 (b : Fin 32) (s : Fin 2048) (d : Fin 1024) :
    StableHlo.after hostOps8 W (Proc.devRef .tc main_v178) (ix2 (flat b s) d) = W (Proc.devRef .tc main_v177) (ix3 b s d) := by
  entry_read
  pointwise [flat]

/-- A row of scales. -/
theorem s_v181 (k : Fin 1024) :
    StableHlo.after hostOps8 W (Proc.devRef .tc main_v181) (ix2 0 k) = W (Proc.devRef .tc main_arg10) (ix2 2 k) := by
  entry_read
  pointwise [flat]

/-- A weight. -/
theorem s_v184 (k : Fin 1024) (e : Fin 4096) :
    StableHlo.after hostOps8 W (Proc.devRef .tc main_v184) (ix2 k e) = W (Proc.devRef .tc main_arg11) (ix3 2 k e) := by
  entry_read
  pointwise [flat]

/-- A weight. -/
theorem s_v187 (k : Fin 4096) (e : Fin 1024) :
    StableHlo.after hostOps8 W (Proc.devRef .tc main_v187) (ix2 k e) = W (Proc.devRef .tc main_arg12) (ix3 2 k e) := by
  entry_read
  pointwise [flat]

/-- The rows by example. -/
theorem s_v189 (b : Fin 32) (s : Fin 2048) (d : Fin 1024) :
    StableHlo.after hostOps9 W (Proc.devRef .tc main_v189) (ix3 b s d) = W (Proc.devRef .tc main_v188) (ix2 (flat b s) d) := by
  entry_read
  pointwise [flat]

end Host

variable (m : (ℓ : Loc nD τ sig) → Buf (Elt Ideal) ℓ) (ρ : Dev nD → PrngReg) (c : Dev nD)

/-- The table of the channels is what it was. -/
theorem keep29_v28 : V29 m ρ c main_v28 = V17 m ρ c main_v28 :=
  ((((((W29_of m ρ c main_v28 (by decide)).trans (W28_of m ρ c main_v28 (by decide))).trans (W27_of m ρ c main_v28 (by decide))).trans (W26_of m ρ c main_v28 (by decide))).trans (W25_of m ρ c main_v28 (by decide))).trans (W24_of m ρ c main_v28 (by decide))).trans (keep23_v28 m ρ c)

/-- The table of the positions is what it was. -/
theorem keep29_v47 : V29 m ρ c main_v47 = V17 m ρ c main_v47 :=
  ((((((W29_of m ρ c main_v47 (by decide)).trans (W28_of m ρ c main_v47 (by decide))).trans (W27_of m ρ c main_v47 (by decide))).trans (W26_of m ρ c main_v47 (by decide))).trans (W25_of m ρ c main_v47 (by decide))).trans (W24_of m ρ c main_v47 (by decide))).trans (keep23_v47 m ρ c)

/-- A token as the layer finds it. -/
theorem row_v148 (b : Fin 32) (s : Fin 2048) : (fun k => V29 m ρ c main_v148 (ix2 (flat b s) k)) = tokens2 m c b s :=
  funext fun k => (s_v148 (W28 m ρ c) b s k).trans (t28_v141 m ρ c b s k)

/-- A weight as the layer finds it. -/
theorem t29_v151 (k : Fin 1024) : V29 m ρ c main_v151 (ix2 0 k) = (weights m c 2).gmix k :=
  (s_v151 (W28 m ρ c) k).trans (congrFun (W28_args m ρ c main_arg1 (by decide)) _)

/-- A weight as the layer finds it. -/
theorem t29_v154 (k : Fin 1024) (e : Fin 4608) : V29 m ρ c main_v154 (ix2 k e) = (weights m c 2).win k e :=
  (s_v154 (W28 m ρ c) k e).trans (congrFun (W28_args m ρ c main_arg2 (by decide)) _)

/-- A weight as the layer finds it. -/
theorem t29_v157 (k : Fin 1024) : V29 m ρ c main_v157 (ix2 0 k) = (weights m c 2).lg k :=
  (s_v157 (W28 m ρ c) k).trans (congrFun (W28_args m ρ c main_arg4 (by decide)) _)

/-- A weight as the layer finds it. -/
theorem t29_v160 (k : Fin 1024) : V29 m ρ c main_v160 (ix2 0 k) = (weights m c 2).lb k :=
  (s_v160 (W28 m ρ c) k).trans (congrFun (W28_args m ρ c main_arg5 (by decide)) _)

/-- A weight as the layer finds it. -/
theorem t29_v163 (h : Fin 8) (q p : Fin 128) : V29 m ρ c main_v163 (ix3 h q p) = (weights m c 2).ws h q p :=
  (s_v163 (W28 m ρ c) h q p).trans (congrFun (W28_args m ρ c main_arg6 (by decide)) _)

/-- A weight as the layer finds it. -/
theorem t29_v166 (k e : Fin 1024) : V29 m ρ c main_v166 (ix2 k e) = (weights m c 2).wb k e :=
  (s_v166 (W28 m ρ c) k e).trans (congrFun (W28_args m ρ c main_arg8 (by decide)) _)

/-- The bias as the layer finds it. -/
theorem t29_v147 (q : Fin 128) (e : Fin 1024) : V29 m ρ c main_v147 (ix2 q e) = biasOf (weights m c 2).bs q e :=
  (s_v147 (W28 m ρ c) q e).trans (congrArg (fun f => biasOf f q e)
    (funext fun h => funext fun p => congrFun (W28_args m ρ c main_arg7 (by decide)) (ix3 2 h p)))

/-- The channels' transforms. -/
theorem t30_pq (b : Fin 32) (s : Fin 2048) (d : Fin 1024) :
    W30 m ρ c (Proc.devRef .tc main_v167_0) (ix2 (flat b s) d)
      = rowdot (arow (weights m c 2) (tokens2 m c b s)) (fun k c' => V29 m ρ c main_v28 (ix2 k c')) d := by
  refine (congrFun (W30_arr m ρ c 9) (ix2 (flat b s) d)).trans ?_
  refine (reg6_pq (V29 m ρ) c (weights m c 2) (t29_v151 m ρ c) (t29_v154 m ρ c) (flat b s) d).trans ?_
  rw [row_v148]

/-- The gate of the Fourier mixer. -/
theorem t30_ga (b : Fin 32) (s : Fin 2048) (d : Fin 1024) :
    W30 m ρ c (Proc.devRef .tc main_v167_1) (ix2 (flat b s) d) = garow (weights m c 2) (tokens2 m c b s) d := by
  refine (congrFun (W30_arr m ρ c 10) (ix2 (flat b s) d)).trans ?_
  refine (reg6_ga (V29 m ρ) c (weights m c 2) (t29_v151 m ρ c) (t29_v154 m ρ c) (flat b s) d).trans ?_
  rw [row_v148]

/-- The spatial mixer, gated. -/
theorem t30_mb (b : Fin 32) (s : Fin 2048) (d : Fin 1024) :
    W30 m ρ c (Proc.devRef .tc main_v167_2) (ix2 (flat b s) d)
      = mbrow (weights m c 2) (fun p => tokens2 m c b ⟨128 * (s / 128) + p, by omega⟩) ⟨s % 128, by omega⟩ d := by
  refine (congrFun (W30_arr m ρ c 11) (ix2 (flat b s) d)).trans ?_
  refine (reg6_mb (V29 m ρ) c (weights m c 2) (t29_v151 m ρ c) (t29_v154 m ρ c) (t29_v157 m ρ c) (t29_v160 m ρ c)
    (t29_v163 m ρ c) (t29_v147 m ρ c) (t29_v166 m ρ c) (flat b s) d).trans ?_
  have h : (fun p k => V29 m ρ c main_v148 (ix2 (chunkRow (flat b s) p) k))
      = fun p : Fin 128 => tokens2 m c b ⟨128 * (s / 128) + p, by omega⟩ := by
    funext p
    rw [chunkRow_flat]
    exact row_v148 m ρ c b _
  rw [h, chunkPos_flat]

/-- The tokens after the two mixers. -/
theorem t32_v177 (b : Fin 32) (s : Fin 2048) (d : Fin 1024) :
    W32 m ρ c (Proc.devRef .tc main_v177) (ix3 b s d) = mixed (weights m c 2) (tokens2 m c) b s d := by
  refine (congrFun (W32_arr m ρ c 7) (ix3 b s d)).trans ?_
  refine (reg7_out (V31 m ρ) c b s d).trans ?_
  have e47 : ∀ k, V31 m ρ c main_v47 (ix2 s k) = V17 m ρ c main_v47 (ix2 s k) := fun k =>
    congrFun (((W31_of m ρ c main_v47 (by decide)).trans (W30_of m ρ c main_v47 (by decide))).trans (keep29_v47 m ρ c)) (ix2 s k)
  exact mixed_of (weights m c 2) (tokens2 m c) b s d _ _ _ _ _ (fun k c' => V29 m ρ c main_v28 (ix2 k c')) _ _
    (fun k => (congrFun ((W31_of m ρ c main_v142 (by decide)).trans (W30_of m ρ c main_v142 (by decide))) (ix3 b s k)).trans (t29_v142 m ρ c b s k))
    (fun k => (s_v169 (W30 m ρ c) b s k).trans (t30_ga m ρ c b s k))
    (fun k => (s_v170 (W30 m ρ c) b s k).trans (t30_mb m ρ c b s k))
    (fun k e => (s_v173 (W30 m ρ c) k e).trans (congrFun (W30_args m ρ c main_arg3 (by decide)) _))
    (fun k e => (s_v176 (W30 m ρ c) k e).trans (congrFun (W30_args m ρ c main_arg9 (by decide)) _))
    (fun k => (e47 _).trans (t17_v47_lo m ρ c s k)) (fun k => (e47 _).trans (t17_v47_hi m ρ c s k))
    (fun i k => (s_v168 (W30 m ρ c) b i k).trans (t30_pq m ρ c b i k))
    (fun i j => (congrFun (keep29_v28 m ρ c) _).trans (t17_v28_lo m ρ c i j)) (fun i j => (congrFun (keep29_v28 m ρ c) _).trans (t17_v28_hi m ρ c i j))

/-- The tokens after the layer. -/
theorem t34_v188 (b : Fin 32) (s : Fin 2048) (d : Fin 1024) :
    W34 m ρ c (Proc.devRef .tc main_v188) (ix2 (flat b s) d) = tokens3 m c b s d := by
  refine (congrFun (W34_arr m ρ c 5) (ix2 (flat b s) d)).trans ?_
  refine (reg8_mlp (V33 m ρ) c (flat b s) d).trans ?_
  have e0 : (fun k => V33 m ρ c main_v178 (ix2 (flat b s) k)) = mixed (weights m c 2) (tokens2 m c) b s :=
    funext fun k => (s_v178 (W32 m ρ c) b s k).trans (t32_v177 m ρ c b s k)
  have e1 : (fun k => V33 m ρ c main_v181 (ix2 0 k)) = (weights m c 2).gmlp :=
    funext fun k => (s_v181 (W32 m ρ c) k).trans (congrFun (W32_args m ρ c main_arg10 (by decide)) _)
  have e2 : (fun k c' => V33 m ρ c main_v184 (ix2 k c')) = (weights m c 2).wup :=
    funext fun k => funext fun e => (s_v184 (W32 m ρ c) k e).trans (congrFun (W32_args m ρ c main_arg11 (by decide)) _)
  have e3 : (fun k c' => V33 m ρ c main_v187 (ix2 k c')) = (weights m c 2).wdown :=
    funext fun k => funext fun e => (s_v187 (W32 m ρ c) k e).trans (congrFun (W32_args m ρ c main_arg12 (by decide)) _)
  rw [e0, e1, e2, e3]
  rfl

/-- The tokens after the layer, by example. -/
theorem t35_v189 (b : Fin 32) (s : Fin 2048) (d : Fin 1024) :
    W35 m ρ c (Proc.devRef .tc main_v189) (ix3 b s d) = tokens3 m c b s d :=
  (s_v189 (W34 m ρ c) b s d).trans (t34_v188 m ρ c b s d)

end Cert.KernelIdeal.Value

end
-- ==== Proof.Reg9.lean ====
module

public import proofs.«01_k».proof.Proof.MixIn
public import proofs.«01_k».proof.Proof.Words

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx9 : ∀ t : Fin cfg9.N, win9_0.index t = ![t.val, 0] ∧ win9_1.index t = ![0, 0] ∧ win9_2.index t = ![0, 0] ∧ win9_3.index t = ![0, 0] ∧ win9_4.index t = ![0, 0] ∧ win9_5.index t = ![0, 0] ∧ win9_6.index t = ![0, 0, 0] ∧ win9_7.index t = ![0, 0] ∧ win9_8.index t = ![0, 0] ∧ win9_9.index t = ![t.val, 0] ∧ win9_10.index t = ![t.val, 0] ∧ win9_11.index t = ![t.val, 0] :=
  (by decide +kernel : ∀ t : Fin grid9.N, _)

variable (V : (c : Dev nD) → (b : Ref sig .tc) → Buf (Elt Ideal) ((c : Thread nD τ).loc b)) (c : Dev nD) (W : Weights)

/-- A block of the tokens. -/
theorem blk9_0 (t : Fin cfg9.N) (r : Fin 512) (k : Fin 1024) :
    iblk9 V c 0 t (ix2 r k) = V c main_v195 (ix2 (blockRow t r) k) := by
  blk_ext [iblk9, idx9 t, blockRow]

/-- Window 1 holds its whole array. -/
theorem blk9_1 (t : Fin cfg9.N) (k : Fin 1024) :
    iblk9 V c 1 t (ix2 0 k) = V c main_v198 (ix2 0 k) := by
  blk_ext [iblk9, idx9 t]

/-- Window 2 holds its whole array. -/
theorem blk9_2 (t : Fin cfg9.N) (k : Fin 1024) (d : Fin 4608) :
    iblk9 V c 2 t (ix2 k d) = V c main_v201 (ix2 k d) := by
  blk_ext [iblk9, idx9 t]

/-- Window 3 holds its whole array. -/
theorem blk9_3 (t : Fin cfg9.N) (k : Fin 512) (d : Fin 1024) :
    iblk9 V c 3 t (ix2 k d) = V c main_v28 (ix2 k d) := by
  blk_ext [iblk9, idx9 t]

/-- Window 4 holds its whole array. -/
theorem blk9_4 (t : Fin cfg9.N) (k : Fin 1024) :
    iblk9 V c 4 t (ix2 0 k) = V c main_v204 (ix2 0 k) := by
  blk_ext [iblk9, idx9 t]

/-- Window 5 holds its whole array. -/
theorem blk9_5 (t : Fin cfg9.N) (k : Fin 1024) :
    iblk9 V c 5 t (ix2 0 k) = V c main_v207 (ix2 0 k) := by
  blk_ext [iblk9, idx9 t]

/-- Window 6 holds its whole array. -/
theorem blk9_6 (t : Fin cfg9.N) (h : Fin 8) (q p : Fin 128) :
    iblk9 V c 6 t (ix3 h q p) = V c main_v210 (ix3 h q p) := by
  blk_ext [iblk9, idx9 t]

/-- Window 7 holds its whole array. -/
theorem blk9_7 (t : Fin cfg9.N) (q : Fin 128) (d : Fin 1024) :
    iblk9 V c 7 t (ix2 q d) = V c main_v194 (ix2 q d) := by
  blk_ext [iblk9, idx9 t]

/-- Window 8 holds its whole array. -/
theorem blk9_8 (t : Fin cfg9.N) (k d : Fin 1024) :
    iblk9 V c 8 t (ix2 k d) = V c main_v213 (ix2 k d) := by
  blk_ext [iblk9, idx9 t]

/-- Where block `t` of window 9 lies. -/
theorem emb9_9 (t : Fin cfg9.N) (r : Fin 512) (d : Fin 1024) :
    ((cfg9.win 9).blk t).view.emb (ix2 r d) = ix2 (blockRow t r) d := by
  blk_ext [idx9 t, blockRow]

/-- Where block `t` of window 10 lies. -/
theorem emb9_10 (t : Fin cfg9.N) (r : Fin 512) (d : Fin 1024) :
    ((cfg9.win 10).blk t).view.emb (ix2 r d) = ix2 (blockRow t r) d := by
  blk_ext [idx9 t, blockRow]

/-- Where block `t` of window 11 lies. -/
theorem emb9_11 (t : Fin cfg9.N) (r : Fin 512) (d : Fin 1024) :
    ((cfg9.win 11).blk t).view.emb (ix2 r d) = ix2 (blockRow t r) d := by
  blk_ext [idx9 t, blockRow]

/-- The transforms of the channels of every token. -/
theorem reg9_pq (h1 : ∀ k, V c main_v198 (ix2 0 k) = W.gmix k) (h2 : ∀ k d, V c main_v201 (ix2 k d) = W.win k d)
    (R : Fin 65536) (d : Fin 1024) :
    (dat9 V c).arrAt 9 cfg9.N (ix2 R d) = rowdot (arow W fun k => V c main_v195 (ix2 R k)) (fun k c' => V c main_v28 (ix2 k c')) d := by
  refine congrFun ((dat9 V c).arrAt_eq_of_covers 9 (fun i => rowdot (arow W fun k => V c main_v195 (ix2 (i 0) k)) (fun k c' => V c main_v28 (ix2 k c')) (i 1))
    (by decide +kernel) (fun t _ y => ?_)) (ix2 R d)
  idx_vars y
  blk_simp
  rw [after9_9]
  unfold out9_9
  frame_out
  refine (point_pq W (iblk9 V c 0 t) (iblk9 V c 1 t) (iblk9 V c 2 t) (iblk9 V c 3 t) (fun k => (blk9_1 V c t k).trans (h1 k)) (fun k d => (blk9_2 V c t k d).trans (h2 k d)) y0 y1).trans ?_
  refine Eq.trans ?_ (congrArg (fun i : S65536x1024.Idx => rowdot (arow W fun k => V c main_v195 (ix2 (i 0) k)) (fun k c' => V c main_v28 (ix2 k c')) (i 1)) (emb9_9 t y0 y1)).symm
  exact congrArg₂ (fun x (w : Fin 512 → Fin 1024 → EReal) => rowdot (arow W x) w y1) (funext fun k => blk9_0 V c t y0 k)
    (funext fun k => funext fun d => blk9_3 V c t k d)

/-- The gate of the Fourier mixer for every token. -/
theorem reg9_ga (h1 : ∀ k, V c main_v198 (ix2 0 k) = W.gmix k) (h2 : ∀ k d, V c main_v201 (ix2 k d) = W.win k d)
    (R : Fin 65536) (d : Fin 1024) :
    (dat9 V c).arrAt 10 cfg9.N (ix2 R d) = garow W (fun k => V c main_v195 (ix2 R k)) d := by
  refine congrFun ((dat9 V c).arrAt_eq_of_covers 10 (fun i => garow W (fun k => V c main_v195 (ix2 (i 0) k)) (i 1))
    (by decide +kernel) (fun t _ y => ?_)) (ix2 R d)
  idx_vars y
  blk_simp
  rw [after9_10]
  unfold out9_10
  frame_out
  refine (point_ga W (iblk9 V c 0 t) (iblk9 V c 1 t) (iblk9 V c 2 t) (fun k => (blk9_1 V c t k).trans (h1 k)) (fun k d => (blk9_2 V c t k d).trans (h2 k d)) y0 y1).trans ?_
  refine Eq.trans ?_ (congrArg (fun i : S65536x1024.Idx => garow W (fun k => V c main_v195 (ix2 (i 0) k)) (i 1)) (emb9_10 t y0 y1)).symm
  exact congrArg (fun x => garow W x y1) (funext fun k => blk9_0 V c t y0 k)

/-- The gated spatial mixer for every token. -/
theorem reg9_mb (h1 : ∀ k, V c main_v198 (ix2 0 k) = W.gmix k) (h2 : ∀ k d, V c main_v201 (ix2 k d) = W.win k d) (h4 : ∀ k, V c main_v204 (ix2 0 k) = W.lg k) (h5 : ∀ k, V c main_v207 (ix2 0 k) = W.lb k) (h6 : ∀ h q p, V c main_v210 (ix3 h q p) = W.ws h q p) (h7 : ∀ q d, V c main_v194 (ix2 q d) = biasOf W.bs q d) (h8 : ∀ k d, V c main_v213 (ix2 k d) = W.wb k d)
    (R : Fin 65536) (d : Fin 1024) :
    (dat9 V c).arrAt 11 cfg9.N (ix2 R d) = mbrow W (fun p k => V c main_v195 (ix2 (chunkRow R p) k)) (chunkPos R) d := by
  refine congrFun ((dat9 V c).arrAt_eq_of_covers 11 (fun i => mbrow W (fun p k => V c main_v195 (ix2 (chunkRow (i 0) p) k)) (chunkPos (i 0)) (i 1))
    (by decide +kernel) (fun t _ y => ?_)) (ix2 R d)
  idx_vars y
  blk_simp
  rw [after9_11]
  refine (point_mb W (iblk9 V c 0 t) (iblk9 V c 1 t) (iblk9 V c 2 t) (iblk9 V c 3 t) (iblk9 V c 4 t) (iblk9 V c 5 t) (iblk9 V c 6 t) (iblk9 V c 7 t) (iblk9 V c 8 t) (fun k => (blk9_1 V c t k).trans (h1 k)) (fun k d => (blk9_2 V c t k d).trans (h2 k d)) (fun k => (blk9_4 V c t k).trans (h4 k)) (fun k => (blk9_5 V c t k).trans (h5 k)) (fun h q p => (blk9_6 V c t h q p).trans (h6 h q p)) (fun q d => (blk9_7 V c t q d).trans (h7 q d)) (fun k d => (blk9_8 V c t k d).trans (h8 k d)) y0 y1).trans ?_
  refine Eq.trans ?_ (congrArg (fun i : S65536x1024.Idx => mbrow W (fun p k => V c main_v195 (ix2 (chunkRow (i 0) p) k)) (chunkPos (i 0)) (i 1)) (emb9_11 t y0 y1)).symm
  exact congrArg₂ (fun x q => mbrow W x q y1) (funext fun p => funext fun k =>
    (blk9_0 V c t _ k).trans (congrArg (fun R => V c main_v195 (ix2 R k)) (chunkRow_block t y0 p))) (chunkPos_block t y0)

end Cert.KernelIdeal.Value

end
-- ==== Proof.Reg10.lean ====
module

public import proofs.«01_k».proof.Proof.MixOut

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx10 : ∀ t : Fin cfg10.N, win10_0.index t = ![t.val % 4, 0] ∧ win10_1.index t = ![t.val / 4, 0, 0] ∧ win10_2.index t = ![t.val / 4, t.val % 4, 0] ∧ win10_3.index t = ![t.val / 4, t.val % 4, 0] ∧ win10_4.index t = ![t.val / 4, t.val % 4, 0] ∧ win10_5.index t = ![0, 0] ∧ win10_6.index t = ![0, 0] ∧ win10_7.index t = ![t.val / 4, t.val % 4, 0] :=
  (by decide +kernel : ∀ t : Fin grid10.N, _)

variable (V : (c : Dev nD) → (b : Ref sig .tc) → Buf (Elt Ideal) ((c : Thread nD τ).loc b)) (c : Dev nD)

/-- The rows of the table of the positions that a block reads. -/
theorem blk10_0 (t : Fin cfg10.N) (r : Fin 512) (k : Fin 4096) :
    iblk10 V c 0 t (ix2 r k) = V c main_v47 (ix2 (blockPos t r) k) := by
  blk_ext [iblk10, idx10 t, blockPos]

/-- The transforms of the channels of one example. -/
theorem blk10_1 (t : Fin cfg10.N) (s : Fin 2048) (k : Fin 1024) :
    iblk10 V c 1 t (ix3 0 s k) = V c main_v215 (ix3 (blockEx t) s k) := by
  blk_ext [iblk10, idx10 t, blockEx]

/-- A block of the tokens. -/
theorem blk10_2 (t : Fin cfg10.N) (r : Fin 512) (k : Fin 1024) :
    iblk10 V c 2 t (ix3 0 r k) = V c main_v189 (ix3 (blockEx t) (blockPos t r) k) := by
  blk_ext [iblk10, idx10 t, blockEx, blockPos]

/-- A block of the gate. -/
theorem blk10_3 (t : Fin cfg10.N) (r : Fin 512) (k : Fin 1024) :
    iblk10 V c 3 t (ix3 0 r k) = V c main_v216 (ix3 (blockEx t) (blockPos t r) k) := by
  blk_ext [iblk10, idx10 t, blockEx, blockPos]

/-- A block of the gated spatial mixer. -/
theorem blk10_4 (t : Fin cfg10.N) (r : Fin 512) (k : Fin 1024) :
    iblk10 V c 4 t (ix3 0 r k) = V c main_v217 (ix3 (blockEx t) (blockPos t r) k) := by
  blk_ext [iblk10, idx10 t, blockEx, blockPos]

/-- Window 5 holds its whole array. -/
theorem blk10_5 (t : Fin cfg10.N) (k : Fin 512) (d : Fin 1024) :
    iblk10 V c 5 t (ix2 k d) = V c main_v220 (ix2 k d) := by
  blk_ext [iblk10, idx10 t]

/-- Window 6 holds its whole array. -/
theorem blk10_6 (t : Fin cfg10.N) (k : Fin 1024) (d : Fin 1024) :
    iblk10 V c 6 t (ix2 k d) = V c main_v223 (ix2 k d) := by
  blk_ext [iblk10, idx10 t]

/-- Where block `t` of the result lies. -/
theorem emb10_7 (t : Fin cfg10.N) (r : Fin 512) (d : Fin 1024) :
    ((cfg10.win 7).blk t).view.emb (ix3 0 r d) = ix3 (blockEx t) (blockPos t r) d := by
  blk_ext [idx10 t, blockEx, blockPos]

/-- The tokens after both mixers. -/
theorem reg10_out (b : Fin 32) (s : Fin 2048) (d : Fin 1024) :
    (dat10 V c).arrAt 7 cfg10.N (ix3 b s d)
      = outrow (fun k => V c main_v189 (ix3 b s k)) (fun k => V c main_v216 (ix3 b s k)) (fun k => V c main_v217 (ix3 b s k))
        (halves (fun k => V c main_v47 (ix2 s k)) (fun s' k => V c main_v215 (ix3 b s' k)))
        (fun k c' => V c main_v220 (ix2 k c')) (fun k c' => V c main_v223 (ix2 k c')) d := by
  refine congrFun ((dat10 V c).arrAt_eq_of_covers 7 (fun i => outrow (fun k => V c main_v189 (ix3 (i 0) (i 1) k)) (fun k => V c main_v216 (ix3 (i 0) (i 1) k)) (fun k => V c main_v217 (ix3 (i 0) (i 1) k))
        (halves (fun k => V c main_v47 (ix2 (i 1) k)) (fun s' k => V c main_v215 (ix3 (i 0) s' k)))
        (fun k c' => V c main_v220 (ix2 k c')) (fun k c' => V c main_v223 (ix2 k c')) (i 2))
    (by decide +kernel) (fun t _ y => ?_)) (ix3 b s d)
  idx_vars y
  obtain rfl : y0 = 0 := Subsingleton.elim _ _
  blk_simp
  rw [after10_7]
  refine (point_out (iblk10 V c 0 t) (iblk10 V c 1 t) (iblk10 V c 2 t) (iblk10 V c 3 t) (iblk10 V c 4 t) (iblk10 V c 5 t) (iblk10 V c 6 t) y1 y2).trans ?_
  refine Eq.trans ?_ (congrArg (fun i : S32x2048x1024.Idx => outrow (fun k => V c main_v189 (ix3 (i 0) (i 1) k)) (fun k => V c main_v216 (ix3 (i 0) (i 1) k)) (fun k => V c main_v217 (ix3 (i 0) (i 1) k))
        (halves (fun k => V c main_v47 (ix2 (i 1) k)) (fun s' k => V c main_v215 (ix3 (i 0) s' k)))
        (fun k c' => V c main_v220 (ix2 k c')) (fun k c' => V c main_v223 (ix2 k c')) (i 2)) (emb10_7 t y1 y2)).symm
  simp only [blk10_0, blk10_1, blk10_2, blk10_3, blk10_4, blk10_5, blk10_6]
  rfl

end Cert.KernelIdeal.Value

end
-- ==== Proof.Reg11.lean ====
module

public import proofs.«01_k».proof.Proof.Mlp

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

/-- Where the blocks of the kernel lie. -/
theorem idx11 : ∀ t : Fin cfg11.N, win11_0.index t = ![t.val, 0] ∧ win11_1.index t = ![0, 0] ∧ win11_2.index t = ![0, 0] ∧ win11_3.index t = ![0, 0] ∧ win11_4.index t = ![0, 0] ∧ win11_5.index t = ![t.val, 0] :=
  (by decide +kernel : ∀ t : Fin grid11.N, _)

variable (V : (c : Dev nD) → (b : Ref sig .tc) → Buf (Elt Ideal) ((c : Thread nD τ).loc b)) (c : Dev nD)

/-- A block of the tokens. -/
theorem blk11_0 (t : Fin cfg11.N) (r : Fin 512) (k : Fin 1024) :
    iblk11 V c 0 t (ix2 r k) = V c main_v225 (ix2 (blockRow t r) k) := by
  blk_ext [iblk11, idx11 t, blockRow]

/-- Window 1 holds its whole array. -/
theorem blk11_1 (t : Fin cfg11.N) (k : Fin 1024) :
    iblk11 V c 1 t (ix2 0 k) = V c main_v228 (ix2 0 k) := by
  blk_ext [iblk11, idx11 t]

/-- Window 2 holds its whole array. -/
theorem blk11_2 (t : Fin cfg11.N) (k : Fin 1024) (d : Fin 4096) :
    iblk11 V c 2 t (ix2 k d) = V c main_v231 (ix2 k d) := by
  blk_ext [iblk11, idx11 t]

/-- Window 3 holds its whole array. -/
theorem blk11_3 (t : Fin cfg11.N) (k : Fin 4096) (d : Fin 1024) :
    iblk11 V c 3 t (ix2 k d) = V c main_v234 (ix2 k d) := by
  blk_ext [iblk11, idx11 t]

/-- Window 4 holds its whole array. -/
theorem blk11_4 (t : Fin cfg11.N) (k : Fin 1024) :
    iblk11 V c 4 t (ix2 0 k) = V c main_v48 (ix2 0 k) := by
  blk_ext [iblk11, idx11 t]

/-- Where block `t` of the result lies. -/
theorem emb11_5 (t : Fin cfg11.N) (r : Fin 512) (d : Fin 1024) :
    ((cfg11.win 5).blk t).view.emb (ix2 r d) = ix2 (blockRow t r) d := by
  blk_ext [idx11 t, blockRow]

/-- The tokens after the channel mixing, normed. -/
theorem reg11_mlp (R : Fin 65536) (d : Fin 1024) :
    (dat11 V c).arrAt 5 cfg11.N (ix2 R d)
      = rms (mlprow (fun k => V c main_v225 (ix2 R k)) (fun k => V c main_v228 (ix2 0 k)) (fun k c' => V c main_v231 (ix2 k c')) (fun k c' => V c main_v234 (ix2 k c'))) (fun k => V c main_v48 (ix2 0 k)) d := by
  refine congrFun ((dat11 V c).arrAt_eq_of_covers 5 (fun i => rms (mlprow (fun k => V c main_v225 (ix2 (i 0) k)) (fun k => V c main_v228 (ix2 0 k)) (fun k c' => V c main_v231 (ix2 k c')) (fun k c' => V c main_v234 (ix2 k c'))) (fun k => V c main_v48 (ix2 0 k)) (i 1))
    (by decide +kernel) (fun t _ y => ?_)) (ix2 R d)
  idx_vars y
  blk_simp
  rw [after11_5]
  unfold out11_5
  frame_out
  refine (point_last (iblk11 V c 0 t) (iblk11 V c 1 t) (iblk11 V c 2 t) (iblk11 V c 3 t) (iblk11 V c 4 t) y0 y1).trans ?_
  refine Eq.trans ?_ (congrArg (fun i : S65536x1024.Idx => rms (mlprow (fun k => V c main_v225 (ix2 (i 0) k)) (fun k => V c main_v228 (ix2 0 k)) (fun k c' => V c main_v231 (ix2 k c')) (fun k c' => V c main_v234 (ix2 k c'))) (fun k => V c main_v48 (ix2 0 k)) (i 1)) (emb11_5 t y0 y1)).symm
  simp only [blk11_0, blk11_1, blk11_2, blk11_3, blk11_4]
  rfl

end Cert.KernelIdeal.Value

end
-- ==== Proof.Layer3.lean ====
module

public import proofs.«01_k».proof.Proof.Layer2
public import proofs.«01_k».proof.Proof.Reg9
public import proofs.«01_k».proof.Proof.Reg10
public import proofs.«01_k».proof.Proof.Reg11

@[expose] public section

set_option maxRecDepth 16384
set_option maxHeartbeats 2000000

noncomputable section

namespace Cert.KernelIdeal.Value

open Idealize.ShloMosaic Idealize.ShloMosaic.TcCoe Idealize.SL.Sem Cert.KernelIdeal Cert.KernelIdeal.Gen Cert.Spec

section Host

variable (W : Valuation τ sig (Elt Ideal))

/-- The tokens, row after row. -/
theorem s_v195 (b : Fin 32) (s : Fin 2048) (d : Fin 1024) :
    StableHlo.after hostOps9 W (Proc.devRef .tc main_v195) (ix2 (flat b s) d) = W (Proc.devRef .tc main_v188) (ix2 (flat b s) d) := by
  entry_read
  pointwise [flat]

/-- A row of scales. -/
theorem s_v198 (k : Fin 1024) :
    StableHlo.after hostOps9 W (Proc.devRef .tc main_v198) (ix2 0 k) = W (Proc.devRef .tc main_arg1) (ix2 3 k) := by
  entry_read
  pointwise [flat]

/-- The input projection. -/
theorem s_v201 (k : Fin 1024) (e : Fin 4608) :
    StableHlo.after hostOps9 W (Proc.devRef .tc main_v201) (ix2 k e) = W (Proc.devRef .tc main_arg2) (ix3 3 k e) := by
  entry_read
  pointwise [flat]

/-- A row of scales. -/
theorem s_v204 (k : Fin 1024) :
    StableHlo.after hostOps9 W (Proc.devRef .tc main_v204) (ix2 0 k) = W (Proc.devRef .tc main_arg4) (ix2 3 k) := by
  entry_read
  pointwise [flat]

/-- A row of shifts. -/
theorem s_v207 (k : Fin 1024) :
    StableHlo.after hostOps9 W (Proc.devRef .tc main_v207) (ix2 0 k) = W (Proc.devRef .tc main_arg5) (ix2 3 k) := by
  entry_read
  pointwise [flat]

/-- The spatial mixing matrices. -/
theorem s_v210 (h : Fin 8) (q p : Fin 128) :
    StableHlo.after hostOps9 W (Proc.devRef .tc main_v210) (ix3 h q p) = W (Proc.devRef .tc main_arg6) (ix4 3 h q p) := by
  entry_read
  pointwise [flat]

/-- The bias of a head, over its channels. -/
theorem s_v194 (q : Fin 128) (e : Fin 1024) :
    StableHlo.after hostOps9 W (Proc.devRef .tc main_v194) (ix2 q e) = biasOf (fun h p => W (Proc.devRef .tc main_arg7) (ix3 3 h p)) q e := by
  entry_read
  pointwise [flat]
  rfl

/-- The projection of the spatial mixer. -/
theorem s_v213 (k e : Fin 1024) :
    StableHlo.after hostOps9 W (Proc.devRef .tc main_v213) (ix2 k e) = W (Proc.devRef .tc main_arg8) (ix3 3 k e) := by
  entry_read
  pointwise [flat]

/-- The rows by example. -/
theorem s_v215 (b : Fin 32) (s : Fin 2048) (d : Fin 1024) :
    StableHlo.after hostOps10 W (Proc.devRef .tc main_v215) (ix3 b s d) = W (Proc.devRef .tc main_v214_0) (ix2 (flat b s) d) := by
  entry_read
  pointwise [flat]

/-- The rows by example. -/
theorem s_v216 (b : Fin 32) (s : Fin 2048) (d : Fin 1024) :
    StableHlo.after hostOps10 W (Proc.devRef .tc main_v216) (ix3 b s d) = W (Proc.devRef .tc main_v214_1) (ix2 (flat b s) d) := by
  entry_read
  pointwise [flat]

/-- The rows by example. -/
theorem s_v217 (b : Fin 32) (s : Fin 2048) (d : Fin 1024) :
    StableHlo.after hostOps10 W (Proc.devRef .tc main_v217) (ix3 b s d) = W (Proc.devRef .tc main_v214_2) (ix2 (flat b s) d) := by
  entry_read
  pointwise [flat]

/-- A weight. -/
theorem s_v220 (k : Fin 512) (e : Fin 1024) :
    StableHlo.after hostOps10 W (Proc.devRef .tc main_v220) (ix2 k e) = W (Proc.devRef .tc main_arg3) (ix3 3 k e) := by
  entry_read
  pointwise [flat]

/-- A weight. -/
theorem s_v223 (k e : Fin 1024) :
    StableHlo.after hostOps10 W (Proc.devRef .tc main_v223) (ix2 k e) = W (Proc.devRef .tc main_arg9) (ix3 3 k e) := by
  entry_read
  pointwise [flat]

/-- The rows in one. -/
theorem s_v225 (b : Fin 32) (s : Fin 2048) (d : Fin 1024) :
    StableHlo.after hostOps11 W (Proc.devRef .tc main_v225) (ix2 (flat b s) d) = W (Proc.devRef .tc main_v224) (ix3 b s d) := by
  entry_read
  pointwise [flat]

/-- A row of scales. -/
theorem s_v228 (k : Fin 1024) :
    StableHlo.after hostOps11 W (Proc.devRef .tc main_v228) (ix2 0 k) = W (Proc.devRef .tc main_arg10) (ix2 3 k) := by
  entry_read
  pointwise [flat]

/-- A weight. -/
theorem s_v231 (k : Fin 1024) (e : Fin 4096) :
    StableHlo.after hostOps11 W (Proc.devRef .tc main_v231) (ix2 k e) = W (Proc.devRef .tc main_arg11) (ix3 3 k e) := by
  entry_read
  pointwise [flat]

/-- A weight. -/
theorem s_v234 (k : Fin 4096) (e : Fin 1024) :
    StableHlo.after hostOps11 W (Proc.devRef .tc main_v234) (ix2 k e) = W (Proc.devRef .tc main_arg12) (ix3 3 k e) := by
  entry_read
  pointwise [flat]

/-- The rows by example. -/
theorem s_v236 (b : Fin 32) (s : Fin 2048) (d : Fin 1024) :
    StableHlo.after hostOps12 W (Proc.devRef .tc main_v236) (ix3 b s d) = W (Proc.devRef .tc main_v235) (ix2 (flat b s) d) := by
  entry_read
  pointwise [flat]

end Host

variable (m : (ℓ : Loc nD τ sig) → Buf (Elt Ideal) ℓ) (ρ : Dev nD → PrngReg) (c : Dev nD)

/-- The table of the channels is what it was. -/
theorem keep35_v28 : V35 m ρ c main_v28 = V17 m ρ c main_v28 :=
  ((((((W35_of m ρ c main_v28 (by decide)).trans (W34_of m ρ c main_v28 (by decide))).trans (W33_of m ρ c main_v28 (by decide))).trans (W32_of m ρ c main_v28 (by decide))).trans (W31_of m ρ c main_v28 (by decide))).trans (W30_of m ρ c main_v28 (by decide))).trans (keep29_v28 m ρ c)

/-- The table of the positions is what it was. -/
theorem keep35_v47 : V35 m ρ c main_v47 = V17 m ρ c main_v47 :=
  ((((((W35_of m ρ c main_v47 (by decide)).trans (W34_of m ρ c main_v47 (by decide))).trans (W33_of m ρ c main_v47 (by decide))).trans (W32_of m ρ c main_v47 (by decide))).trans (W31_of m ρ c main_v47 (by decide))).trans (W30_of m ρ c main_v47 (by decide))).trans (keep29_v47 m ρ c)

/-- A token as the layer finds it. -/
theorem row_v195 (b : Fin 32) (s : Fin 2048) : (fun k => V35 m ρ c main_v195 (ix2 (flat b s) k)) = tokens3 m c b s :=
  funext fun k => (s_v195 (W34 m ρ c) b s k).trans (t34_v188 m ρ c b s k)

/-- A weight as the layer finds it. -/
theorem t35_v198 (k : Fin 1024) : V35 m ρ c main_v198 (ix2 0 k) = (weights m c 3).gmix k :=
  (s_v198 (W34 m ρ c) k).trans (congrFun (W34_args m ρ c main_arg1 (by decide)) _)

/-- A weight as the layer finds it. -/
theorem t35_v201 (k : Fin 1024) (e : Fin 4608) : V35 m ρ c main_v201 (ix2 k e) = (weights m c 3).win k e :=
  (s_v201 (W34 m ρ c) k e).trans (congrFun (W34_args m ρ c main_arg2 (by decide)) _)

/-- A weight as the layer finds it. -/
theorem t35_v204 (k : Fin 1024) : V35 m ρ c main_v204 (ix2 0 k) = (weights m c 3).lg k :=
  (s_v204 (W34 m ρ c) k).trans (congrFun (W34_args m ρ c main_arg4 (by decide)) _)

/-- A weight as the layer finds it. -/
theorem t35_v207 (k : Fin 1024) : V35 m ρ c main_v207 (ix2 0 k) = (weights m c 3).lb k :=
  (s_v207 (W34 m ρ c) k).trans (congrFun (W34_args m ρ c main_arg5 (by decide)) _)

/-- A weight as the layer finds it. -/
theorem t35_v210 (h : Fin 8) (q p : Fin 128) : V35 m ρ c main_v210 (ix3 h q p) = (weights m c 3).ws h q p :=
  (s_v210 (W34 m ρ c) h q p).trans (congrFun (W34_args m ρ c main_arg6 (by decide)) _)

/-- A weight as the layer finds it. -/
theorem t35_v213 (k e : Fin 1024) : V35 m ρ c main_v213 (ix2 k e) = (weights m c 3).wb k e :=
  (s_v213 (W34 m ρ c) k e).trans (congrFun (W34_args m ρ c main_arg8 (by decide)) _)

/-- The bias as the layer finds it. -/
theorem t35_v194 (q : Fin 128) (e : Fin 1024) : V35 m ρ c main_v194 (ix2 q e) = biasOf (weights m c 3).bs q e :=
  (s_v194 (W34 m ρ c) q e).trans (congrArg (fun f => biasOf f q e)
    (funext fun h => funext fun p => congrFun (W34_args m ρ c main_arg7 (by decide)) (ix3 3 h p)))

/-- The channels' transforms. -/
theorem t36_pq (b : Fin 32) (s : Fin 2048) (d : Fin 1024) :
    W36 m ρ c (Proc.devRef .tc main_v214_0) (ix2 (flat b s) d)
      = rowdot (arow (weights m c 3) (tokens3 m c b s)) (fun k c' => V35 m ρ c main_v28 (ix2 k c')) d := by
  refine (congrFun (W36_arr m ρ c 9) (ix2 (flat b s) d)).trans ?_
  refine (reg9_pq (V35 m ρ) c (weights m c 3) (t35_v198 m ρ c) (t35_v201 m ρ c) (flat b s) d).trans ?_
  rw [row_v195]

/-- The gate of the Fourier mixer. -/
theorem t36_ga (b : Fin 32) (s : Fin 2048) (d : Fin 1024) :
    W36 m ρ c (Proc.devRef .tc main_v214_1) (ix2 (flat b s) d) = garow (weights m c 3) (tokens3 m c b s) d := by
  refine (congrFun (W36_arr m ρ c 10) (ix2 (flat b s) d)).trans ?_
  refine (reg9_ga (V35 m ρ) c (weights m c 3) (t35_v198 m ρ c) (t35_v201 m ρ c) (flat b s) d).trans ?_
  rw [row_v195]

/-- The spatial mixer, gated. -/
theorem t36_mb (b : Fin 32) (s : Fin 2048) (d : Fin 1024) :
    W36 m ρ c (Proc.devRef .tc main_v214_2) (ix2 (flat b s) d)
      = mbrow (weights m c 3) (fun p => tokens3 m c b ⟨128 * (s / 128) + p, by omega⟩) ⟨s % 128, by omega⟩ d := by
  refine (congrFun (W36_arr m ρ c 11) (ix2 (flat b s) d)).trans ?_
  refine (reg9_mb (V35 m ρ) c (weights m c 3) (t35_v198 m ρ c) (t35_v201 m ρ c) (t35_v204 m ρ c) (t35_v207 m ρ c)
    (t35_v210 m ρ c) (t35_v194 m ρ c) (t35_v213 m ρ c) (flat b s) d).trans ?_
  have h : (fun p k => V35 m ρ c main_v195 (ix2 (chunkRow (flat b s) p) k))
      = fun p : Fin 128 => tokens3 m c b ⟨128 * (s / 128) + p, by omega⟩ := by
    funext p
    rw [chunkRow_flat]
    exact row_v195 m ρ c b _
  rw [h, chunkPos_flat]

/-- The tokens after the two mixers. -/
theorem t38_v224 (b : Fin 32) (s : Fin 2048) (d : Fin 1024) :
    W38 m ρ c (Proc.devRef .tc main_v224) (ix3 b s d) = mixed (weights m c 3) (tokens3 m c) b s d := by
  refine (congrFun (W38_arr m ρ c 7) (ix3 b s d)).trans ?_
  refine (reg10_out (V37 m ρ) c b s d).trans ?_
  have e47 : ∀ k, V37 m ρ c main_v47 (ix2 s k) = V17 m ρ c main_v47 (ix2 s k) := fun k =>
    congrFun (((W37_of m ρ c main_v47 (by decide)).trans (W36_of m ρ c main_v47 (by decide))).trans (keep35_v47 m ρ c)) (ix2 s k)
  exact mixed_of (weights m c 3) (tokens3 m c) b s d _ _ _ _ _ (fun k c' => V35 m ρ c main_v28 (ix2 k c')) _ _
    (fun k => (congrFun ((W37_of m ρ c main_v189 (by decide)).trans (W36_of m ρ c main_v189 (by decide))) (ix3 b s k)).trans (t35_v189 m ρ c b s k))
    (fun k => (s_v216 (W36 m ρ c) b s k).trans (t36_ga m ρ c b s k))
    (fun k => (s_v217 (W36 m ρ c) b s k).trans (t36_mb m ρ c b s k))
    (fun k e => (s_v220 (W36 m ρ c) k e).trans (congrFun (W36_args m ρ c main_arg3 (by decide)) _))
    (fun k e => (s_v223 (W36 m ρ c) k e).trans (congrFun (W36_args m ρ c main_arg9 (by decide)) _))
    (fun k => (e47 _).trans (t17_v47_lo m ρ c s k)) (fun k => (e47 _).trans (t17_v47_hi m ρ c s k))
    (fun i k => (s_v215 (W36 m ρ c) b i k).trans (t36_pq m ρ c b i k))
    (fun i j => (congrFun (keep35_v28 m ρ c) _).trans (t17_v28_lo m ρ c i j)) (fun i j => (congrFun (keep35_v28 m ρ c) _).trans (t17_v28_hi m ρ c i j))

/-- The row of the final norm is what it was. -/
theorem keep39_v48 : V39 m ρ c main_v48 = V17 m ρ c main_v48 :=
  (((((((((((((((((((((W39_of m ρ c main_v48 (by decide)).trans (W38_of m ρ c main_v48 (by decide))).trans (W37_of m ρ c main_v48 (by decide))).trans (W36_of m ρ c main_v48 (by decide))).trans (W35_of m ρ c main_v48 (by decide))).trans (W34_of m ρ c main_v48 (by decide))).trans (W33_of m ρ c main_v48 (by decide))).trans (W32_of m ρ c main_v48 (by decide))).trans (W31_of m ρ c main_v48 (by decide))).trans (W30_of m ρ c main_v48 (by decide))).trans (W29_of m ρ c main_v48 (by decide))).trans (W28_of m ρ c main_v48 (by decide))).trans (W27_of m ρ c main_v48 (by decide))).trans (W26_of m ρ c main_v48 (by decide))).trans (W25_of m ρ c main_v48 (by decide))).trans (W24_of m ρ c main_v48 (by decide))).trans (W23_of m ρ c main_v48 (by decide))).trans (W22_of m ρ c main_v48 (by decide))).trans (W21_of m ρ c main_v48 (by decide))).trans (W20_of m ρ c main_v48 (by decide))).trans (W19_of m ρ c main_v48 (by decide))).trans (W18_of m ρ c main_v48 (by decide))

/-- The tokens after the layer, normed. -/
theorem t40_v235 (b : Fin 32) (s : Fin 2048) (d : Fin 1024) :
    W40 m ρ c (Proc.devRef .tc main_v235) (ix2 (flat b s) d) = model (weights m c) (fun k => inp m c main_arg13 (ix1 k)) (tokens m c) b s d := by
  refine (congrFun (W40_arr m ρ c 5) (ix2 (flat b s) d)).trans ?_
  refine (reg11_mlp (V39 m ρ) c (flat b s) d).trans ?_
  have e0 : (fun k => V39 m ρ c main_v225 (ix2 (flat b s) k)) = mixed (weights m c 3) (tokens3 m c) b s :=
    funext fun k => (s_v225 (W38 m ρ c) b s k).trans (t38_v224 m ρ c b s k)
  have e1 : (fun k => V39 m ρ c main_v228 (ix2 0 k)) = (weights m c 3).gmlp :=
    funext fun k => (s_v228 (W38 m ρ c) k).trans (congrFun (W38_args m ρ c main_arg10 (by decide)) _)
  have e2 : (fun k c' => V39 m ρ c main_v231 (ix2 k c')) = (weights m c 3).wup :=
    funext fun k => funext fun e => (s_v231 (W38 m ρ c) k e).trans (congrFun (W38_args m ρ c main_arg11 (by decide)) _)
  have e3 : (fun k c' => V39 m ρ c main_v234 (ix2 k c')) = (weights m c 3).wdown :=
    funext fun k => funext fun e => (s_v234 (W38 m ρ c) k e).trans (congrFun (W38_args m ρ c main_arg12 (by decide)) _)
  have e4 : (fun k => V39 m ρ c main_v48 (ix2 0 k)) = fun k => inp m c main_arg13 (ix1 k) :=
    funext fun k => (congrFun (keep39_v48 m ρ c) (ix2 0 k)).trans
      ((s_v48 (W16 m ρ c) k).trans (congrFun (W16_args m ρ c main_arg13 (by decide)) (ix1 k)))
  rw [e0, e1, e2, e3, e4]
  rfl

/-- The tokens after the layer, normed, by example. -/
theorem t41_v236 (b : Fin 32) (s : Fin 2048) (d : Fin 1024) :
    W41 m ρ c (Proc.devRef .tc main_v236) (ix3 b s d) = model (weights m c) (fun k => inp m c main_arg13 (ix1 k)) (tokens m c) b s d :=
  (s_v236 (W40 m ρ c) b s d).trans (t40_v235 m ρ c b s d)

end Cert.KernelIdeal.Value

end
-- ==== Proof.RefLayer.lean ====
module

public import proofs.«01_k».proof.Proof.Words
public import proofs.«01_k».proof.Proof.Gen.ReferenceIdeal.Read
public import Idealize.ShloMosaic.Lib.Claim
public import Idealize.ShloMosaic.Lib.Pointwise

@[expose] public section

set_option maxRecDepth 16384
set_option maxHeartbeats 2000000

noncomputable section

namespace Cert.ReferenceIdeal.Value

open Idealize.ShloMosaic Idealize.ShloMosaic.TcCoe Idealize.SL.Sem Cert.ReferenceIdeal Cert.ReferenceIdeal.Gen Cert.ReferenceIdeal.Read Cert.Spec

/-- The products of two numbers modulo 64. -/
theorem r_v6 (i j : Fin 64) : val_main_v6 (F := Ideal) (ix2 i j) = BitVec.ofNat 32 (i * j % 64) := by
  have ha : i.val * j.val < 2 ^ 31 := by
    have := Nat.mul_lt_mul'' i.isLt j.isLt
    omega
  have h : val_main_v5 (F := Ideal) (ix2 i j) = BitVec.ofNat 32 (i * j) := by
    pointwise [val_main_v0, val_main_v1, val_main_v2, val_main_v3, val_main_v4, val_main_v5, hlo_ix]
    exact (BitVec.ofNat_mul ..).symm
  pointwise [val_main_v6, val_main_call0_v0, val_main_call0_c, val_main_call0_v1, val_main_call0_c_0, val_main_call0_v2, val_main_call0_v3, val_main_call0_v4, val_main_call0_c_1, val_main_call0_v5, val_main_call0_v6, val_main_call0_c_2, val_main_call0_v7, val_main_call0_v8, val_main_call0_c_3, val_main_call0_v9, val_main_call0_v10, val_main_call0_v11, val_main_call0_v12, val_main_call0_v13, val_main_call0_v14, val_main_c, h, hlo_ix]
  have e : (if (id (constantI S_ 32 64#32) ix0 : BitVec 32).toNat = 0 then 1#32 else id (constantI S_ 32 64#32) ix0) = BitVec.ofNat 32 64 := rfl
  simp only [e]
  rw [rem_word _ _ ha (by omega) (by omega), rem_sign _ _ (by omega) (by omega)]
  exact if_neg fun h => h.1 rfl

/-- The products of two numbers modulo 2048. -/
theorem r_v22 (i j : Fin 2048) : val_main_v22 (F := Ideal) (ix2 i j) = BitVec.ofNat 32 (i * j % 2048) := by
  have ha : i.val * j.val < 2 ^ 31 := by
    have := Nat.mul_lt_mul'' i.isLt j.isLt
    omega
  have h : val_main_v21 (F := Ideal) (ix2 i j) = BitVec.ofNat 32 (i * j) := by
    pointwise [val_main_v16, val_main_v17, val_main_v18, val_main_v19, val_main_v20, val_main_v21, hlo_ix]
    exact (BitVec.ofNat_mul ..).symm
  pointwise [val_main_v22, val_main_call1_v0, val_main_call1_c, val_main_call1_v1, val_main_call1_c_0, val_main_call1_v2, val_main_call1_v3, val_main_call1_v4, val_main_call1_c_1, val_main_call1_v5, val_main_call1_v6, val_main_call1_c_2, val_main_call1_v7, val_main_call1_v8, val_main_call1_c_3, val_main_call1_v9, val_main_call1_v10, val_main_call1_v11, val_main_call1_v12, val_main_call1_v13, val_main_call1_v14, val_main_c_2, h, hlo_ix]
  have e : (if (id (constantI S_ 32 2048#32) ix0 : BitVec 32).toNat = 0 then 1#32 else id (constantI S_ 32 2048#32) ix0) = BitVec.ofNat 32 2048 := rfl
  simp only [e]
  rw [rem_word _ _ ha (by omega) (by omega), rem_sign _ _ (by omega) (by omega)]
  exact if_neg fun h => h.1 rfl

/-- The cosine table of the channels. -/
theorem r_v12 (i j : Fin 64) : val_main_v12 (F := Ideal) (ix2 i j) = cosC i j := by
  have hm : i.val * j.val % 64 < 2 ^ (32 - 1) := by
    have := Nat.mod_lt (i.val * j.val) (show 0 < 64 by omega)
    omega
  pointwise [val_main_v12, val_main_v11, val_main_cst_0, val_main_v10, val_main_v9, val_main_v8, val_main_cst, val_main_v7, r_v6, cosC, angle, lit]
  rw [word_real _ hm, mul_comm (((_ : ℝ) : EReal))]

/-- The sine table of the channels. -/
theorem r_v15 (i j : Fin 64) : val_main_v15 (F := Ideal) (ix2 i j) = sinC i j := by
  have hm : i.val * j.val % 64 < 2 ^ (32 - 1) := by
    have := Nat.mod_lt (i.val * j.val) (show 0 < 64 by omega)
    omega
  pointwise [val_main_v15, val_main_v14, val_main_cst_1, val_main_v13, val_main_v9, val_main_v8, val_main_cst, val_main_v7, r_v6, sinC, angle, lit]
  rw [word_real _ hm, mul_comm (((_ : ℝ) : EReal))]

/-- The cosine table of the positions. -/
theorem r_v28 (i j : Fin 2048) : val_main_v28 (F := Ideal) (ix2 i j) = cosS i j := by
  have hm : i.val * j.val % 2048 < 2 ^ (32 - 1) := by
    have := Nat.mod_lt (i.val * j.val) (show 0 < 2048 by omega)
    omega
  pointwise [val_main_v28, val_main_v27, val_main_cst_4, val_main_v26, val_main_v25, val_main_v24, val_main_cst_3, val_main_v23, r_v22, cosS, angle, lit]
  rw [word_real _ hm, mul_comm (((_ : ℝ) : EReal))]

/-- The sine table of the positions, with the other sign. -/
theorem r_v106 (i j : Fin 2048) : val_main_v106 (F := Ideal) (ix2 i j) = nsinS i j := by
  have hm : i.val * j.val % 2048 < 2 ^ (32 - 1) := by
    have := Nat.mod_lt (i.val * j.val) (show 0 < 2048 by omega)
    omega
  pointwise [val_main_v106, val_main_v31, val_main_v30, val_main_cst_5, val_main_v29, val_main_v25, val_main_v24, val_main_cst_3, val_main_v23, r_v22, nsinS, angle, lit]
  rw [word_real _ hm, mul_comm (((_ : ℝ) : EReal)), EReal.neg_mul]

/-- An array of numbers. -/
abbrev Arr (S : Shape) : Type := FVec Ideal S .f32

/-- The mean of every row. -/
def meanA (x : Arr S32x2048x1024) : Arr S32x2048x1 :=
  Host.divf (broadcastInDim S32x2048x1 ![0, 1] bcast_S32x2048_S32x2048x1_0_1
      (Host.reduceAdd x (constant S_ .f32 0x00000000#32) reducesTo_S32x2048x1024_S32x2048_d2 h_S_))
    (broadcastInDim S32x2048x1 ![] bcast_S_S32x2048x1 (constant S_ .f32 0x44800000#32))

/-- Every row times the reciprocal root of its mean square. -/
def scaledA (x : Arr S32x2048x1024) : Arr S32x2048x1024 :=
  mulf x (broadcastInDim S32x2048x1024 ![0, 1, 2] bcast_S32x2048x1_S32x2048x1024_0_1_2
    (Host.rsqrt (addf (meanA (mulf x x)) (broadcastInDim S32x2048x1 ![] bcast_S_S32x2048x1 (constant S_ .f32 0x358637BD#32)))))

/-- One row, for every token. -/
def rowA (g : Arr S1024) : Arr S32x2048x1024 :=
  broadcastInDim S32x2048x1024 ![0, 1, 2] bcast_S1x1x1024_S32x2048x1024_0_1_2 (broadcastInDim S1x1x1024 ![2] bcast_S1024_S1x1x1024_2 g)

/-- The root-mean-square norm. -/
def rmsA (x : Arr S32x2048x1024) (g : Arr S1024) : Arr S32x2048x1024 := mulf (scaledA x) (rowA g)

/-- The rows less their means. -/
def centredA (v : Arr S32x2048x1024) : Arr S32x2048x1024 :=
  subf v (broadcastInDim S32x2048x1024 ![0, 1, 2] bcast_S32x2048x1_S32x2048x1024_0_1_2 (meanA v))

/-- The layer norm. -/
def lnormA (v : Arr S32x2048x1024) (g b : Arr S1024) : Arr S32x2048x1024 := addf (mulf (scaledA (centredA v)) (rowA g)) (rowA b)

/-- The input projection. -/
def projA (X : Arr S32x2048x1024) (g : Arr S1024) (w : Arr S1024x4608) : Arr S32x2048x4608 :=
  Host.dotGeneral dot_S32x2048x1024_S1024x4608_S32x2048x4608_2_0_01_1_n_n none (rmsA X g) w

/-- A number for every one of the columns that the spatial mixer takes. -/
def fillA (w : BitVec 32) : Arr S32x2048x2048 := broadcastInDim S32x2048x2048 ![] bcast_S_S32x2048x2048 (constant S_ .f32 w)

/-- The Gaussian error linear unit of the columns that the spatial mixer takes. -/
def geluA (z : Arr S32x2048x2048) : Arr S32x2048x2048 :=
  mulf z (mulf (fillA 0x3F000000#32) (addf (fillA 0x3F800000#32)
    (Host.tanh (mulf (fillA 0x3F4C422A#32) (addf z (mulf (fillA 0x3D372713#32) (mulf (mulf z z) z)))))))

/-- The gated columns. -/
def uvA (z : Arr S32x2048x4608) : Arr S32x2048x2048 :=
  geluA (extractStridedSlice S32x2048x2048 ![0, 0, 512] z slices_S32x2048x4608_S32x2048x2048_0_0_512)

/-- The columns that the spatial mixer multiplies by. -/
def uA (z : Arr S32x2048x4608) : Arr S32x2048x1024 :=
  extractStridedSlice S32x2048x1024 ![0, 0, 0] (uvA z) slices_S32x2048x2048_S32x2048x1024_0_0_0

/-- The columns that the spatial mixer mixes. -/
def vA (z : Arr S32x2048x4608) : Arr S32x2048x1024 :=
  extractStridedSlice S32x2048x1024 ![0, 0, 1024] (uvA z) slices_S32x2048x2048_S32x2048x1024_0_0_1024

/-- The logistic function. -/
def sigmA (z : Arr S32x2048x1024) : Arr S32x2048x1024 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf z)))

/-- The gate of the Fourier mixer. -/
def gaA (z : Arr S32x2048x4608) : Arr S32x2048x1024 :=
  sigmA (extractStridedSlice S32x2048x1024 ![0, 0, 2560] z slices_S32x2048x4608_S32x2048x1024_0_0_2560)

/-- The gate of the spatial mixer. -/
def gbA (z : Arr S32x2048x4608) : Arr S32x2048x1024 :=
  sigmA (extractStridedSlice S32x2048x1024 ![0, 0, 3584] z slices_S32x2048x4608_S32x2048x1024_0_0_3584)

/-- The columns of the Fourier mixer, group by group. -/
def groupsA (z : Arr S32x2048x4608) : Arr S32x2048x8x64 :=
  shapeCast S32x2048x8x64 (extractStridedSlice S32x2048x512 ![0, 0, 0] z slices_S32x2048x4608_S32x2048x512_0_0_0) shapeCasts_S32x2048x512_S32x2048x8x64

/-- The columns of the Fourier mixer times a table of the channels. -/
def chanA (z : Arr S32x2048x4608) (T : Arr S64x64) : Arr S32x2048x8x64 :=
  Host.dotGeneral dot_S32x2048x8x64_S64x64_S32x2048x8x64_3_0_012_1_n_n none (groupsA z) T

/-- A table of the positions times an array. -/
def seqA (p : Arr S32x2048x8x64) (T : Arr S2048x2048) : Arr S32x2048x8x64 :=
  transpose S32x2048x8x64 [0, 3, 1, 2] (Host.dotGeneral dot_S32x2048x8x64_S2048x2048_S32x8x64x2048_1_1_023_0_n_n none p T)
    transposes_S32x8x64x2048_S32x2048x8x64_0_3_1_2

/-- The Fourier mixer. -/
def fourierA (z : Arr S32x2048x4608) : Arr S32x2048x512 :=
  shapeCast S32x2048x512 (addf (seqA (chanA z (val_main_v12 (F := Ideal))) (val_main_v28 (F := Ideal))) (seqA (chanA z (val_main_v15 (F := Ideal))) (val_main_v106 (F := Ideal))))
    shapeCasts_S32x2048x8x64_S32x2048x512

/-- The rows by chunk and head. -/
def chunksA (v : Arr S32x2048x1024) : Arr S32x16x128x8x128 := shapeCast S32x16x128x8x128 v shapeCasts_S32x2048x1024_S32x16x128x8x128

/-- The mixing of every chunk. -/
def mixChunksA (v : Arr S32x2048x1024) (ws : Arr S8x128x128) (bs : Arr S8x128) : Arr S32x16x128x8x128 :=
  addf (transpose S32x16x128x8x128 [1, 2, 4, 0, 3]
      (Host.dotGeneral dot_S32x16x128x8x128_S8x128x128_S8x32x16x128x128_2_2_014_1_3_0 none (chunksA v) ws)
      transposes_S8x32x16x128x128_S32x16x128x8x128_1_2_4_0_3)
    (broadcastInDim S32x16x128x8x128 ![0, 1, 2, 3, 4] bcast_S1x1x128x8x1_S32x16x128x8x128_0_1_2_3_4
      (broadcastInDim S1x1x128x8x1 ![2, 3] bcast_S128x8_S1x1x128x8x1_2_3 (transpose S128x8 [1, 0] bs transposes_S8x128_S128x8_1_0)))

/-- The mixed rows. -/
def mixA (v : Arr S32x2048x1024) (ws : Arr S8x128x128) (bs : Arr S8x128) : Arr S32x2048x1024 :=
  shapeCast S32x2048x1024 (mixChunksA v ws bs) shapeCasts_S32x16x128x8x128_S32x2048x1024

/-- A product with a square matrix. -/
def dotA (x : Arr S32x2048x1024) (w : Arr S1024x1024) : Arr S32x2048x1024 :=
  Host.dotGeneral dot_S32x2048x1024_S1024x1024_S32x2048x1024_2_0_01_1_n_n none x w

/-- The arrays of one layer's weights. -/
structure Slices where
  g1 : Arr S1024
  win : Arr S1024x4608
  wa : Arr S512x1024
  lg : Arr S1024
  lb : Arr S1024
  ws : Arr S8x128x128
  bs : Arr S8x128
  wb : Arr S1024x1024
  wout : Arr S1024x1024
  g2 : Arr S1024
  wup : Arr S1024x4096
  wdown : Arr S4096x1024

/-- The weights that the arrays hold. -/
def Slices.weights (A : Slices) : Weights where
  gmix k := A.g1 (ix1 k)
  win k e := A.win (ix2 k e)
  wa k e := A.wa (ix2 k e)
  lg k := A.lg (ix1 k)
  lb k := A.lb (ix1 k)
  ws h q p := A.ws (ix3 h q p)
  bs h q := A.bs (ix2 h q)
  wb k e := A.wb (ix2 k e)
  wout k e := A.wout (ix2 k e)
  gmlp k := A.g2 (ix1 k)
  wup k e := A.wup (ix2 k e)
  wdown k e := A.wdown (ix2 k e)

/-- The tokens that an array holds. -/
def tokens (X : Arr S32x2048x1024) : Seqs := fun b s k => X (ix3 b s k)

variable (A : Slices) (X : Arr S32x2048x1024)

/-- The input projection of a layer. -/
def zA : Arr S32x2048x4608 := projA X A.g1 A.win

/-- The spatial mixer, gated. -/
def mbA : Arr S32x2048x1024 :=
  mulf (gbA (zA A X)) (dotA (mulf (uA (zA A X)) (mixA (lnormA (vA (zA A X)) A.lg A.lb) A.ws A.bs)) A.wb)

/-- The tokens after the two mixers. -/
def mixedA : Arr S32x2048x1024 :=
  addf X (dotA (addf (mulf (gaA (zA A X)) (Host.dotGeneral dot_S32x2048x512_S512x1024_S32x2048x1024_2_0_01_1_n_n none (fourierA (zA A X)) A.wa))
    (mbA A X)) A.wout)

/-- The hidden units of the channel mixing. -/
def hiddenA (x : Arr S32x2048x1024) : Arr S32x2048x4096 :=
  maximumf (Host.dotGeneral dot_S32x2048x1024_S1024x4096_S32x2048x4096_2_0_01_1_n_n none (rmsA x A.g2) A.wup)
    (broadcastInDim S32x2048x4096 ![] bcast_S_S32x2048x4096 (constant S_ .f32 0x00000000#32))

/-- The channel mixing. -/
def mlpA (x : Arr S32x2048x1024) : Arr S32x2048x1024 :=
  addf x (Host.dotGeneral dot_S32x2048x4096_S4096x1024_S32x2048x1024_2_0_01_1_n_n none (mulf (hiddenA A x) (hiddenA A x)) A.wdown)

/-- One layer, as the reference computes it. -/
def layerA : Arr S32x2048x1024 := mlpA A (mixedA A X)

/-- The normed tokens. -/
theorem rmsA_apply (x : Arr S32x2048x1024) (g : Arr S1024) (b : Fin 32) (s : Fin 2048) (d : Fin 1024) :
    rmsA x g (ix3 b s d) = rms (fun k => x (ix3 b s k)) (fun k => g (ix1 k)) d := by
  pointwise [rmsA, scaledA, meanA, rowA, rms, rscale, lit]

/-- The input projection. -/
theorem zA_apply (b : Fin 32) (s : Fin 2048) (e : Fin 4608) :
    zA A X (ix3 b s e) = rowdot (rms (tokens X b s) A.weights.gmix) A.weights.win e := by
  pointwise [zA, projA, rmsA_apply, rowdot]
  rfl

/-- The gate's function as the reference writes it. -/
theorem gelu_eq (z : EReal) : z * (lit 0x3F000000#32 * (lit 0x3F800000#32 + Ideal.tanh (lit 0x3F4C422A#32 * (z + lit 0x3D372713#32 * (z * z * z)))))
    = gelu z := by
  unfold gelu
  rw [mul_left_comm]
  exact (mul_assoc ..).symm

/-- The columns that the spatial mixer multiplies by. -/
theorem uA_apply (b : Fin 32) (s : Fin 2048) (d : Fin 1024) :
    uA (zA A X) (ix3 b s d) = urow A.weights (tokens X b s) d := by
  refine Eq.trans ?_ (congrArg gelu (zA_apply A X b s ⟨512 + d, by omega⟩))
  rw [← gelu_eq]
  pointwise [uA, uvA, geluA, fillA, lit]

/-- The columns that the spatial mixer mixes. -/
theorem vA_apply (b : Fin 32) (s : Fin 2048) (d : Fin 1024) :
    vA (zA A X) (ix3 b s d) = gelu (rowdot (rms (tokens X b s) A.weights.gmix) (cols 1536 (by decide) A.weights.win) d) := by
  refine Eq.trans ?_ (congrArg gelu (zA_apply A X b s ⟨1536 + d, by omega⟩))
  rw [← gelu_eq]
  have e : (⟨512 + (1024 + d), by omega⟩ : Fin 4608) = ⟨1536 + d, by omega⟩ := Fin.ext (by show 512 + (1024 + d.val) = 1536 + d.val; omega)
  rw [← e]
  pointwise [vA, uvA, geluA, fillA, lit]

/-- A gate. -/
theorem gaA_apply (b : Fin 32) (s : Fin 2048) (d : Fin 1024) :
    gaA (zA A X) (ix3 b s d) = garow A.weights (tokens X b s) d := by
  refine Eq.trans ?_ (congrArg sigm (zA_apply A X b s ⟨2560 + d, by omega⟩))
  pointwise [gaA, sigmA, sigm, lit]

/-- A gate. -/
theorem gbA_apply (b : Fin 32) (s : Fin 2048) (d : Fin 1024) :
    gbA (zA A X) (ix3 b s d) = gbrow A.weights (tokens X b s) d := by
  refine Eq.trans ?_ (congrArg sigm (zA_apply A X b s ⟨3584 + d, by omega⟩))
  pointwise [gbA, sigmA, sigm, lit]

/-- The columns group by group. -/
theorem groupsA_apply (b : Fin 32) (s : Fin 2048) (g : Fin 8) (e : Fin 64) :
    groupsA (zA A X) (ix4 b s g e) = arow A.weights (tokens X b s) (⟨64 * g + e, by omega⟩ : Fin 512) := by
  refine Eq.trans ?_ (zA_apply A X b s ⟨0 + (64 * g + e), by omega⟩)
  pointwise [groupsA]
  simp only [Nat.mul_comm, Nat.zero_add]

/-- The transform of the channels. -/
theorem chanA_apply (T : Arr S64x64) (b : Fin 32) (s : Fin 2048) (g : Fin 8) (e : Fin 64) :
    chanA (zA A X) T (ix4 b s g e) = ∑ k : Fin 64, arow A.weights (tokens X b s) (⟨64 * g + k, by omega⟩ : Fin 512) * T (ix2 k e) := by
  pointwise [chanA, groupsA_apply]

/-- The transform of the positions. -/
theorem seqA_apply (p : Arr S32x2048x8x64) (T : Arr S2048x2048) (b : Fin 32) (s : Fin 2048) (g : Fin 8) (e : Fin 64) :
    seqA p T (ix4 b s g e) = ∑ t : Fin 2048, T (ix2 s t) * p (ix4 b t g e) := by
  pointwise [seqA]
  exact Finset.sum_congr rfl fun t _ => mul_comm _ _

/-- The Fourier mixer. -/
theorem fourierA_apply (b : Fin 32) (s : Fin 2048) (d : Fin 512) :
    fourierA (zA A X) (ix3 b s d) = yrow (fun t => group64 (arow A.weights (tokens X b t)) cosC) (fun t => group64 (arow A.weights (tokens X b t)) sinC) s d := by
  have h : fourierA (zA A X) (ix3 b s d) = seqA (chanA (zA A X) (val_main_v12 (F := Ideal))) (val_main_v28 (F := Ideal)) (ix4 b s (⟨d / 64, by omega⟩ : Fin 8) (⟨d % 64, by omega⟩ : Fin 64))
      + seqA (chanA (zA A X) (val_main_v15 (F := Ideal))) (val_main_v106 (F := Ideal)) (ix4 b s (⟨d / 64, by omega⟩ : Fin 8) (⟨d % 64, by omega⟩ : Fin 64)) := by
    pointwise [fourierA]
  rw [h, seqA_apply, seqA_apply]
  unfold yrow
  simp only [chanA_apply, r_v12, r_v15, r_v28, r_v106]
  rfl

/-- The rows less their means. -/
theorem centredA_apply (v : Arr S32x2048x1024) (b : Fin 32) (s : Fin 2048) (d : Fin 1024) :
    centredA v (ix3 b s d) = centred (fun e => v (ix3 b s e)) d := by
  pointwise [centredA, meanA, centred, lit]

/-- The layer norm. -/
theorem lnormA_apply (v : Arr S32x2048x1024) (g h : Arr S1024) (b : Fin 32) (s : Fin 2048) (d : Fin 1024) :
    lnormA v g h (ix3 b s d) = lnorm (fun e => v (ix3 b s e)) (fun k => g (ix1 k)) (fun k => h (ix1 k)) d := by
  pointwise [lnormA, scaledA, meanA, rowA, centredA_apply, lnorm, rscale, lit]

/-- The rows by chunk and head. -/
theorem chunksA_apply (v : Arr S32x2048x1024) (b : Fin 32) (n : Fin 16) (p : Fin 128) (h : Fin 8) (e : Fin 128) :
    chunksA v (ix5 b n p h e) = v (ix3 b ⟨128 * n + p, by omega⟩ ⟨128 * h + e, by omega⟩) := by
  pointwise [chunksA]
  simp only [Nat.mul_comm]

/-- The mixing of a chunk. -/
theorem mixChunksA_apply (v : Arr S32x2048x1024) (ws : Arr S8x128x128) (bs : Arr S8x128) (b : Fin 32) (n : Fin 16) (q : Fin 128) (h : Fin 8) (e : Fin 128) :
    mixChunksA v ws bs (ix5 b n q h e) = (∑ p : Fin 128, chunksA v (ix5 b n p h e) * ws (ix3 h q p)) + bs (ix2 h q) := by
  pointwise [mixChunksA]

/-- The mixed rows. -/
theorem mixA_apply (v : Arr S32x2048x1024) (ws : Arr S8x128x128) (bs : Arr S8x128) (b : Fin 32) (s : Fin 2048) (d : Fin 1024) :
    mixA v ws bs (ix3 b s d) = mix (fun h q p => ws (ix3 h q p)) (biasOf fun h q => bs (ix2 h q))
      (fun p e => v (ix3 b (⟨128 * (s / 128) + p, by omega⟩ : Fin 2048) e)) ⟨s % 128, by omega⟩ d := by
  have h : mixA v ws bs (ix3 b s d) = mixChunksA v ws bs (ix5 b (⟨s / 128, by omega⟩ : Fin 16) (⟨s % 128, by omega⟩ : Fin 128) (⟨d / 128, by omega⟩ : Fin 8) (⟨d % 128, by omega⟩ : Fin 128)) := by
    pointwise [mixA]
  rw [h, mixChunksA_apply]
  unfold mix biasOf
  refine congrArg (· + _) (Finset.sum_congr rfl fun p _ => ?_)
  rw [chunksA_apply, mul_comm]
  congr 3
  apply Fin.ext
  show 128 * (d.val / 128) + d.val % 128 = d.val
  omega

/-- A product with a square matrix. -/
theorem dotA_apply (x : Arr S32x2048x1024) (w : Arr S1024x1024) (b : Fin 32) (s : Fin 2048) (d : Fin 1024) :
    dotA x w (ix3 b s d) = rowdot (fun e => x (ix3 b s e)) (fun k e => w (ix2 k e)) d := by
  pointwise [dotA, rowdot]

/-- A position is the one of its chunk and its place there. -/
theorem pos_eq (s : Fin 2048) : (⟨128 * (s / 128) + (⟨s % 128, by omega⟩ : Fin 128), by omega⟩ : Fin 2048) = s := by
  apply Fin.ext
  show 128 * (s.val / 128) + s.val % 128 = s.val
  omega

/-- The spatial mixer, gated. -/
theorem mbA_apply (b : Fin 32) (s : Fin 2048) (d : Fin 1024) :
    mbA A X (ix3 b s d) = mbrow A.weights (fun p : Fin 128 => tokens X b (⟨128 * (s / 128) + p, by omega⟩ : Fin 2048)) ⟨s % 128, by omega⟩ d := by
  have h0 : mbA A X (ix3 b s d) = gbA (zA A X) (ix3 b s d)
      * dotA (mulf (uA (zA A X)) (mixA (lnormA (vA (zA A X)) A.lg A.lb) A.ws A.bs)) A.wb (ix3 b s d) := rfl
  have hs : (fun p : Fin 128 => tokens X b (⟨128 * (s / 128) + p, by omega⟩ : Fin 2048)) (⟨s % 128, by omega⟩ : Fin 128) = tokens X b s :=
    congrArg (tokens X b) (pos_eq s)
  have hu : (fun e => mulf (uA (zA A X)) (mixA (lnormA (vA (zA A X)) A.lg A.lb) A.ws A.bs) (ix3 b s e))
      = fun e => urow A.weights (tokens X b s) e * mix A.weights.ws (biasOf A.weights.bs)
          (fun p : Fin 128 => vrow A.weights (tokens X b (⟨128 * (s / 128) + p, by omega⟩ : Fin 2048))) ⟨s % 128, by omega⟩ e := by
    funext e
    refine congrArg₂ (· * ·) (uA_apply A X b s e) ((mixA_apply _ _ _ b s e).trans ?_)
    refine congrArg (fun vn => mix A.weights.ws (biasOf A.weights.bs) vn ⟨s % 128, by omega⟩ e) ?_
    funext p f
    rw [lnormA_apply]
    simp only [vA_apply]
    rfl
  unfold mbrow
  rw [h0, hs, gbA_apply, dotA_apply, hu]
  rfl

/-- The tokens after the two mixers. -/
theorem mixedA_apply (b : Fin 32) (s : Fin 2048) (d : Fin 1024) :
    mixedA A X (ix3 b s d) = mixed A.weights (tokens X) b s d := by
  have h : mixedA A X (ix3 b s d) = outrow (tokens X b s) (fun e => gaA (zA A X) (ix3 b s e)) (fun e => mbA A X (ix3 b s e))
      (fun e => fourierA (zA A X) (ix3 b s e)) A.weights.wa A.weights.wout d := by
    pointwise [mixedA, dotA_apply, outrow, rowdot, tokens, Slices.weights]
  rw [h]
  simp only [gaA_apply, mbA_apply, fourierA_apply]
  rfl

/-- The channel mixing. -/
theorem mlpA_apply (x : Arr S32x2048x1024) (b : Fin 32) (s : Fin 2048) (d : Fin 1024) :
    mlpA A x (ix3 b s d) = mlprow (fun k => x (ix3 b s k)) A.weights.gmlp A.weights.wup A.weights.wdown d := by
  pointwise [mlpA, hiddenA, rmsA_apply, mlprow, rowdot, Slices.weights]

/-- One layer. -/
theorem layerA_apply (b : Fin 32) (s : Fin 2048) (d : Fin 1024) :
    layerA A X (ix3 b s d) = layer A.weights (tokens X) b s d := by
  unfold layerA
  rw [mlpA_apply]
  simp only [mixedA_apply]
  rfl

/-- The tokens after one layer. -/
theorem tokens_layerA  :
    tokens (layerA A X) = layer A.weights (tokens X) := by
  funext b s d
  exact layerA_apply A X b s d

end Cert.ReferenceIdeal.Value

end
-- ==== Proof.Ref.lean ====
module

public import proofs.«01_k».proof.Proof.RefLayer
public import Idealize.ShloMosaic.Lib.Claim
public import Idealize.ShloMosaic.Lib.Pointwise

@[expose] public section

set_option maxRecDepth 16384
set_option maxHeartbeats 2000000

noncomputable section

namespace Cert.ReferenceIdeal.Value

open Idealize.ShloMosaic Idealize.ShloMosaic.TcCoe Idealize.SL.Sem Cert.ReferenceIdeal Cert.ReferenceIdeal.Gen Cert.ReferenceIdeal.Read Cert.Spec

variable (x0 : Arr S32x2048x1024)
variable (x1 : Arr S4x1024)
variable (x2 : Arr S4x1024x4608)
variable (x3 : Arr S4x512x1024)
variable (x4 : Arr S4x1024)
variable (x5 : Arr S4x1024)
variable (x6 : Arr S4x8x128x128)
variable (x7 : Arr S4x8x128)
variable (x8 : Arr S4x1024x1024)
variable (x9 : Arr S4x1024x1024)
variable (x10 : Arr S4x1024)
variable (x11 : Arr S4x1024x4096)
variable (x12 : Arr S4x4096x1024)
variable (x13 : Arr S1024)

/-- The weights of layer `l` that the arguments hold. -/
def weights (l : Fin 4) : Weights where
  gmix k := x1 (ix2 l k)
  win k e := x2 (ix3 l k e)
  wa k e := x3 (ix3 l k e)
  lg k := x4 (ix2 l k)
  lb k := x5 (ix2 l k)
  ws h q p := x6 (ix4 l h q p)
  bs h q := x7 (ix3 l h q)
  wb k e := x8 (ix3 l k e)
  wout k e := x9 (ix3 l k e)
  gmlp k := x10 (ix2 l k)
  wup k e := x11 (ix3 l k e)
  wdown k e := x12 (ix3 l k e)

/-- The arrays of the weights of layer 0. -/
def slices0 : Slices := ⟨val_main_v33 (F := Ideal) x1, val_main_v35 (F := Ideal) x2, val_main_v37 (F := Ideal) x3, val_main_v39 (F := Ideal) x4, val_main_v41 (F := Ideal) x5, val_main_v43 (F := Ideal) x6, val_main_v45 (F := Ideal) x7, val_main_v47 (F := Ideal) x8, val_main_v49 (F := Ideal) x9, val_main_v51 (F := Ideal) x10, val_main_v53 (F := Ideal) x11, val_main_v55 (F := Ideal) x12⟩

/-- They hold those weights. -/
theorem slices0_weights : (slices0 x1 x2 x3 x4 x5 x6 x7 x8 x9 x10 x11 x12).weights = weights x1 x2 x3 x4 x5 x6 x7 x8 x9 x10 x11 x12 0 := by
  ext <;> pointwise [slices0, Slices.weights, weights, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55]

/-- The reference's layer 0 is the one layer. -/
theorem layer0 : val_main_v166 (F := Ideal) x0 x1 x2 x3 x4 x5 x6 x7 x8 x9 x10 x11 x12 = layerA (slices0 x1 x2 x3 x4 x5 x6 x7 x8 x9 x10 x11 x12) x0 := by
  have z : val_main_v69 (F := Ideal) x0 x1 x2 = zA (slices0 x1 x2 x3 x4 x5 x6 x7 x8 x9 x10 x11 x12) x0 := rfl
  have u : val_main_v85 (F := Ideal) x0 x1 x2 = uA (val_main_v69 (F := Ideal) x0 x1 x2) := rfl
  have w : val_main_v86 (F := Ideal) x0 x1 x2 = vA (val_main_v69 (F := Ideal) x0 x1 x2) := rfl
  have v : val_main_v133 (F := Ideal) x0 x1 x2 x4 x5 = lnormA (val_main_v86 (F := Ideal) x0 x1 x2) (slices0 x1 x2 x3 x4 x5 x6 x7 x8 x9 x10 x11 x12).lg (slices0 x1 x2 x3 x4 x5 x6 x7 x8 x9 x10 x11 x12).lb := rfl
  have m : val_main_v141 (F := Ideal) x0 x1 x2 x4 x5 x6 x7 = mixA (val_main_v133 (F := Ideal) x0 x1 x2 x4 x5) (slices0 x1 x2 x3 x4 x5 x6 x7 x8 x9 x10 x11 x12).ws (slices0 x1 x2 x3 x4 x5 x6 x7 x8 x9 x10 x11 x12).bs := rfl
  have b : val_main_v145 (F := Ideal) x0 x1 x2 x4 x5 x6 x7 x8 = mulf (gbA (val_main_v69 (F := Ideal) x0 x1 x2)) (dotA (mulf (val_main_v85 (F := Ideal) x0 x1 x2) (val_main_v141 (F := Ideal) x0 x1 x2 x4 x5 x6 x7)) (slices0 x1 x2 x3 x4 x5 x6 x7 x8 x9 x10 x11 x12).wb) := rfl
  have f : val_main_v110 (F := Ideal) x0 x1 x2 = fourierA (val_main_v69 (F := Ideal) x0 x1 x2) := rfl
  have x : val_main_v148 (F := Ideal) x0 x1 x2 x3 x4 x5 x6 x7 x8 x9 = addf x0 (dotA (addf (mulf (gaA (val_main_v69 (F := Ideal) x0 x1 x2)) (Host.dotGeneral dot_S32x2048x512_S512x1024_S32x2048x1024_2_0_01_1_n_n none (val_main_v110 (F := Ideal) x0 x1 x2) (slices0 x1 x2 x3 x4 x5 x6 x7 x8 x9 x10 x11 x12).wa)) (val_main_v145 (F := Ideal) x0 x1 x2 x4 x5 x6 x7 x8)) (slices0 x1 x2 x3 x4 x5 x6 x7 x8 x9 x10 x11 x12).wout) := rfl
  have h : val_main_v163 (F := Ideal) x0 x1 x2 x3 x4 x5 x6 x7 x8 x9 x10 x11 = hiddenA (slices0 x1 x2 x3 x4 x5 x6 x7 x8 x9 x10 x11 x12) (val_main_v148 (F := Ideal) x0 x1 x2 x3 x4 x5 x6 x7 x8 x9) := rfl
  have y : val_main_v166 (F := Ideal) x0 x1 x2 x3 x4 x5 x6 x7 x8 x9 x10 x11 x12 = addf (val_main_v148 (F := Ideal) x0 x1 x2 x3 x4 x5 x6 x7 x8 x9) (Host.dotGeneral dot_S32x2048x4096_S4096x1024_S32x2048x1024_2_0_01_1_n_n none (mulf (val_main_v163 (F := Ideal) x0 x1 x2 x3 x4 x5 x6 x7 x8 x9 x10 x11) (val_main_v163 (F := Ideal) x0 x1 x2 x3 x4 x5 x6 x7 x8 x9 x10 x11)) (slices0 x1 x2 x3 x4 x5 x6 x7 x8 x9 x10 x11 x12).wdown) := rfl
  rw [y, h, x, f, b, m, v, w, u, z]
  rfl

/-- The arrays of the weights of layer 1. -/
def slices1 : Slices := ⟨val_main_v168 (F := Ideal) x1, val_main_v170 (F := Ideal) x2, val_main_v172 (F := Ideal) x3, val_main_v174 (F := Ideal) x4, val_main_v176 (F := Ideal) x5, val_main_v178 (F := Ideal) x6, val_main_v180 (F := Ideal) x7, val_main_v182 (F := Ideal) x8, val_main_v184 (F := Ideal) x9, val_main_v186 (F := Ideal) x10, val_main_v188 (F := Ideal) x11, val_main_v190 (F := Ideal) x12⟩

/-- They hold those weights. -/
theorem slices1_weights : (slices1 x1 x2 x3 x4 x5 x6 x7 x8 x9 x10 x11 x12).weights = weights x1 x2 x3 x4 x5 x6 x7 x8 x9 x10 x11 x12 1 := by
  ext <;> pointwise [slices1, Slices.weights, weights, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190]

/-- The reference's layer 1 is the one layer. -/
theorem layer1 : val_main_v301 (F := Ideal) x0 x1 x2 x3 x4 x5 x6 x7 x8 x9 x10 x11 x12 = layerA (slices1 x1 x2 x3 x4 x5 x6 x7 x8 x9 x10 x11 x12) (val_main_v166 (F := Ideal) x0 x1 x2 x3 x4 x5 x6 x7 x8 x9 x10 x11 x12) := by
  have z : val_main_v204 (F := Ideal) x0 x1 x2 x3 x4 x5 x6 x7 x8 x9 x10 x11 x12 = zA (slices1 x1 x2 x3 x4 x5 x6 x7 x8 x9 x10 x11 x12) (val_main_v166 (F := Ideal) x0 x1 x2 x3 x4 x5 x6 x7 x8 x9 x10 x11 x12) := rfl
  have u : val_main_v220 (F := Ideal) x0 x1 x2 x3 x4 x5 x6 x7 x8 x9 x10 x11 x12 = uA (val_main_v204 (F := Ideal) x0 x1 x2 x3 x4 x5 x6 x7 x8 x9 x10 x11 x12) := rfl
  have w : val_main_v221 (F := Ideal) x0 x1 x2 x3 x4 x5 x6 x7 x8 x9 x10 x11 x12 = vA (val_main_v204 (F := Ideal) x0 x1 x2 x3 x4 x5 x6 x7 x8 x9 x10 x11 x12) := rfl
  have v : val_main_v268 (F := Ideal) x0 x1 x2 x3 x4 x5 x6 x7 x8 x9 x10 x11 x12 = lnormA (val_main_v221 (F := Ideal) x0 x1 x2 x3 x4 x5 x6 x7 x8 x9 x10 x11 x12) (slices1 x1 x2 x3 x4 x5 x6 x7 x8 x9 x10 x11 x12).lg (slices1 x1 x2 x3 x4 x5 x6 x7 x8 x9 x10 x11 x12).lb := rfl
  have m : val_main_v276 (F := Ideal) x0 x1 x2 x3 x4 x5 x6 x7 x8 x9 x10 x11 x12 = mixA (val_main_v268 (F := Ideal) x0 x1 x2 x3 x4 x5 x6 x7 x8 x9 x10 x11 x12) (slices1 x1 x2 x3 x4 x5 x6 x7 x8 x9 x10 x11 x12).ws (slices1 x1 x2 x3 x4 x5 x6 x7 x8 x9 x10 x11 x12).bs := rfl
  have b : val_main_v280 (F := Ideal) x0 x1 x2 x3 x4 x5 x6 x7 x8 x9 x10 x11 x12 = mulf (gbA (val_main_v204 (F := Ideal) x0 x1 x2 x3 x4 x5 x6 x7 x8 x9 x10 x11 x12)) (dotA (mulf (val_main_v220 (F := Ideal) x0 x1 x2 x3 x4 x5 x6 x7 x8 x9 x10 x11 x12) (val_main_v276 (F := Ideal) x0 x1 x2 x3 x4 x5 x6 x7 x8 x9 x10 x11 x12)) (slices1 x1 x2 x3 x4 x5 x6 x7 x8 x9 x10 x11 x12).wb) := rfl
  have f : val_main_v245 (F := Ideal) x0 x1 x2 x3 x4 x5 x6 x7 x8 x9 x10 x11 x12 = fourierA (val_main_v204 (F := Ideal) x0 x1 x2 x3 x4 x5 x6 x7 x8 x9 x10 x11 x12) := rfl
  have x : val_main_v283 (F := Ideal) x0 x1 x2 x3 x4 x5 x6 x7 x8 x9 x10 x11 x12 = addf (val_main_v166 (F := Ideal) x0 x1 x2 x3 x4 x5 x6 x7 x8 x9 x10 x11 x12) (dotA (addf (mulf (gaA (val_main_v204 (F := Ideal) x0 x1 x2 x3 x4 x5 x6 x7 x8 x9 x10 x11 x12)) (Host.dotGeneral dot_S32x2048x512_S512x1024_S32x2048x1024_2_0_01_1_n_n none (val_main_v245 (F := Ideal) x0 x1 x2 x3 x4 x5 x6 x7 x8 x9 x10 x11 x12) (slices1 x1 x2 x3 x4 x5 x6 x7 x8 x9 x10 x11 x12).wa)) (val_main_v280 (F := Ideal) x0 x1 x2 x3 x4 x5 x6 x7 x8 x9 x10 x11 x12)) (slices1 x1 x2 x3 x4 x5 x6 x7 x8 x9 x10 x11 x12).wout) := rfl
  have h : val_main_v298 (F := Ideal) x0 x1 x2 x3 x4 x5 x6 x7 x8 x9 x10 x11 x12 = hiddenA (slices1 x1 x2 x3 x4 x5 x6 x7 x8 x9 x10 x11 x12) (val_main_v283 (F := Ideal) x0 x1 x2 x3 x4 x5 x6 x7 x8 x9 x10 x11 x12) := rfl
  have y : val_main_v301 (F := Ideal) x0 x1 x2 x3 x4 x5 x6 x7 x8 x9 x10 x11 x12 = addf (val_main_v283 (F := Ideal) x0 x1 x2 x3 x4 x5 x6 x7 x8 x9 x10 x11 x12) (Host.dotGeneral dot_S32x2048x4096_S4096x1024_S32x2048x1024_2_0_01_1_n_n none (mulf (val_main_v298 (F := Ideal) x0 x1 x2 x3 x4 x5 x6 x7 x8 x9 x10 x11 x12) (val_main_v298 (F := Ideal) x0 x1 x2 x3 x4 x5 x6 x7 x8 x9 x10 x11 x12)) (slices1 x1 x2 x3 x4 x5 x6 x7 x8 x9 x10 x11 x12).wdown) := rfl
  rw [y, h, x, f, b, m, v, w, u, z]
  rfl

/-- The arrays of the weights of layer 2. -/
def slices2 : Slices := ⟨val_main_v303 (F := Ideal) x1, val_main_v305 (F := Ideal) x2, val_main_v307 (F := Ideal) x3, val_main_v309 (F := Ideal) x4, val_main_v311 (F := Ideal) x5, val_main_v313 (F := Ideal) x6, val_main_v315 (F := Ideal) x7, val_main_v317 (F := Ideal) x8, val_main_v319 (F := Ideal) x9, val_main_v321 (F := Ideal) x10, val_main_v323 (F := Ideal) x11, val_main_v325 (F := Ideal) x12⟩

/-- They hold those weights. -/
theorem slices2_weights : (slices2 x1 x2 x3 x4 x5 x6 x7 x8 x9 x10 x11 x12).weights = weights x1 x2 x3 x4 x5 x6 x7 x8 x9 x10 x11 x12 2 := by
  ext <;> pointwise [slices2, Slices.weights, weights, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325]

/-- The reference's layer 2 is the one layer. -/
theorem layer2 : val_main_v436 (F := Ideal) x0 x1 x2 x3 x4 x5 x6 x7 x8 x9 x10 x11 x12 = layerA (slices2 x1 x2 x3 x4 x5 x6 x7 x8 x9 x10 x11 x12) (val_main_v301 (F := Ideal) x0 x1 x2 x3 x4 x5 x6 x7 x8 x9 x10 x11 x12) := by
  have z : val_main_v339 (F := Ideal) x0 x1 x2 x3 x4 x5 x6 x7 x8 x9 x10 x11 x12 = zA (slices2 x1 x2 x3 x4 x5 x6 x7 x8 x9 x10 x11 x12) (val_main_v301 (F := Ideal) x0 x1 x2 x3 x4 x5 x6 x7 x8 x9 x10 x11 x12) := rfl
  have u : val_main_v355 (F := Ideal) x0 x1 x2 x3 x4 x5 x6 x7 x8 x9 x10 x11 x12 = uA (val_main_v339 (F := Ideal) x0 x1 x2 x3 x4 x5 x6 x7 x8 x9 x10 x11 x12) := rfl
  have w : val_main_v356 (F := Ideal) x0 x1 x2 x3 x4 x5 x6 x7 x8 x9 x10 x11 x12 = vA (val_main_v339 (F := Ideal) x0 x1 x2 x3 x4 x5 x6 x7 x8 x9 x10 x11 x12) := rfl
  have v : val_main_v403 (F := Ideal) x0 x1 x2 x3 x4 x5 x6 x7 x8 x9 x10 x11 x12 = lnormA (val_main_v356 (F := Ideal) x0 x1 x2 x3 x4 x5 x6 x7 x8 x9 x10 x11 x12) (slices2 x1 x2 x3 x4 x5 x6 x7 x8 x9 x10 x11 x12).lg (slices2 x1 x2 x3 x4 x5 x6 x7 x8 x9 x10 x11 x12).lb := rfl
  have m : val_main_v411 (F := Ideal) x0 x1 x2 x3 x4 x5 x6 x7 x8 x9 x10 x11 x12 = mixA (val_main_v403 (F := Ideal) x0 x1 x2 x3 x4 x5 x6 x7 x8 x9 x10 x11 x12) (slices2 x1 x2 x3 x4 x5 x6 x7 x8 x9 x10 x11 x12).ws (slices2 x1 x2 x3 x4 x5 x6 x7 x8 x9 x10 x11 x12).bs := rfl
  have b : val_main_v415 (F := Ideal) x0 x1 x2 x3 x4 x5 x6 x7 x8 x9 x10 x11 x12 = mulf (gbA (val_main_v339 (F := Ideal) x0 x1 x2 x3 x4 x5 x6 x7 x8 x9 x10 x11 x12)) (dotA (mulf (val_main_v355 (F := Ideal) x0 x1 x2 x3 x4 x5 x6 x7 x8 x9 x10 x11 x12) (val_main_v411 (F := Ideal) x0 x1 x2 x3 x4 x5 x6 x7 x8 x9 x10 x11 x12)) (slices2 x1 x2 x3 x4 x5 x6 x7 x8 x9 x10 x11 x12).wb) := rfl
  have f : val_main_v380 (F := Ideal) x0 x1 x2 x3 x4 x5 x6 x7 x8 x9 x10 x11 x12 = fourierA (val_main_v339 (F := Ideal) x0 x1 x2 x3 x4 x5 x6 x7 x8 x9 x10 x11 x12) := rfl
  have x : val_main_v418 (F := Ideal) x0 x1 x2 x3 x4 x5 x6 x7 x8 x9 x10 x11 x12 = addf (val_main_v301 (F := Ideal) x0 x1 x2 x3 x4 x5 x6 x7 x8 x9 x10 x11 x12) (dotA (addf (mulf (gaA (val_main_v339 (F := Ideal) x0 x1 x2 x3 x4 x5 x6 x7 x8 x9 x10 x11 x12)) (Host.dotGeneral dot_S32x2048x512_S512x1024_S32x2048x1024_2_0_01_1_n_n none (val_main_v380 (F := Ideal) x0 x1 x2 x3 x4 x5 x6 x7 x8 x9 x10 x11 x12) (slices2 x1 x2 x3 x4 x5 x6 x7 x8 x9 x10 x11 x12).wa)) (val_main_v415 (F := Ideal) x0 x1 x2 x3 x4 x5 x6 x7 x8 x9 x10 x11 x12)) (slices2 x1 x2 x3 x4 x5 x6 x7 x8 x9 x10 x11 x12).wout) := rfl
  have h : val_main_v433 (F := Ideal) x0 x1 x2 x3 x4 x5 x6 x7 x8 x9 x10 x11 x12 = hiddenA (slices2 x1 x2 x3 x4 x5 x6 x7 x8 x9 x10 x11 x12) (val_main_v418 (F := Ideal) x0 x1 x2 x3 x4 x5 x6 x7 x8 x9 x10 x11 x12) := rfl
  have y : val_main_v436 (F := Ideal) x0 x1 x2 x3 x4 x5 x6 x7 x8 x9 x10 x11 x12 = addf (val_main_v418 (F := Ideal) x0 x1 x2 x3 x4 x5 x6 x7 x8 x9 x10 x11 x12) (Host.dotGeneral dot_S32x2048x4096_S4096x1024_S32x2048x1024_2_0_01_1_n_n none (mulf (val_main_v433 (F := Ideal) x0 x1 x2 x3 x4 x5 x6 x7 x8 x9 x10 x11 x12) (val_main_v433 (F := Ideal) x0 x1 x2 x3 x4 x5 x6 x7 x8 x9 x10 x11 x12)) (slices2 x1 x2 x3 x4 x5 x6 x7 x8 x9 x10 x11 x12).wdown) := rfl
  rw [y, h, x, f, b, m, v, w, u, z]
  rfl

/-- The arrays of the weights of layer 3. -/
def slices3 : Slices := ⟨val_main_v438 (F := Ideal) x1, val_main_v440 (F := Ideal) x2, val_main_v442 (F := Ideal) x3, val_main_v444 (F := Ideal) x4, val_main_v446 (F := Ideal) x5, val_main_v448 (F := Ideal) x6, val_main_v450 (F := Ideal) x7, val_main_v452 (F := Ideal) x8, val_main_v454 (F := Ideal) x9, val_main_v456 (F := Ideal) x10, val_main_v458 (F := Ideal) x11, val_main_v460 (F := Ideal) x12⟩

/-- They hold those weights. -/
theorem slices3_weights : (slices3 x1 x2 x3 x4 x5 x6 x7 x8 x9 x10 x11 x12).weights = weights x1 x2 x3 x4 x5 x6 x7 x8 x9 x10 x11 x12 3 := by
  ext <;> pointwise [slices3, Slices.weights, weights, val_main_v437, val_main_v438, val_main_v439, val_main_v440, val_main_v441, val_main_v442, val_main_v443, val_main_v444, val_main_v445, val_main_v446, val_main_v447, val_main_v448, val_main_v449, val_main_v450, val_main_v451, val_main_v452, val_main_v453, val_main_v454, val_main_v455, val_main_v456, val_main_v457, val_main_v458, val_main_v459, val_main_v460]

/-- The reference's layer 3 is the one layer. -/
theorem layer3 : val_main_v571 (F := Ideal) x0 x1 x2 x3 x4 x5 x6 x7 x8 x9 x10 x11 x12 = layerA (slices3 x1 x2 x3 x4 x5 x6 x7 x8 x9 x10 x11 x12) (val_main_v436 (F := Ideal) x0 x1 x2 x3 x4 x5 x6 x7 x8 x9 x10 x11 x12) := by
  have z : val_main_v474 (F := Ideal) x0 x1 x2 x3 x4 x5 x6 x7 x8 x9 x10 x11 x12 = zA (slices3 x1 x2 x3 x4 x5 x6 x7 x8 x9 x10 x11 x12) (val_main_v436 (F := Ideal) x0 x1 x2 x3 x4 x5 x6 x7 x8 x9 x10 x11 x12) := rfl
  have u : val_main_v490 (F := Ideal) x0 x1 x2 x3 x4 x5 x6 x7 x8 x9 x10 x11 x12 = uA (val_main_v474 (F := Ideal) x0 x1 x2 x3 x4 x5 x6 x7 x8 x9 x10 x11 x12) := rfl
  have w : val_main_v491 (F := Ideal) x0 x1 x2 x3 x4 x5 x6 x7 x8 x9 x10 x11 x12 = vA (val_main_v474 (F := Ideal) x0 x1 x2 x3 x4 x5 x6 x7 x8 x9 x10 x11 x12) := rfl
  have v : val_main_v538 (F := Ideal) x0 x1 x2 x3 x4 x5 x6 x7 x8 x9 x10 x11 x12 = lnormA (val_main_v491 (F := Ideal) x0 x1 x2 x3 x4 x5 x6 x7 x8 x9 x10 x11 x12) (slices3 x1 x2 x3 x4 x5 x6 x7 x8 x9 x10 x11 x12).lg (slices3 x1 x2 x3 x4 x5 x6 x7 x8 x9 x10 x11 x12).lb := rfl
  have m : val_main_v546 (F := Ideal) x0 x1 x2 x3 x4 x5 x6 x7 x8 x9 x10 x11 x12 = mixA (val_main_v538 (F := Ideal) x0 x1 x2 x3 x4 x5 x6 x7 x8 x9 x10 x11 x12) (slices3 x1 x2 x3 x4 x5 x6 x7 x8 x9 x10 x11 x12).ws (slices3 x1 x2 x3 x4 x5 x6 x7 x8 x9 x10 x11 x12).bs := rfl
  have b : val_main_v550 (F := Ideal) x0 x1 x2 x3 x4 x5 x6 x7 x8 x9 x10 x11 x12 = mulf (gbA (val_main_v474 (F := Ideal) x0 x1 x2 x3 x4 x5 x6 x7 x8 x9 x10 x11 x12)) (dotA (mulf (val_main_v490 (F := Ideal) x0 x1 x2 x3 x4 x5 x6 x7 x8 x9 x10 x11 x12) (val_main_v546 (F := Ideal) x0 x1 x2 x3 x4 x5 x6 x7 x8 x9 x10 x11 x12)) (slices3 x1 x2 x3 x4 x5 x6 x7 x8 x9 x10 x11 x12).wb) := rfl
  have f : val_main_v515 (F := Ideal) x0 x1 x2 x3 x4 x5 x6 x7 x8 x9 x10 x11 x12 = fourierA (val_main_v474 (F := Ideal) x0 x1 x2 x3 x4 x5 x6 x7 x8 x9 x10 x11 x12) := rfl
  have x : val_main_v553 (F := Ideal) x0 x1 x2 x3 x4 x5 x6 x7 x8 x9 x10 x11 x12 = addf (val_main_v436 (F := Ideal) x0 x1 x2 x3 x4 x5 x6 x7 x8 x9 x10 x11 x12) (dotA (addf (mulf (gaA (val_main_v474 (F := Ideal) x0 x1 x2 x3 x4 x5 x6 x7 x8 x9 x10 x11 x12)) (Host.dotGeneral dot_S32x2048x512_S512x1024_S32x2048x1024_2_0_01_1_n_n none (val_main_v515 (F := Ideal) x0 x1 x2 x3 x4 x5 x6 x7 x8 x9 x10 x11 x12) (slices3 x1 x2 x3 x4 x5 x6 x7 x8 x9 x10 x11 x12).wa)) (val_main_v550 (F := Ideal) x0 x1 x2 x3 x4 x5 x6 x7 x8 x9 x10 x11 x12)) (slices3 x1 x2 x3 x4 x5 x6 x7 x8 x9 x10 x11 x12).wout) := rfl
  have h : val_main_v568 (F := Ideal) x0 x1 x2 x3 x4 x5 x6 x7 x8 x9 x10 x11 x12 = hiddenA (slices3 x1 x2 x3 x4 x5 x6 x7 x8 x9 x10 x11 x12) (val_main_v553 (F := Ideal) x0 x1 x2 x3 x4 x5 x6 x7 x8 x9 x10 x11 x12) := rfl
  have y : val_main_v571 (F := Ideal) x0 x1 x2 x3 x4 x5 x6 x7 x8 x9 x10 x11 x12 = addf (val_main_v553 (F := Ideal) x0 x1 x2 x3 x4 x5 x6 x7 x8 x9 x10 x11 x12) (Host.dotGeneral dot_S32x2048x4096_S4096x1024_S32x2048x1024_2_0_01_1_n_n none (mulf (val_main_v568 (F := Ideal) x0 x1 x2 x3 x4 x5 x6 x7 x8 x9 x10 x11 x12) (val_main_v568 (F := Ideal) x0 x1 x2 x3 x4 x5 x6 x7 x8 x9 x10 x11 x12)) (slices3 x1 x2 x3 x4 x5 x6 x7 x8 x9 x10 x11 x12).wdown) := rfl
  rw [y, h, x, f, b, m, v, w, u, z]
  rfl

/-- The reference's result: the four layers of the tokens, normed. -/
theorem r_model (b : Fin 32) (s : Fin 2048) (d : Fin 1024) :
    val_main_v584 (F := Ideal) x0 x1 x2 x3 x4 x5 x6 x7 x8 x9 x10 x11 x12 x13 (ix3 b s d) = model (weights x1 x2 x3 x4 x5 x6 x7 x8 x9 x10 x11 x12) (fun k => x13 (ix1 k)) (tokens x0) b s d := by
  have h : val_main_v584 (F := Ideal) x0 x1 x2 x3 x4 x5 x6 x7 x8 x9 x10 x11 x12 x13 = rmsA (val_main_v571 (F := Ideal) x0 x1 x2 x3 x4 x5 x6 x7 x8 x9 x10 x11 x12) x13 := rfl
  rw [h, rmsA_apply]
  change rms (tokens (val_main_v571 (F := Ideal) x0 x1 x2 x3 x4 x5 x6 x7 x8 x9 x10 x11 x12) b s) _ d = _
  rw [layer3, tokens_layerA, layer2, tokens_layerA, layer1, tokens_layerA, layer0, tokens_layerA,
    slices0_weights, slices1_weights, slices2_weights, slices3_weights]
  rfl

end Cert.ReferenceIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Run
public import proofs.«01_k».proof.Proof.Layer3
public import proofs.«01_k».proof.Proof.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, keeps its arguments, and has no semaphore. -/
theorem quiescent_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel and the reference, from the same arguments, end with the same result. -/
theorem algebraic : Cert.algebraic_KernelIdeal_ReferenceIdeal := by
  intro m ρ m' ρ' _ hargs
  refine ⟨fun c => Cert.KernelIdeal.Gen.W41 m ρ c (Proc.devRef .tc Cert.KernelIdeal.main_v236),
    Cert.KernelIdeal.Value.run (F := Ideal) m ρ, ?_⟩
  refine (θ_run Cert.ReferenceIdeal.defs _ _).mono (fun r h c => ⟨?_, (h c).2⟩) (Cert.ReferenceIdeal.Value.run (F := Ideal) m' ρ')
  refine (h c).1.trans ((Cert.ReferenceIdeal.Read.val_main_v584_eq _).trans ?_)
  obtain ⟨h0, h1, h2, h3, h4, h5, h6, h7, h8, h9, h10, h11, h12, h13⟩ := hargs c
  have e : Cert.ReferenceIdeal.Read.val_main_v584 (F := Ideal)
      (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13))
      = Cert.ReferenceIdeal.Read.val_main_v584 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
    rw [← h0, ← h1, ← h2, ← h3, ← h4, ← h5, ← h6, ← h7, ← h8, ← h9, ← h10, ← h11, ← h12, ← h13]
  refine e.trans ?_
  funext i
  obtain ⟨b, s, d, rfl⟩ : ∃ (b : Fin 32) (s : Fin 2048) (d : Fin 1024), i = ix3 b s d := ⟨i 0, i 1, i 2, by
    funext k
    fin_cases k <;> rfl⟩
  exact (Cert.ReferenceIdeal.Value.r_model _ _ _ _ _ _ _ _ _ _ _ _ _ _ b s d).trans (Cert.KernelIdeal.Value.t41_v236 m ρ c b s d).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
